-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "hundredth" .f32 0x3C23D70A#32 ((1 / 100 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x32 : Shape := ⟨2, ![4096, 32]⟩
abbrev S4096 : Shape := ⟨1, ![4096]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel

variable [Facts]

def fn {F : FTy → Type} [FloatOps F] (main_arg0 : FVec F S4096x32 .f32) (main_arg1 : IVec S4096 32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  main_v3
-- ==== Kernel.lean ====
abbrev S4096x32 : Shape := ⟨2, ![4096, 32]⟩
abbrev S4096 : Shape := ⟨1, ![4096]⟩
abbrev S32x4096 : Shape := ⟨2, ![32, 4096]⟩
abbrev S4096x1 : Shape := ⟨2, ![4096, 1]⟩
abbrev S1x4096 : Shape := ⟨2, ![1, 4096]⟩
abbrev S1024 : Shape := ⟨1, ![1024]⟩
abbrev S_ : Shape := ⟨0, ![]⟩
abbrev S1x1024 : Shape := ⟨2, ![1, 1024]⟩
abbrev S10x1024x1024 : Shape := ⟨3, ![10, 1024, 1024]⟩
abbrev S1024x32 : Shape := ⟨2, ![1024, 32]⟩
abbrev S32x1024 : Shape := ⟨2, ![32, 1024]⟩
abbrev S1024x1 : Shape := ⟨2, ![1024, 1]⟩
abbrev S1x1024x1024 : Shape := ⟨3, ![1, 1024, 1024]⟩
abbrev S2 : Shape := ⟨1, ![2]⟩
abbrev S1 : Shape := ⟨1, ![1]⟩
abbrev S1024x1024 : Shape := ⟨2, ![1024, 1024]⟩
abbrev S1x1x1 : Shape := ⟨3, ![1, 1, 1]⟩
abbrev S32x20x16384 : Shape := ⟨3, ![32, 20, 16384]⟩
abbrev S32x16384 : Shape := ⟨2, ![32, 16384]⟩
abbrev S16384 : Shape := ⟨1, ![16384]⟩
abbrev S16 : Shape := ⟨1, ![16]⟩
abbrev S1x1x16384 : Shape := ⟨3, ![1, 1, 16384]⟩
abbrev S1x16384 : Shape := ⟨2, ![1, 16384]⟩
abbrev S2048x256 : Shape := ⟨2, ![2048, 256]⟩
abbrev S1x1 : Shape := ⟨2, ![1, 1]⟩
abbrev S256 : Shape := ⟨1, ![256]⟩
abbrev S1x256 : Shape := ⟨2, ![1, 256]⟩
abbrev S1x100 : Shape := ⟨2, ![1, 100]⟩
abbrev S100x100 : Shape := ⟨2, ![100, 100]⟩
abbrev S1x1x100 : Shape := ⟨3, ![1, 1, 100]⟩

abbrev nBuf : Table → Nat
  | .hbm => 82
  | .local .tc .vmem => 12
  | .local .tc .smem => 2
  | .local .scVector .vmem => 3
  | _ => 0

abbrev bufTy : (tb : Table) → Fin (nBuf tb) → BufTy
  | .hbm, ⟨0, _⟩ => ⟨S4096x32, .f32⟩
  | .hbm, ⟨1, _⟩ => ⟨S4096, .i32⟩
  | .hbm, ⟨2, _⟩ => ⟨S32x4096, .f32⟩
  | .hbm, ⟨3, _⟩ => ⟨S4096x1, .i32⟩
  | .hbm, ⟨4, _⟩ => ⟨S1x4096, .i32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S_, .i1⟩
  | .hbm, ⟨22, _⟩ => ⟨S1024, .i1⟩
  | .hbm, ⟨23, _⟩ => ⟨S1024, .i1⟩
  | .hbm, ⟨24, _⟩ => ⟨S1024, .i1⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S_, .i1⟩
  | .hbm, ⟨62, _⟩ => ⟨S1024, .i1⟩
  | .hbm, ⟨63, _⟩ => ⟨S1024, .i1⟩
  | .hbm, ⟨64, _⟩ => ⟨S1024, .i1⟩
  | .hbm, ⟨65, _⟩ => ⟨S1024, .i32⟩
  | .hbm, ⟨66, _⟩ => ⟨S1024, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1x1024, .i32⟩
  | .hbm, ⟨76, _⟩ => ⟨S10x1024x1024, .i32⟩
  | .hbm, ⟨77, _⟩ => ⟨S32x20x16384, .i32⟩
  | .hbm, ⟨78, _⟩ => ⟨S32x16384, .f32⟩
  | .hbm, ⟨79, _⟩ => ⟨S2048x256, .f32⟩
  | .hbm, ⟨80, _⟩ => ⟨S1x1, .f32⟩
  | .hbm, ⟨81, _⟩ => ⟨S_, .f32⟩
  | .local .tc .vmem, ⟨0, _⟩ => ⟨S1024x32, .f32⟩
  | .local .tc .vmem, ⟨1, _⟩ => ⟨S1024x32, .f32⟩
  | .local .tc .vmem, ⟨2, _⟩ => ⟨S32x1024, .f32⟩
  | .local .tc .vmem, ⟨3, _⟩ => ⟨S32x1024, .f32⟩
  | .local .tc .vmem, ⟨4, _⟩ => ⟨S1024x1, .i32⟩
  | .local .tc .vmem, ⟨5, _⟩ => ⟨S1024x1, .i32⟩
  | .local .tc .vmem, ⟨6, _⟩ => ⟨S1x1024, .i32⟩
  | .local .tc .vmem, ⟨7, _⟩ => ⟨S1x1024, .i32⟩
  | .local .tc .vmem, ⟨8, _⟩ => ⟨S1x1024, .i32⟩
  | .local .tc .vmem, ⟨9, _⟩ => ⟨S1x1024x1024, .i32⟩
  | .local .tc .vmem, ⟨10, _⟩ => ⟨S1x1024x1024, .i32⟩
  | .local .tc .vmem, ⟨11, _⟩ => ⟨S2048x256, .f32⟩
  | .local .tc .smem, ⟨0, _⟩ => ⟨S2, .f32⟩
  | .local .tc .smem, ⟨1, _⟩ => ⟨S1x1, .f32⟩
  | .local .scVector .vmem, ⟨0, _⟩ => ⟨S16384, .i32⟩
  | .local .scVector .vmem, ⟨1, _⟩ => ⟨S16384, .i32⟩
  | .local .scVector .vmem, ⟨2, _⟩ => ⟨S16384, .f32⟩
  | _, _ => ⟨S4096x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v4 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_c_1 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v6 : Ref sig .tc := ⟨.hbm, 67, rfl⟩
abbrev main_c_2 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_c_3 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_v15 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_v14_scv : Ref sig .scVector := ⟨.hbm, 77, rfl⟩
abbrev main_v15_scv : Ref sig .scVector := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc2_stg0_0 : Ref sig .tc := ⟨.vmem, 11, rfl⟩
abbrev cc0_scratch0 : Ref sig .tc := ⟨.smem, 0, rfl⟩
abbrev cc2_stg1_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc2_sem0_0 : DmaSem sig := 14
abbrev cc2_sem1_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg0 : BitVec 32 := BitVec.ofNat 32 (i 0).val
  let c1_i32 : BitVec 32 := 1#32
  let v12 : BitVec 1 := Scalar.cmpi .eq arg0 c1_i32
  let arg2 : BitVec 32 := BitVec.ofNat 32 (i 2).val
  let arg1 : BitVec 32 := BitVec.ofNat 32 (i 1).val
  let v0 : BitVec 1 := Scalar.cmpi .sge arg2 arg1
  let v13 : BitVec 1 := Scalar.andi v12 v0
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c1_i32 : BitVec 32 := 1#32
  let v2 : BitVec 32 := Scalar.addi arg1 c1_i32
  let v3 : BitVec 32 := Scalar.muli arg1 v2
  let c2_i32 : BitVec 32 := 2#32
  let v4 : BitVec 32 := Scalar.divsi v3 c2_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c0_i32_1 : BitVec 32 := 0#32
  let v10 : BitVec 1 := Scalar.cmpi .sgt c2_i32 c0_i32_1
  let v11 : BitVec 32 := Scalar.extui v10
  let c0_i32_2 : BitVec 32 := 0#32
  let v12 : BitVec 1 := Scalar.cmpi .slt c2_i32 c0_i32_2
  let v13 : BitVec 32 := Scalar.extui v12
  let v14 : BitVec 32 := Scalar.subi v11 v13
  let v15 : BitVec 1 := Scalar.cmpi .ne v9 v14
  let v16 : BitVec 32 := Scalar.remsi v3 c2_i32
  let c0_i32_3 : BitVec 32 := 0#32
  let v17 : BitVec 1 := Scalar.cmpi .ne v16 c0_i32_3
  let v18 : BitVec 1 := Scalar.andi v15 v17
  let c1_i32_4 : BitVec 32 := 1#32
  let v19 : BitVec 32 := Scalar.subi v4 c1_i32_4
  let v20 : BitVec 32 := Scalar.select v18 v19 v4
  let v21 : BitVec 32 := Scalar.subi v1 v20
  let c4_i32_5 : BitVec 32 := 4#32
  let v22 : BitVec 32 := Scalar.muli arg1 c4_i32_5
  let v23 : BitVec 32 := Scalar.addi v22 arg1
  let c1_i32_6 : BitVec 32 := 1#32
  let v24 : BitVec 32 := Scalar.addi arg1 c1_i32_6
  let v25 : BitVec 32 := Scalar.muli arg1 v24
  let c2_i32_7 : BitVec 32 := 2#32
  let v26 : BitVec 32 := Scalar.divsi v25 c2_i32_7
  let c0_i32_8 : BitVec 32 := 0#32
  let v27 : BitVec 1 := Scalar.cmpi .sgt v25 c0_i32_8
  let v28 : BitVec 32 := Scalar.extui v27
  let c0_i32_9 : BitVec 32 := 0#32
  let v29 : BitVec 1 := Scalar.cmpi .slt v25 c0_i32_9
  let v30 : BitVec 32 := Scalar.extui v29
  let v31 : BitVec 32 := Scalar.subi v28 v30
  let c0_i32_10 : BitVec 32 := 0#32
  let v32 : BitVec 1 := Scalar.cmpi .sgt c2_i32_7 c0_i32_10
  let v33 : BitVec 32 := Scalar.extui v32
  let c0_i32_11 : BitVec 32 := 0#32
  let v34 : BitVec 1 := Scalar.cmpi .slt c2_i32_7 c0_i32_11
  let v35 : BitVec 32 := Scalar.extui v34
  let v36 : BitVec 32 := Scalar.subi v33 v35
  let v37 : BitVec 1 := Scalar.cmpi .ne v31 v36
  let v38 : BitVec 32 := Scalar.remsi v25 c2_i32_7
  let c0_i32_12 : BitVec 32 := 0#32
  let v39 : BitVec 1 := Scalar.cmpi .ne v38 c0_i32_12
  let v40 : BitVec 1 := Scalar.andi v37 v39
  let c1_i32_13 : BitVec 32 := 1#32
  let v41 : BitVec 32 := Scalar.subi v26 c1_i32_13
  let v42 : BitVec 32 := Scalar.select v40 v41 v26
  let v43 : BitVec 32 := Scalar.subi v23 v42
  let v44 : BitVec 1 := Scalar.cmpi .sge arg2 arg1
  let v45 : BitVec 32 := Scalar.select v44 v21 v43
  let c0_i32_14 : BitVec 32 := 0#32
  let c0_i32_15 : BitVec 32 := 0#32
  let c0_i32_16 : BitVec 32 := 0#32
  ![v45.toNat, c0_i32_14.toNat, c0_i32_15.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1x1024 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1024x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_1 : BitVec 32 := 0#32
  ![v1.toNat, 0, 0]
@[reducible] def k1_t1_loop : Scf.Loop 32 :=
  let c0_i32_4 : BitVec 32 := 0#32
  let c1024_i32 : BitVec 32 := 1024#32
  let v8 : BitVec 32 := Scalar.addi c0_i32_4 c1024_i32
  let c1_i32 : BitVec 32 := 1#32
  ⟨c0_i32_4, v8, c1_i32⟩
def k1_off2 (k1_t1 : Fin k1_t1_loop.trips) : Fin 1 → Nat :=
  let c0_i32_4 : BitVec 32 := 0#32
  let c1_i32 : BitVec 32 := 1#32
  let arg9 : BitVec 32 := Scf.iv c0_i32_4 c1_i32 k1_t1
  let c16_i32 : BitVec 32 := 16#32
  let v12 : BitVec 32 := Scalar.muli arg9 c16_i32
  let v13 : Index := Scalar.indexCast v12
  ![v13.toNat]
@[reducible] def k1_t2_loop : Scf.Loop 32 :=
  let c0_i32_7 : BitVec 32 := 0#32
  let c10_i32 : BitVec 32 := 10#32
  let v10 : BitVec 32 := Scalar.addi c0_i32_7 c10_i32
  let c1_i32_8 : BitVec 32 := 1#32
  ⟨c0_i32_7, v10, c1_i32_8⟩
def k1_off3 (i : grid1.Coords) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_8 : BitVec 32 := 1#32
  let arg9 : BitVec 32 := Scf.iv c0_i32_7 c1_i32_8 k1_t2
  let c2_i32_10 : BitVec 32 := 2#32
  let v12 : BitVec 32 := Scalar.muli arg9 c2_i32_10
  let c1_i32_11 : BitVec 32 := 1#32
  let v13 : BitVec 32 := Scalar.addi v12 c1_i32_11
  let c0_i32_12 : BitVec 32 := 0#32
  ![v1.toNat, v13.toNat, 0]
def k1_off4 (i : grid1.Coords) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_8 : BitVec 32 := 1#32
  let arg9 : BitVec 32 := Scf.iv c0_i32_7 c1_i32_8 k1_t2
  let c2_i32_10 : BitVec 32 := 2#32
  let v12 : BitVec 32 := Scalar.muli arg9 c2_i32_10
  let c0_i32_14 : BitVec 32 := 0#32
  ![v1.toNat, v12.toNat, 0]
@[reducible] def k1_t3_loop : Scf.Loop 32 :=
  let c0_i32_25 : BitVec 32 := 0#32
  let c1024_i32_26 : BitVec 32 := 1024#32
  let v51 : BitVec 32 := Scalar.addi c0_i32_25 c1024_i32_26
  let c1_i32_27 : BitVec 32 := 1#32
  ⟨c0_i32_25, v51, c1_i32_27⟩
def k1_off5 (k1_t3 : Fin k1_t3_loop.trips) : Fin 1 → Nat :=
  let c0_i32_54 : BitVec 32 := 0#32
  let c0_i32_25 : BitVec 32 := 0#32
  let c1_i32_27 : BitVec 32 := 1#32
  let arg11 : BitVec 32 := Scf.iv c0_i32_25 c1_i32_27 k1_t3
  let c16_i32 : BitVec 32 := 16#32
  let v91 : BitVec 32 := Scalar.muli arg11 c16_i32
  let v92 : BitVec 32 := Scalar.addi c0_i32_54 v91
  let v93 : Index := Scalar.indexCast v92
  ![v93.toNat]

def k1_chk1 (v94 : IVec S16 32) : Prop :=
  (∀ a x, ((![v94] : Fin 1 → IVec S16 32) a x).toNat < S16384.size a)
theorem k1_idx1_inb : ∀ (v94 : IVec S16 32) (k1_hw1 : k1_chk1 v94), ∀ a x, ((![v94] : Fin 1 → IVec S16 32) a x).toNat < S16384.size a := fun v94 k1_hw1 => k1_hw1
def k1_cond1 (k1_t2 : Fin k1_t2_loop.trips) : BitVec 1 :=
  let c0_i32_7 : BitVec 32 := 0#32
  let c1_i32_8 : BitVec 32 := 1#32
  let arg9 : BitVec 32 := Scf.iv c0_i32_7 c1_i32_8 k1_t2
  let c2_i32_10 : BitVec 32 := 2#32
  let v12 : BitVec 32 := Scalar.muli arg9 c2_i32_10
  let c2_i32_29 : BitVec 32 := 2#32
  let v52 : BitVec 32 := Scalar.addi v12 c2_i32_29
  let c20_i32_30 : BitVec 32 := 20#32
  let v53 : BitVec 1 := Scalar.cmpi .slt v52 c20_i32_30
  let v54 : BitVec 32 := Scalar.extui v53
  let c0_i32_31 : BitVec 32 := 0#32
  let v55 : BitVec 1 := Scalar.cmpi .ne v54 c0_i32_31
  v55

def k1_off6 (i : grid1.Coords) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7 : BitVec 32 := 0#32
  let c1_i32_8 : BitVec 32 := 1#32
  let arg9 : BitVec 32 := Scf.iv c0_i32_7 c1_i32_8 k1_t2
  let c2_i32_10 : BitVec 32 := 2#32
  let v12 : BitVec 32 := Scalar.muli arg9 c2_i32_10
  let c2_i32_54 : BitVec 32 := 2#32
  let v91 : BitVec 32 := Scalar.addi v12 c2_i32_54
  let c0_i32_55 : BitVec 32 := 0#32
  ![v1.toNat, v91.toNat, 0]
@[reducible] def k1_t4_loop : Scf.Loop 32 :=
  let c0_i32_49 : BitVec 32 := 0#32
  let c1024_i32_50 : BitVec 32 := 1024#32
  let v90 : BitVec 32 := Scalar.addi c0_i32_49 c1024_i32_50
  let c1_i32_51 : BitVec 32 := 1#32
  ⟨c0_i32_49, v90, c1_i32_51⟩
def k1_off7 (k1_t4 : Fin k1_t4_loop.trips) : Fin 1 → Nat :=
  let c0_i32_54 : BitVec 32 := 0#32
  let c0_i32_49 : BitVec 32 := 0#32
  let c1_i32_51 : BitVec 32 := 1#32
  let arg11 : BitVec 32 := Scf.iv c0_i32_49 c1_i32_51 k1_t4
  let c16_i32 : BitVec 32 := 16#32
  let v91 : BitVec 32 := Scalar.muli arg11 c16_i32
  let v92 : BitVec 32 := Scalar.addi c0_i32_54 v91
  let v93 : Index := Scalar.indexCast v92
  ![v93.toNat]

def k1_chk2 (v94 : IVec S16 32) : Prop :=
  (∀ a x, ((![v94] : Fin 1 → IVec S16 32) a x).toNat < S16384.size a)
theorem k1_idx2_inb : ∀ (v94 : IVec S16 32) (k1_hw2 : k1_chk2 v94), ∀ a x, ((![v94] : Fin 1 → IVec S16 32) a x).toNat < S16384.size a := fun v94 k1_hw2 => k1_hw2
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10_r0 : BitVec 32 := 0#32
  ![v1.toNat, 0]
abbrev grid2 : Pipeline.Grid := .none

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "hundredth" => some ((1 / 100 : ℝ) : EReal)
  | _ => none
-- ==== ReferenceIdeal.lean ====
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S32x4096 : Shape := ⟨2, ![32, 4096]⟩
abbrev S16777216 : Shape := ⟨1, ![16777216]⟩
abbrev S100 : Shape := ⟨1, ![100]⟩
abbrev S16777216x1 : Shape := ⟨2, ![16777216, 1]⟩

abbrev nBuf : Space → Nat
  | .hbm => 111
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096, .i32⟩
  | .hbm, ⟨2, _⟩ => ⟨S4096x32, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S32x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .i1⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S16777216, .f32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S16777216, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S16777216, .i32⟩
  | .hbm, ⟨61, _⟩ => ⟨S16777216, .i32⟩
  | .hbm, ⟨62, _⟩ => ⟨S_, .i32⟩
  | .hbm, ⟨63, _⟩ => ⟨S16777216, .i32⟩
  | .hbm, ⟨64, _⟩ => ⟨S16777216, .i32⟩
  | .hbm, ⟨65, _⟩ => ⟨S16777216, .i1⟩
  | .hbm, ⟨66, _⟩ => ⟨S16777216, .f32⟩
  | .hbm, ⟨67, _⟩ => ⟨S16777216, .i1⟩
  | .hbm, ⟨68, _⟩ => ⟨S16777216, .f32⟩
  | .hbm, ⟨69, _⟩ => ⟨S_, .f32⟩
  | .hbm, ⟨70, _⟩ => ⟨S100, .f32⟩
  | .hbm, ⟨71, _⟩ => ⟨S_, .i32⟩
  | .hbm, ⟨72, _⟩ => ⟨S16777216, .i32⟩
  | .hbm, ⟨73, _⟩ => ⟨S16777216, .i1⟩
  | .hbm, ⟨74, _⟩ => ⟨S_, .i32⟩
  | .hbm, ⟨75, _⟩ => ⟨S16777216, .i32⟩
  | .hbm, ⟨76, _⟩ => ⟨S16777216, .i32⟩
  | .hbm, ⟨77, _⟩ => ⟨S16777216, .i32⟩
  | .hbm, ⟨78, _⟩ => ⟨S16777216x1, .i32⟩
  | .hbm, ⟨79, _⟩ => ⟨S100, .f32⟩
  | .hbm, ⟨80, _⟩ => ⟨S_, .f32⟩
  | .hbm, ⟨81, _⟩ => ⟨S100, .f32⟩
  | .hbm, ⟨82, _⟩ => ⟨S_, .i32⟩
  | .hbm, ⟨83, _⟩ => ⟨S16777216, .i32⟩
  | .hbm, ⟨84, _⟩ => ⟨S16777216, .i1⟩
  | .hbm, ⟨85, _⟩ => ⟨S_, .i32⟩
  | .hbm, ⟨86, _⟩ => ⟨S16777216, .i32⟩
  | .hbm, ⟨87, _⟩ => ⟨S16777216, .i32⟩
  | .hbm, ⟨88, _⟩ => ⟨S16777216, .i32⟩
  | .hbm, ⟨89, _⟩ => ⟨S16777216x1, .i32⟩
  | .hbm, ⟨90, _⟩ => ⟨S100, .f32⟩
  | .hbm, ⟨91, _⟩ => ⟨S_, .f32⟩
  | .hbm, ⟨92, _⟩ => ⟨S_, .f32⟩
  | .hbm, ⟨93, _⟩ => ⟨S100, .f32⟩
  | .hbm, ⟨94, _⟩ => ⟨S100, .f32⟩
  | .hbm, ⟨95, _⟩ => ⟨S_, .f32⟩
  | .hbm, ⟨96, _⟩ => ⟨S_, .f32⟩
  | .hbm, ⟨97, _⟩ => ⟨S100, .f32⟩
  | .hbm, ⟨98, _⟩ => ⟨S100, .f32⟩
  | .hbm, ⟨99, _⟩ => ⟨S_, .f32⟩
  | .hbm, ⟨100, _⟩ => ⟨S_, .f32⟩
  | .hbm, ⟨101, _⟩ => ⟨S100, .f32⟩
  | .hbm, ⟨102, _⟩ => ⟨S_, .f32⟩
  | .hbm, ⟨103, _⟩ => ⟨S_, .f32⟩
  | .hbm, ⟨104, _⟩ => ⟨S100, .f32⟩
  | .hbm, ⟨105, _⟩ => ⟨S100, .f32⟩
  | .hbm, ⟨106, _⟩ => ⟨S100, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c : Ref sig .tc := ⟨.hbm, 57, rfl⟩
abbrev main_c_9 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_c_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_c_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call1_call0_cst : Ref sig .tc := ⟨.hbm, 99, rfl⟩
abbrev main_call1_call0_v0 : Ref sig .tc := ⟨.hbm, 100, rfl⟩
abbrev main_v72 : Ref sig .tc := ⟨.hbm, 101, rfl⟩
abbrev main_call2_call0_cst : Ref sig .tc := ⟨.hbm, 102, rfl⟩
abbrev main_call2_call0_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_cst_19 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Proof.Common.lean ====
/-
  The launch's set-up, shared by every part of the certificate: the program as the launch theorem sees it, the ghost
  state it runs over, the histogram as a function of the packed bins, and what the one SparseCore call's handshakes carry.

  Everything is stated over the float format `F`, so that one proof of the run serves both the machine's floats and the
  extended reals.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Pipeline.Kit
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Common

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the local transfers' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UK 𝕄).LandsIn (upEmb : UEmb _ 𝕄) := by unfold EP; infer_instance

/-! ## The histogram a tile computes, as a function of the packed bins -/

/-- The tile of the packed bins (of the ten 1024-by-1024 ones) that 16384-word chunk `v` lies in: `v` divided by 64,
    rounding down, as the kernel computes it. -/
def tileW (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 64#32 0#32)) (Scalar.extui (Scalar.cmpi .slt 64#32 0#32))))
      (Scalar.cmpi .ne (Scalar.remsi v 64#32) 0#32))
    (Scalar.subi (Scalar.divsi v 64#32) 1#32) (Scalar.divsi v 64#32)

/-- Whether tile `t` is one on the diagonal (0, 4, 7 or 9). -/
def diagW (t : BitVec 32) : BitVec 1 :=
  Scalar.ori (Scalar.ori (Scalar.ori (Scalar.cmpi .eq t 0#32) (Scalar.cmpi .eq t 4#32)) (Scalar.cmpi .eq t 7#32)) (Scalar.cmpi .eq t 9#32)

/-- The weight that chunk `n` (counted over all the tiles) adds per word: 1 on the diagonal, else 2. -/
def wsc (n : ℕ) : F .f32 :=
  Scalar.select (diagW (tileW (BitVec.ofNat 32 n))) (Scalar.ofBits .f32 0x3F800000#32) (Scalar.ofBits .f32 0x40000000#32)

/-- The sixteen weights one scatter of that chunk adds. -/
def wvec (n : ℕ) : FVec F S16 .f32 := k1_pay5 (k1_pay1 (F := F)) (wsc n)

/-- Words `16 * (n % 1024) …` of chunk `n / 1024` of row `w` of the packed bins: what the `n`-th scatter of tile `w` reads. -/
def vec (X : S32x20x16384.Idx → BitVec 32) (w : Fin 32) (n : ℕ) : IVec S16 32 := fun j =>
  X (ix3 w (Fin.ofNat 20 (n / 1024)) (Fin.ofNat 16384 (16 * (n % 1024) + (j 0).val)))

/-- One scatter-add into the histogram; the identity were an index out of range (none is). -/
def hstep (h : S16384.Idx → F .f32) (v : IVec S16 32) (x : FVec F S16 .f32) : S16384.Idx → F .f32 := by
  classical exact
  if hc : ∀ a y, ((![v] : Fin 1 → IVec S16 32) a y).toNat < S16384.size a then
    storeIdx (s := S16384) (e := .f32) (h : Vec F S16384 .f32) ![v] (x : Vec F S16 .f32) (fun _ => 1#1) true hc else h

/-- Tile `w`'s histogram after `n` scatters. -/
def histN (X : S32x20x16384.Idx → BitVec 32) (w : Fin 32) : ℕ → S16384.Idx → F .f32
  | 0 => fun _ => Scalar.ofBits .f32 0x00000000#32
  | n + 1 => hstep (histN X w n) (vec X w n) (wvec (w.val * 20 + n / 1024))

/-- All 32 histograms: what the SparseCore call leaves in its result. -/
def hist (X : S32x20x16384.Idx → BitVec 32) : S32x16384.Idx → F .f32 := fun i => histN X (i 0) 20480 (ix1 (i 1))

/-! ## The buffers of the call -/

/-- The packed bins (the call's operand) and the histograms (its result), as locations of device `d`. -/
abbrev xLoc (d : Dev nD) : Loc nD τ sig := (SparseCore.T d).loc main_v14
abbrev oLoc (d : Dev nD) : Loc nD τ sig := (SparseCore.T d).loc main_v15

abbrev xV : Memref sig .scVector .hbm S32x20x16384 .i32 := Memref.whole main_v14_scv
abbrev oV : Memref sig .scVector .hbm S32x16384 .f32 := Memref.whole main_v15_scv

theorem hdiv : 32 ∣ S32x16384.size 0 := ⟨1, rfl⟩
/-- Row `i` of the result. -/
abbrev row (i : Fin 32) : Rect S32x16384 := Rect.part (s := S32x16384) (a₀ := 0) hdiv i
abbrev rowSet (i : Fin 32) : Finset S32x16384.Idx := ((oV : Memref sig .scVector .hbm S32x16384 .f32).view.slice (row i)).set

theorem rowSet_eq (i : Fin 32) : rowSet i = (row i).set := by
  show ((View.whole (main_v15_scv : Ref sig .scVector)).slice (row i)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

/-! ## What the handshakes carry -/

theorem nSub_zero : (K (F := F)).nSub 0 = 16 := rfl
theorem nCore_zero : (K (F := F)).nCore 0 = 2 := rfl

/-- The row of tile `s` of SparseCore `c`. -/
def wid (c : Fin 2) (s : Fin 16) : Fin 32 := ⟨2 * s.val + c.val, by omega⟩

/-- The share of the packed bins a SparseCore reads through, and of that the one a tile does. -/
abbrev shC (c : Fin 2) : PosShare TreeShare := Transfers.shareTok fullShare 2 c
abbrev shT (c : Fin 2) (s : Fin 16) : PosShare TreeShare := Transfers.shareTok (shC c) 16 s

variable (X : Dev nD → S32x20x16384.Idx → BitVec 32)

abbrev oRow (d : Dev nD) (i : Fin 32) (f : Buf (Elt F) (oLoc d)) : sProp 𝕄 := oLoc d ↦[rowSet i]{fullShare} f
/-- A SparseCore's part on the way in: a share of the packed bins and its tiles' rows of the result, at any contents. -/
def stC (d : Dev nD) (c : Fin 2) : sProp 𝕄 :=
  iprop((xLoc d ↦{shC c} (X d : Buf (Elt F) (xLoc d))) ∗ bigSep Finset.univ fun s : Fin 16 => iprop(∃ f, oRow d (wid c s) f))
/-- … and on the way out: its tiles' rows, at the histograms. -/
def dnC (d : Dev nD) (c : Fin 2) : sProp 𝕄 :=
  bigSep Finset.univ fun s : Fin 16 => oRow d (wid c s) (hist (X d) : Buf (Elt F) (oLoc d))
/-- A tile's part on the way in … -/
def goT (d : Dev nD) (c : Fin 2) (s : Fin 16) : sProp 𝕄 :=
  iprop((xLoc d ↦{shT c s} (X d : Buf (Elt F) (xLoc d))) ∗ ∃ f, oRow d (wid c s) f)
/-- … and on the way out. -/
def tdT (d : Dev nD) (c : Fin 2) (s : Fin 16) : sProp 𝕄 := oRow d (wid c s) (hist (X d) : Buf (Elt F) (oLoc d))

instance stC_storable (d c) : BI.Storable (upEmb : UEmb _ 𝕄) (stC (F := F) X d c) := by unfold stC; infer_instance
instance dnC_storable (d c) : BI.Storable (upEmb : UEmb _ 𝕄) (dnC (F := F) X d c) := by unfold dnC; infer_instance
instance goT_storable (d c s) : BI.Storable (upEmb : UEmb _ 𝕄) (goT (F := F) X d c s) := by unfold goT; infer_instance
instance tdT_storable (d c s) : BI.Storable (upEmb : UEmb _ 𝕄) (tdT (F := F) X d c s) := by unfold tdT; infer_instance

/-- The one call takes the packed bins and the result's rows to the histograms. -/
def P : (K (F := F)).Pay (nD := nD) (Val := Elt F) (Name := ℕ) (U := UU) where
  st := fun q d c => match q with | 0 => stC X d (Fin.cast nCore_zero c)
  dn := fun q d c => match q with | 0 => dnC X d (Fin.cast nCore_zero c)
  go := fun q d c i => match q with | 0 => goT X d (Fin.cast nCore_zero c) (Fin.cast nSub_zero i)
  td := fun q d c i => match q with | 0 => tdT X d (Fin.cast nCore_zero c) (Fin.cast nSub_zero i)
  x := fun _ _ => iprop(emp)

instance P_storable : (P (F := F) X).IsStorable where
  st q d c := match q with | 0 => (inferInstance : BI.Storable (upEmb : UEmb _ 𝕄) (stC X d (Fin.cast nCore_zero c)))
  dn q d c := match q with | 0 => (inferInstance : BI.Storable (upEmb : UEmb _ 𝕄) (dnC X d (Fin.cast nCore_zero c)))
  go q d c i := match q with | 0 => (inferInstance : BI.Storable (upEmb : UEmb _ 𝕄) (goT X d (Fin.cast nCore_zero c) (Fin.cast nSub_zero i)))
  td q d c i := match q with | 0 => (inferInstance : BI.Storable (upEmb : UEmb _ 𝕄) (tdT X d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's sequencer splits its part among its tiles, and their results together are its result. -/
theorem vecSplit : (K (F := F)).VecSplit' (P X) 0 := by
  intro d c
  show stC X d (Fin.cast nCore_zero c) ⊢ |={Set.univ}=> iprop(
      (bigSep Finset.univ fun i : Fin ((K (F := F)).nSub 0) => goT X d (Fin.cast nCore_zero c) (Fin.cast nSub_zero i))
      ∗ ((bigSep Finset.univ fun i : Fin ((K (F := F)).nSub 0) => tdT X d (Fin.cast nCore_zero c) (Fin.cast nSub_zero i))
          -∗ dnC X d (Fin.cast nCore_zero c)))
  rw [bigSep_tasks (F := F) (fun i => goT X d (Fin.cast nCore_zero c) i), bigSep_tasks (F := F) (fun i => tdT X d (Fin.cast nCore_zero c) i)]
  generalize Fin.cast nCore_zero c = c'
  unfold stC goT
  rw [bigSep_sep']
  iintro ⟨Hx, Ho⟩
  ihave H := (Transfers.pointsTo_toks_split (shC c') 16) $$ Hx
  icases H with ⟨-, Hx⟩
  imodintro
  isplitl [Hx Ho]
  · isplitl [Hx]; · iexact Hx
    iexact Ho
  iintro H
  unfold dnC tdT
  iexact H

end Cert.Proof.Common

end
-- ==== Proof.Host.lean ====
/-
  The host's operations of the program: the lines before, between and after the kernels' calls, and what they leave.
-/
module

public import proofs.«01_k».proof.Proof.Common
public import Idealize.ShloMosaic.Lib.StableHlo.Run
public import Idealize.ShloMosaic.Lib.Pipeline.Value

@[expose] public section

set_option maxRecDepth 16384

noncomputable section

namespace Cert.Proof.Host

open Cert.KernelIdeal Cert.KernelIdeal.Gen
open Idealize.ShloMosaic Idealize.ShloMosaic.TcCoe
open Idealize.ShloMosaic.StableHlo
open Idealize.SL.Sem

variable {F : FTy → Type} [FloatOps F] [Named F]

/-- The scalar selection's operation. -/
abbrev whereOps (arg0 : StableHlo.TRef sig ⟨S_, .i1⟩) (arg1 : StableHlo.TRef sig ⟨S_, .i32⟩) (arg2 : StableHlo.TRef sig ⟨S_, .i32⟩) (φ : fn_where.Bufs) : List (HloOp τ sig (Elt F)) :=
  [ StableHlo.TRef.ternary arg0 arg1 arg2 φ.v0 select ]

theorem whereOps_eq (arg0 : StableHlo.TRef sig ⟨S_, .i1⟩) (arg1 : StableHlo.TRef sig ⟨S_, .i32⟩) (arg2 : StableHlo.TRef sig ⟨S_, .i32⟩) (φ : fn_where.Bufs) : fn_where.body (F := F) arg0 arg1 arg2 φ = seq (whereOps arg0 arg1 arg2 φ) := rfl

/-- The vector selection's operation. -/
abbrev whereVecOps (arg0 : StableHlo.TRef sig ⟨S1024, .i1⟩) (arg1 : StableHlo.TRef sig ⟨S1024, .i32⟩) (arg2 : StableHlo.TRef sig ⟨S1024, .i32⟩) (φ : fn_where_0.Bufs) : List (HloOp τ sig (Elt F)) :=
  [ StableHlo.TRef.ternary arg0 arg1 arg2 φ.v0 select ]

theorem whereVecOps_eq (arg0 : StableHlo.TRef sig ⟨S1024, .i1⟩) (arg1 : StableHlo.TRef sig ⟨S1024, .i32⟩) (arg2 : StableHlo.TRef sig ⟨S1024, .i32⟩) (φ : fn_where_0.Bufs) : fn_where_0.body (F := F) arg0 arg1 arg2 φ = seq (whereVecOps arg0 arg1 arg2 φ) := rfl

/-- The operations of the remainder with the divisor's sign. -/
abbrev remOps (arg0 : StableHlo.TRef sig ⟨S1024, .i32⟩) (arg1 : StableHlo.TRef sig ⟨S_, .i32⟩) (φ : fn_remainder.Bufs) : List (HloOp τ sig (Elt F)) :=
  [ StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32) ] ++
  whereOps φ.v1 φ.c_0 φ.v0 φ.call0 ++
  [ StableHlo.TRef.unary φ.call0.v0 φ.v3 (broadcastInDim S1024 ![] bcast_S_S1024),
    StableHlo.TRef.binary arg0 φ.v3 φ.v4 Host.remsi,
    StableHlo.TRef.nullary φ.c_1 (constantI S_ 32 0#32),
    StableHlo.TRef.unary φ.c_1 φ.v5 (broadcastInDim S1024 ![] bcast_S_S1024),
    StableHlo.TRef.binary φ.v4 φ.v5 φ.v6 (cmpi .ne),
    StableHlo.TRef.nullary φ.c_2 (constantI S_ 32 0#32),
    StableHlo.TRef.unary φ.c_2 φ.v7 (broadcastInDim S1024 ![] bcast_S_S1024),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S1024 ![] bcast_S_S1024),
    StableHlo.TRef.binary φ.v8 φ.v10 φ.v11 (cmpi .ne),
    StableHlo.TRef.binary φ.v11 φ.v6 φ.v12 andi,
    StableHlo.TRef.unary φ.call0.v0 φ.v13 (broadcastInDim S1024 ![] bcast_S_S1024),
    StableHlo.TRef.binary φ.v4 φ.v13 φ.v14 addi,
    StableHlo.TRef.ternary φ.v12 φ.v14 φ.v4 φ.v15 select ]

theorem remOps_eq (arg0 : StableHlo.TRef sig ⟨S1024, .i32⟩) (arg1 : StableHlo.TRef sig ⟨S_, .i32⟩) (φ : fn_remainder.Bufs) : fn_remainder.body (F := F) arg0 arg1 φ = seq (remOps arg0 arg1 φ) := rfl

/-- The operations of the division that rounds down. -/
abbrev divOps (arg0 : StableHlo.TRef sig ⟨S1024, .i32⟩) (arg1 : StableHlo.TRef sig ⟨S_, .i32⟩) (φ : fn_floor_divide.Bufs) : List (HloOp τ sig (Elt F)) :=
  [ StableHlo.TRef.unary arg1 φ.v0 id,
    StableHlo.TRef.unary φ.v0 φ.v1 (broadcastInDim S1024 ![] bcast_S_S1024),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S1024 ![] bcast_S_S1024),
    StableHlo.TRef.binary φ.v3 φ.v5 φ.v6 (cmpi .ne),
    StableHlo.TRef.unary φ.v0 φ.v7 (broadcastInDim S1024 ![] bcast_S_S1024),
    StableHlo.TRef.binary arg0 φ.v7 φ.v8 Host.remsi,
    StableHlo.TRef.nullary φ.c (constantI S_ 32 0#32),
    StableHlo.TRef.unary φ.c φ.v9 (broadcastInDim S1024 ![] bcast_S_S1024),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S1024 ![] bcast_S_S1024),
    StableHlo.TRef.binary φ.v2 φ.v12 φ.v13 subi ] ++
  whereVecOps φ.v11 φ.v13 φ.v2 φ.call0

theorem divOps_eq (arg0 : StableHlo.TRef sig ⟨S1024, .i32⟩) (arg1 : StableHlo.TRef sig ⟨S_, .i32⟩) (φ : fn_floor_divide.Bufs) : fn_floor_divide.body (F := F) arg0 arg1 φ = seq (divOps arg0 arg1 φ) := rfl

/-- The host operations before the first kernel. -/
abbrev opsHost : List (HloOp τ sig (Elt F)) :=
  [ StableHlo.unary main_arg0 main_v0 ((transpose S32x4096 [1, 0] · transposes_S4096x32_S32x4096_1_0) : (⟨S4096x32, .f32⟩ : BufTy).Contents (Elt F) → (⟨S32x4096, .f32⟩ : BufTy).Contents (Elt F)),
    StableHlo.reshape main_arg1 main_v1 (rfl : (.i32 : EltTy) = .i32) shapeCasts_S4096_S4096x1,
    StableHlo.reshape main_arg1 main_v2 (rfl : (.i32 : EltTy) = .i32) shapeCasts_S4096_S1x4096,
    StableHlo.nullary main_v3 (iotaInDim S1024 32 0),
    StableHlo.nullary main_c (constantI S_ 32 16#32) ] ++
  remOps (.of main_v3) (.of main_c) main_call0 ++
  [ StableHlo.nullary main_c_0 (constantI S_ 32 16#32) ] ++
  divOps (.of main_v3) (.of main_c_0) main_call1 ++
  [ StableHlo.nullary main_c_1 (constantI S_ 32 4#32) ] ++
  remOps (.of main_v5) (.of main_c_1) main_call2 ++
  [ StableHlo.nullary main_c_2 (constantI S_ 32 16#32),
    StableHlo.unary main_c_2 main_v7 (broadcastInDim S1024 ![] bcast_S_S1024 : (⟨S_, .i32⟩ : BufTy).Contents (Elt F) → (⟨S1024, .i32⟩ : BufTy).Contents (Elt F)),
    StableHlo.binary main_v7 main_v6 main_v8 (muli : (⟨S1024, .i32⟩ : BufTy).Contents (Elt F) → (⟨S1024, .i32⟩ : BufTy).Contents (Elt F) → (⟨S1024, .i32⟩ : BufTy).Contents (Elt F)),
    StableHlo.binary main_v4 main_v8 main_v9 (addi : (⟨S1024, .i32⟩ : BufTy).Contents (Elt F) → (⟨S1024, .i32⟩ : BufTy).Contents (Elt F) → (⟨S1024, .i32⟩ : BufTy).Contents (Elt F)),
    StableHlo.nullary main_c_3 (constantI S_ 32 256#32),
    StableHlo.unary main_c_3 main_v10 (broadcastInDim S1024 ![] bcast_S_S1024 : (⟨S_, .i32⟩ : BufTy).Contents (Elt F) → (⟨S1024, .i32⟩ : BufTy).Contents (Elt F)),
    StableHlo.binary main_v9 main_v10 main_v11 (muli : (⟨S1024, .i32⟩ : BufTy).Contents (Elt F) → (⟨S1024, .i32⟩ : BufTy).Contents (Elt F) → (⟨S1024, .i32⟩ : BufTy).Contents (Elt F)),
    StableHlo.reshape main_v11 main_v12 (rfl : (.i32 : EltTy) = .i32) shapeCasts_S1024_S1x1024 ]

/-- The bins' reshape between the first TensorCore kernel and the SparseCore call. -/
abbrev opX : HloOp τ sig (Elt F) :=
  StableHlo.reshape main_v13 main_v14 (rfl : (.i32 : EltTy) = .i32) shapeCasts_S10x1024x1024_S32x20x16384

/-- The histograms' reshape before the last kernel. -/
abbrev opH : HloOp τ sig (Elt F) :=
  StableHlo.reshape main_v15 main_v16 (rfl : (.f32 : EltTy) = .f32) shapeCasts_S32x16384_S2048x256

/-- The result's reshape. -/
abbrev opL : HloOp τ sig (Elt F) :=
  StableHlo.reshape main_v17 main_v18 (rfl : (.f32 : EltTy) = .f32) shapeCasts_S1x1_S_

/-- The program is its host operations around its three calls. -/
theorem main_eq (d : Dev nD) : main (F := F) d = (seq opsHost >>= fun _ =>
    Prog.lift (.customCall (SparseCore.inner (Pipeline.entry 0)) ()) >>= fun _ =>
    hlo rfl opX (fun _ => .ret (⟨⟩ : PUnit)) >>= fun _ => sc.run d 0 >>= fun _ =>
    hlo rfl opH (fun _ => .ret (⟨⟩ : PUnit)) >>= fun _ =>
    Prog.lift (.customCall (SparseCore.inner (Pipeline.entry 1)) ()) >>= fun _ =>
    hlo rfl opL (fun _ => .ret (⟨⟩ : PUnit)) >>= fun _ => pure ⟨⟩) := by
  simp only [opsHost, seq_append, ← remOps_eq, ← divOps_eq, bind_assoc]
  rfl

/-! ## What the first line leaves -/

theorem opsHost_fresh : ∀ op ∈ (opsHost : List (HloOp τ sig (Elt F))), op.fresh = ∅ := by
  intro op h
  have : ((opsHost : List (HloOp τ sig (Elt F))).map HloOp.fresh).all (fun s => s = ∅) = true := rfl
  simp only [List.all_map, List.all_eq_true] at this
  simpa using this op h

/-- What the line's operations compute for the lanes' offsets into the histogram, of a column of the block. -/
def boff : S1x1024.Idx → BitVec 32 := fun j =>
  BitVec.ofNat 32 ((((j 1).val % 16) + 16 * (((j 1).val / 16) % 4)) * 256)

/-- The divisor, or one where that is zero. -/
def one1 (d : BitVec 32) : BitVec 32 := Scalar.select (Scalar.cmpi .eq d 0#32) 1#32 d
/-- The remainder with the divisor's sign, of one word. -/
def rem1 (x d : BitVec 32) : BitVec 32 :=
  Scalar.select (Scalar.andi (Scalar.cmpi .ne (Scalar.cmpi .slt (IntOp.remsi .host x (one1 d)) 0#32) (Scalar.cmpi .slt (one1 d) 0#32))
    (Scalar.cmpi .ne (IntOp.remsi .host x (one1 d)) 0#32)) (Scalar.addi (IntOp.remsi .host x (one1 d)) (one1 d)) (IntOp.remsi .host x (one1 d))
/-- The sign of one word. -/
def sign1 (x : BitVec 32) : BitVec 32 := if x = 0 then 0 else if x.msb then -1 else 1
/-- The division that rounds down, of one word. -/
def div1 (x d : BitVec 32) : BitVec 32 :=
  Scalar.select (Scalar.andi (Scalar.cmpi .ne (sign1 x) (sign1 d))
    (Scalar.cmpi .ne (IntOp.remsi .host x d) 0#32)) (Scalar.subi (IntOp.divsi .host x d) 1#32) (IntOp.divsi .host x d)
/-- One lane's offset. -/
theorem lane : ∀ c : Fin 1024, Scalar.muli (Scalar.addi (rem1 (BitVec.ofNat 32 c.val) 16#32)
    (Scalar.muli 16#32 (rem1 (div1 (BitVec.ofNat 32 c.val) 16#32) 4#32))) 256#32
    = BitVec.ofNat 32 (((c.val % 16) + 16 * ((c.val / 16) % 4)) * 256) := by decide +kernel

theorem v0_after (V0 : Valuation τ sig (Elt F)) : after opsHost V0 (no_index (Proc.devRef .tc main_v0))
    = transpose S32x4096 [1, 0] (V0 (Proc.devRef .tc main_arg0)) transposes_S4096x32_S32x4096_1_0 := by
  simp only [opsHost, remOps, divOps, whereOps, whereVecOps, List.cons_append, List.nil_append, TRef.binary, TRef.unary, TRef.nullary, TRef.ternary, TRef.toBuf, TRef.ofBuf, cast_eq]
  after_results_simp
theorem v1_after (V0 : Valuation τ sig (Elt F)) : after opsHost V0 (no_index (Proc.devRef .tc main_v1))
    = shapeCast S4096x1 (V0 (Proc.devRef .tc main_arg1)) shapeCasts_S4096_S4096x1 := by
  simp only [opsHost, remOps, divOps, whereOps, whereVecOps, List.cons_append, List.nil_append, TRef.binary, TRef.unary, TRef.nullary, TRef.ternary, TRef.toBuf, TRef.ofBuf, cast_eq]
  after_results_simp
  rfl
theorem v2_after (V0 : Valuation τ sig (Elt F)) : after opsHost V0 (no_index (Proc.devRef .tc main_v2))
    = shapeCast S1x4096 (V0 (Proc.devRef .tc main_arg1)) shapeCasts_S4096_S1x4096 := by
  simp only [opsHost, remOps, divOps, whereOps, whereVecOps, List.cons_append, List.nil_append, TRef.binary, TRef.unary, TRef.nullary, TRef.ternary, TRef.toBuf, TRef.ofBuf, cast_eq]
  after_results_simp
  rfl
theorem arg0_after (V0 : Valuation τ sig (Elt F)) : after opsHost V0 (no_index (Proc.devRef .tc main_arg0)) = V0 (Proc.devRef .tc main_arg0) := by
  simp only [opsHost, remOps, divOps, whereOps, whereVecOps, List.cons_append, List.nil_append, TRef.binary, TRef.unary, TRef.nullary, TRef.ternary, TRef.toBuf, TRef.ofBuf, cast_eq]
  after_results_simp
theorem arg1_after (V0 : Valuation τ sig (Elt F)) : after opsHost V0 (no_index (Proc.devRef .tc main_arg1)) = V0 (Proc.devRef .tc main_arg1) := by
  simp only [opsHost, remOps, divOps, whereOps, whereVecOps, List.cons_append, List.nil_append, TRef.binary, TRef.unary, TRef.nullary, TRef.ternary, TRef.toBuf, TRef.ofBuf, cast_eq]
  after_results_simp
set_option maxHeartbeats 1000000 in
theorem v12_after (V0 : Valuation τ sig (Elt F)) : after opsHost V0 (no_index (Proc.devRef .tc main_v12)) = boff := by
  simp only [opsHost, remOps, divOps, whereOps, whereVecOps, List.cons_append, List.nil_append, TRef.binary, TRef.unary, TRef.nullary, TRef.ternary, TRef.toBuf, TRef.ofBuf, cast_eq]
  after_results_simp
  funext j
  refine (shapeCast_addUnit_apply (![1024] : Fin 1 → ℕ) _ shapeCasts_S1024_S1x1024 j).trans ?_
  unfold boff
  refine Eq.trans ?_ (lane (j 1))
  rfl

end Cert.Proof.Host

end
-- ==== Proof.TcOps.lean ====
/-
  Loads and stores of the TensorCore kernels, stated for a memref held whole at contents that are named: a load of the
  whole block gives the contents, a store of the whole block replaces them; and the two words of the scalar scratch.
-/
module

public import proofs.«01_k».proof.Proof.Common
public import Idealize.ShloMosaic.Lib.VecWindow

@[expose] public section

noncomputable section

namespace Cert.Proof.TcOps

open Cert.KernelIdeal Cert.KernelIdeal.Gen
open Cert.Proof.Common

open Idealize.ShloMosaic
open Idealize.ShloMosaic.ValueIdx (ix1 ix2 ix3)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

section Generic

variable {s : Shape} {e : EltTy} {α : Type} (d : Dev nD) (Q : α → sProp (MT nD τ sig (HIx 1) (Elt F) ℕ UU ℕ))

/-- A load of a memref's whole block gives the contents that the memref is held at. -/
theorem own_load {cs : CoreSpace} {m : Memref sig .tc cs s e} {off : Fin s.rank → ℕ} {inb : ∀ a, off a + s.size a ≤ s.size a}
    {hl : m.view.LoadsAt (Rect.unit off s.size inb).toLoadRect} {X : s.Idx → Elt F e}
    {k : (s.Idx → Elt F e) → Prog (TpuEff nD τ sig (Elt F) Λ₀ .tc) α} :
    (owns (d.tc : Thread nD τ) m fullShare X : sProp 𝕄)
      ⊢ iprop((owns (d.tc : Thread nD τ) m fullShare X -∗ wp frame (wpE (defs₀ (F := F)) 𝒱₀ (d.tc : Thread nD τ) none) Set.univ (k X) Q)
        -∗ wp frame (wpE (defs₀ (F := F)) 𝒱₀ (d.tc : Thread nD τ) none) Set.univ
            (.op (.load m (Rect.unit off s.size inb).toLoadRect hl) k) Q) := by
  unfold owns
  iintro ⟨%f, %hf, H⟩ Hk
  have hr : m.view.readAt (Elt F) (Rect.unit off s.size inb).toLoadRect f = X := by
    rw [← hf, View.readAt_rect]
    funext z
    show m.view.read (Elt F) f ((Rect.unit off s.size inb).emb z) = _
    rw [Rect.emb_unit_full]
  iapply (wp_load 𝒱₀ (d.tc : Thread nD τ) none Set.univ (m := m) (S := m.view.set) (View.setOn_subset_set _ _)) $$ H
  iintro H
  rw [hr]
  iapply Hk
  iexists f
  isplitr
  · ipureintro; exact hf
  iexact H

/-- A store of a memref's whole block leaves the memref held at what was stored. -/
theorem own_store {cs : CoreSpace} {m : Memref sig .tc cs s e} {off : Fin s.rank → ℕ} {inb : ∀ a, off a + s.size a ≤ s.size a}
    {w : s.Idx → Elt F e} {hx : (m.access (Rect.unit off s.size inb)).Stores Finset.univ} {hm : _} {X : s.Idx → Elt F e}
    {k : PUnit → Prog (TpuEff nD τ sig (Elt F) Λ₀ .tc) α} :
    (owns (d.tc : Thread nD τ) m fullShare X : sProp 𝕄)
      ⊢ iprop((owns (d.tc : Thread nD τ) m fullShare w -∗ wp frame (wpE (defs₀ (F := F)) 𝒱₀ (d.tc : Thread nD τ) none) Set.univ (k ⟨⟩) Q)
        -∗ wp frame (wpE (defs₀ (F := F)) 𝒱₀ (d.tc : Thread nD τ) none) Set.univ
            (.op (.store m (Rect.unit off s.size inb) w Finset.univ hx hm) k) Q) := by
  unfold owns
  iintro ⟨%f, %hf, H⟩ Hk
  have hr : m.view.read (Elt F) ((m.access (Rect.unit off s.size inb)).write (Elt F) f w Finset.univ) = w := by
    funext z
    have h := congrFun (View.read_write_univ (v := m.access (Rect.unit off s.size inb)) (Val := Elt F) f w) z
    rw [← h]
    show _ = m.view.read (Elt F) _ ((Rect.unit off s.size inb).emb z)
    rw [Rect.emb_unit_full]
  iapply (wp_store 𝒱₀ (d.tc : Thread nD τ) none Set.univ (m := m) (r := Rect.unit off s.size inb) (S := m.view.set)
    ((View.setOn_subset_set _ _).trans (View.set_slice_subset _ _))) $$ H
  iintro H
  iapply Hk
  iexists _
  isplitr
  · ipureintro; exact hr
  iexact H

end Generic

/-! ## The scalar scratch: two words -/

/-- The scratch's contents, of its two words. -/
def mm2 (a b : F .f32) : S2.Idx → Elt F .f32 := fun j => if (j 0).val = 0 then a else b

/-- The scalar scratch held whole at the words `a`, `b`. -/
abbrev scr (d : Dev nD) (a b : F .f32) : sProp 𝕄 :=
  ((d.tc : Thread nD τ).loc cc0_scratch0) ↦{fullShare} (mm2 a b : Buf (Elt F) ((d.tc : Thread nD τ).loc cc0_scratch0))

theorem mm2_eta (f : S2.Idx → Elt F .f32) : f = mm2 (f (ix1 0)) (f (ix1 1)) := by
  funext j
  unfold mm2
  obtain ⟨v, hv⟩ : ∃ v, j 0 = v := ⟨_, rfl⟩
  have hj : j = ix1 v := by funext a; fin_cases a; exact hv
  rw [hj]
  fin_cases v <;> rfl

abbrev M9 : Memref sig .tc .smem S2 .f32 := Memref.whole cc0_scratch0
abbrev rA : Rect S2 := Rect.unit (s := S2) ![0] S1.size inb_S2_S1_0
abbrev rB : Rect S2 := Rect.unit (s := S2) ![1] S1.size inb_S2_S1_1

theorem readA (a b : F .f32) (x : rA.shape.Idx) : (M9.access rA).read (Elt F) (mm2 a b) x = a := by
  have h2 : (((M9.access rA).emb x : S2.Idx) 0).val = 0 + 1 * (x 0).val := rfl
  have h3 : (x 0).val < 1 := (x 0).isLt
  show mm2 a b ((M9.access rA).emb x) = a
  unfold mm2; rw [if_pos (by omega)]
theorem readB (a b : F .f32) (x : rB.shape.Idx) : (M9.access rB).read (Elt F) (mm2 a b) x = b := by
  have h2 : (((M9.access rB).emb x : S2.Idx) 0).val = 1 + 1 * (x 0).val := rfl
  show mm2 a b ((M9.access rB).emb x) = b
  unfold mm2; rw [if_neg (by omega)]

theorem writeA (a b c : F .f32) : (M9.access rA).write (Elt F) (mm2 a b) (fun _ => c) Finset.univ = mm2 c b := by
  funext j
  obtain ⟨v, hv⟩ : ∃ v, j 0 = v := ⟨_, rfl⟩
  have hj : j = ix1 v := by funext a; fin_cases a; exact hv
  rw [hj]
  have h0 : (M9.access rA).emb (ix1 (0 : Fin 1) : S1.Idx) = (ix1 0 : S2.Idx) := by funext a; fin_cases a; rfl
  fin_cases v
  · have := View.write_emb_of_mem (v := M9.access rA) (Val := Elt F) (mm2 a b) (fun _ => c) (M := Finset.univ) (x := (ix1 (0 : Fin 1) : S1.Idx)) (Finset.mem_univ _)
    rw [h0] at this
    exact this
  · refine (View.write_of_not_mem (v := M9.access rA) (Val := Elt F) (mm2 a b) (fun _ => c) Finset.univ ?_).trans rfl
    rw [View.setOn_univ]
    intro hm
    obtain ⟨x, -, hx⟩ := Finset.mem_map.mp hm
    have := congrArg (fun j : S2.Idx => (j 0).val) hx
    have h2 : (((M9.access rA).emb x : S2.Idx) 0).val = 0 + 1 * (x 0).val := rfl
    have h3 : (x 0).val < 1 := (x 0).isLt
    have h4 : ((ix1 ⟨1, by decide⟩ : S2.Idx) 0).val = 1 := rfl
    simp only at this
    omega

theorem writeB (a b c : F .f32) : (M9.access rB).write (Elt F) (mm2 a b) (fun _ => c) Finset.univ = mm2 a c := by
  funext j
  obtain ⟨v, hv⟩ : ∃ v, j 0 = v := ⟨_, rfl⟩
  have hj : j = ix1 v := by funext a; fin_cases a; exact hv
  rw [hj]
  have h0 : (M9.access rB).emb (ix1 (0 : Fin 1) : S1.Idx) = (ix1 1 : S2.Idx) := by funext a; fin_cases a; rfl
  fin_cases v
  · refine (View.write_of_not_mem (v := M9.access rB) (Val := Elt F) (mm2 a b) (fun _ => c) Finset.univ ?_).trans rfl
    rw [View.setOn_univ]
    intro hm
    obtain ⟨x, -, hx⟩ := Finset.mem_map.mp hm
    have := congrArg (fun j : S2.Idx => (j 0).val) hx
    have h2 : (((M9.access rB).emb x : S2.Idx) 0).val = 1 + 1 * (x 0).val := rfl
    have h4 : ((ix1 ⟨0, by decide⟩ : S2.Idx) 0).val = 0 := rfl
    simp only at this
    omega
  · have := View.write_emb_of_mem (v := M9.access rB) (Val := Elt F) (mm2 a b) (fun _ => c) (M := Finset.univ) (x := (ix1 (0 : Fin 1) : S1.Idx)) (Finset.mem_univ _)
    rw [h0] at this
    exact this

section Scratch

variable {α : Type} (d : Dev nD) (Q : α → sProp (MT nD τ sig (HIx 1) (Elt F) ℕ UU ℕ)) (a b c : F .f32)

local notation "WP" => wp frame (wpE (defs₀ (F := F)) 𝒱₀ (d.tc : Thread nD τ) none) Set.univ

theorem load_A {h1 : rA.shape.numel = 1} {hp : EltTy.packing .f32 = 1} {k : Elt F .f32 → Prog (TpuEff nD τ sig (Elt F) Λ₀ .tc) α} :
    (scr d a b : sProp 𝕄) ⊢ iprop((scr d a b -∗ WP (k a) Q) -∗ WP (smemLoad M9 rA h1 hp >>= k) Q) := by
  have h := wp_smemLoadElt (defs := defs₀ (F := F)) 𝒱₀ (d.tc : Thread nD τ) none (Γ := .empty) Set.univ (m := M9) (r := rA) (hw := View.loads_smem_one hp h1)
    (x := Shape.Idx.first (h1.symm ▸ Nat.one_pos)) (k := k) (Q := Q) (S := Finset.univ) (q := fullShare) (f := mm2 a b) (Finset.subset_univ _)
  rw [readA] at h
  exact h

theorem load_B {h1 : rB.shape.numel = 1} {hp : EltTy.packing .f32 = 1} {k : Elt F .f32 → Prog (TpuEff nD τ sig (Elt F) Λ₀ .tc) α} :
    (scr d a b : sProp 𝕄) ⊢ iprop((scr d a b -∗ WP (k b) Q) -∗ WP (smemLoad M9 rB h1 hp >>= k) Q) := by
  have h := wp_smemLoadElt (defs := defs₀ (F := F)) 𝒱₀ (d.tc : Thread nD τ) none (Γ := .empty) Set.univ (m := M9) (r := rB) (hw := View.loads_smem_one hp h1)
    (x := Shape.Idx.first (h1.symm ▸ Nat.one_pos)) (k := k) (Q := Q) (S := Finset.univ) (q := fullShare) (f := mm2 a b) (Finset.subset_univ _)
  rw [readB] at h
  exact h

theorem store_A {hx : (M9.access rA).Stores Finset.univ} {hm : _} {k : PUnit → Prog (TpuEff nD τ sig (Elt F) Λ₀ .tc) α} :
    (scr d a b : sProp 𝕄) ⊢ iprop((scr d c b -∗ WP (k ⟨⟩) Q) -∗ WP (.op (.store M9 rA (fun _ => c) Finset.univ hx hm) k) Q) := by
  have h := wp_store (defs := defs₀ (F := F)) 𝒱₀ (d.tc : Thread nD τ) none (Γ := .empty) Set.univ (m := M9) (r := rA) (w := fun _ => c) (hx := hx) (hm := hm) (k := k)
    (Q := Q) (S := Finset.univ) (f := mm2 a b) (Finset.subset_univ _)
  rw [writeA] at h
  exact h

theorem store_B {hx : (M9.access rB).Stores Finset.univ} {hm : _} {k : PUnit → Prog (TpuEff nD τ sig (Elt F) Λ₀ .tc) α} :
    (scr d a b : sProp 𝕄) ⊢ iprop((scr d a c -∗ WP (k ⟨⟩) Q) -∗ WP (.op (.store M9 rB (fun _ => c) Finset.univ hx hm) k) Q) := by
  have h := wp_store (defs := defs₀ (F := F)) 𝒱₀ (d.tc : Thread nD τ) none (Γ := .empty) Set.univ (m := M9) (r := rB) (w := fun _ => c) (hx := hx) (hm := hm) (k := k)
    (Q := Q) (S := Finset.univ) (f := mm2 a b) (Finset.subset_univ _)
  rw [writeB] at h
  exact h

end Scratch

end Cert.Proof.TcOps

end
-- ==== Proof.TcBody.lean ====
/-
  The two TensorCore kernels' bodies, each run over staging buffers held at named contents: the index kernel's body at
  any grid point, and the loss kernel's body.
-/
module

public import proofs.«01_k».proof.Proof.TcOps

@[expose] public section

set_option maxRecDepth 16384

noncomputable section

namespace Cert.Proof.TcBody

open Cert.KernelIdeal Cert.KernelIdeal.Gen
open Cert.Proof.Common Cert.Proof.TcOps

open Idealize.ShloMosaic
open Idealize.ShloMosaic.ValueIdx (ix1 ix2 ix3)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## What the index kernel computes at a point -/

/-- Whether the point is the first one, where the running least and greatest distances are reset. -/
def cond1 (i : grid0.Coords) : BitVec 1 :=
  Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32))) : BitVec 32) 0#32

/-- Whether the point belongs to the first phase and to the upper triangle of tiles. -/
def cond2 (i : grid0.Coords) : BitVec 1 :=
  Scalar.cmpi .ne (Scalar.extui (Scalar.andi (Scalar.cmpi .eq (BitVec.ofNat 32 (i 0).val) 0#32)
    (Scalar.cmpi .sge (BitVec.ofNat 32 (i 2).val) (BitVec.ofNat 32 (i 1).val))) : BitVec 32) 0#32

/-- The running least and greatest, reset at the first point. -/
def reset (i : grid0.Coords) (ab : F .f32 × F .f32) : F .f32 × F .f32 :=
  if cond1 i = 1#1 then (Scalar.ofBits .f32 0x7F800000#32, Scalar.ofBits .f32 0xFF800000#32) else ab

/-- The running least and greatest after the point's tile is taken in. -/
def mmStep (i : grid0.Coords) (X3 : Vec F S1024x32 .f32) (X4 : Vec F S32x1024 .f32) (ab : F .f32 × F .f32) : F .f32 × F .f32 :=
  if cond2 i = 1#1 then (k0_pay2 X3 X4 (reset i ab).1, k0_pay3 X3 X4 (reset i ab).2) else reset i ab

/-- The packed bins of a tile, of its blocks and of the least and greatest distances. -/
def packed (X3 : Vec F S1024x32 .f32) (X4 : Vec F S32x1024 .f32) (X5 : Vec F S1024x1 .i32) (X6 X7 : Vec F S1x1024 .i32)
    (ab : F .f32 × F .f32) : Vec F S1x1024x1024 .i32 :=
  k0_pay4 (k0_pay5 X3 X4) (k0_pay6 ab.1) (k0_pay7 ab.2) (k0_pay8 ab.2) (Scalar.ofBits .f32 0x3F000000#32) X5 X6 X7

section Bodies

variable (d : Dev nD)

local notation "WP" => wp frame (wpE (defs₀ (F := F)) 𝒱₀ (d.tc : Thread nD τ) none) Set.univ

/-- The reset of the two words, before any continuation. -/
theorem seg1 (i : grid0.Coords) (a b : F .f32) (jp : Prog (TpuEff nD τ sig (Elt F) Λ₀ .tc) PUnit) (Q : PUnit → sProp (MT nD τ sig (HIx 1) (Elt F) ℕ UU ℕ)) :
    iprop((scr d a b : sProp 𝕄) ∗ (scr d (reset i (a, b)).1 (reset i (a, b)).2 -∗ WP (jp) Q))
      ⊢ WP (if k0_h1 : cond1 i = 1#1 then (do
          let v16 : Elt F .f32 ← smemLoad M9 rA numel1_S1 rfl
          Prog.lift (.store M9 rA (fun _ => Scalar.ofBits .f32 0x7F800000#32) Finset.univ (View.stores_smem_one rfl numel1_S1) (.inl rfl))
          let v17 : Elt F .f32 ← smemLoad M9 rB numel1_S1 rfl
          Prog.lift (.store M9 rB (fun _ => Scalar.ofBits .f32 0xFF800000#32) Finset.univ (View.stores_smem_one rfl numel1_S1) (.inl rfl))
          jp) else jp) Q := by
  by_cases hc : cond1 i = 1#1
  · rw [dif_pos hc, reset, if_pos hc]
    iintro ⟨Hs, Hk⟩
    iapply (load_A d _ a b) $$ Hs; iintro Hs
    simp only [Prog.lift, Prog.bind_op, Prog.bind_ret]
    iapply (store_A d _ a b _) $$ Hs; iintro Hs
    iapply (load_B d _ _ b) $$ Hs; iintro Hs
    iapply (store_B d _ _ b _) $$ Hs; iintro Hs
    iapply Hk; iexact Hs
  · rw [dif_neg hc, reset, if_neg hc]
    iintro ⟨Hs, Hk⟩
    iapply Hk; iexact Hs

/-- The first phase's tile taken into the two words, before any continuation. -/
theorem seg2 (i : grid0.Coords) (m3 : Memref sig .tc .vmem S1024x32 .f32) (m4 : Memref sig .tc .vmem S32x1024 .f32)
    (X3 : Vec F S1024x32 .f32) (X4 : Vec F S32x1024 .f32) (ab : F .f32 × F .f32)
    (jp : Prog (TpuEff nD τ sig (Elt F) Λ₀ .tc) PUnit) (Q : PUnit → sProp (MT nD τ sig (HIx 1) (Elt F) ℕ UU ℕ)) :
    iprop((owns (d.tc : Thread nD τ) m3 fullShare X3 : sProp 𝕄) ∗ owns (d.tc : Thread nD τ) m4 fullShare X4 ∗ scr d (reset i ab).1 (reset i ab).2
        ∗ (iprop(owns (d.tc : Thread nD τ) m3 fullShare X3 ∗ owns (d.tc : Thread nD τ) m4 fullShare X4 ∗ scr d (mmStep i X3 X4 ab).1 (mmStep i X3 X4 ab).2) -∗ WP (jp) Q))
      ⊢ WP (if k0_h2 : cond2 i = 1#1 then (do
          let v16 : Vec F S1024x32 .f32 ← Prog.lift (.load m3 (Rect.unit (s := S1024x32) ![0, 0] S1024x32.size inb_S1024x32_S1024x32_0_0).toLoadRect (View.loadsAt_vmem h_S1024x32))
          let v17 : Vec F S32x1024 .f32 ← Prog.lift (.load m4 (Rect.unit (s := S32x1024) ![0, 0] S32x1024.size inb_S32x1024_S32x1024_0_0).toLoadRect (View.loadsAt_vmem h_S32x1024))
          let v34 : Elt F .f32 ← smemLoad M9 rA numel1_S1 rfl
          let v40 : Elt F .f32 ← smemLoad M9 rA numel1_S1 rfl
          Prog.lift (.store M9 rA (fun _ => k0_pay2 v16 v17 v34) Finset.univ (View.stores_smem_one rfl numel1_S1) (.inl rfl))
          let v41 : Elt F .f32 ← smemLoad M9 rB numel1_S1 rfl
          let v47 : Elt F .f32 ← smemLoad M9 rB numel1_S1 rfl
          Prog.lift (.store M9 rB (fun _ => k0_pay3 v16 v17 v41) Finset.univ (View.stores_smem_one rfl numel1_S1) (.inl rfl))
          jp) else jp) Q := by
  by_cases hc : cond2 i = 1#1
  · rw [dif_pos hc, mmStep, if_pos hc]
    iintro ⟨H3, H4, Hs, Hk⟩
    simp only [Prog.lift, Prog.bind_op, Prog.bind_ret]
    iapply (own_load d _) $$ H3; iintro H3
    iapply (own_load d _) $$ H4; iintro H4
    iapply (load_A d _ _ _) $$ Hs; iintro Hs
    iapply (load_A d _ _ _) $$ Hs; iintro Hs
    iapply (store_A d _ _ _ _) $$ Hs; iintro Hs
    iapply (load_B d _ _ _) $$ Hs; iintro Hs
    iapply (load_B d _ _ _) $$ Hs; iintro Hs
    iapply (store_B d _ _ _ _) $$ Hs; iintro Hs
    iapply Hk
    isplitl [H3]; · iexact H3
    isplitl [H4]; · iexact H4
    iexact Hs
  · rw [dif_neg hc, mmStep, if_neg hc]
    iintro ⟨H3, H4, Hs, Hk⟩
    iapply Hk
    isplitl [H3]; · iexact H3
    isplitl [H4]; · iexact H4
    iexact Hs

/-- The index kernel's body at any point: the inputs stay as they are, the two words step, and the result's block is
    the packed bins where the point is active in the second phase, and is as it was elsewhere. -/
theorem idx_body (i : grid0.Coords) (m3 : Memref sig .tc .vmem S1024x32 .f32) (h3 : m3.IsWhole) (m4 : Memref sig .tc .vmem S32x1024 .f32) (h4 : m4.IsWhole)
    (m5 : Memref sig .tc .vmem S1024x1 .i32) (h5 : m5.IsWhole) (m6 : Memref sig .tc .vmem S1x1024 .i32) (h6 : m6.IsWhole)
    (m7 : Memref sig .tc .vmem S1x1024 .i32) (h7 : m7.IsWhole) (m8 : Memref sig .tc .vmem S1x1024x1024 .i32) (h8 : m8.IsWhole) (h9 : M9.IsWhole)
    (X3 : Vec F S1024x32 .f32) (X4 : Vec F S32x1024 .f32) (X5 : Vec F S1024x1 .i32) (X6 X7 : Vec F S1x1024 .i32) (X8 : Vec F S1x1024x1024 .i32) (a b : F .f32)
    (Q : PUnit → sProp (MT nD τ sig (HIx 1) (Elt F) ℕ UU ℕ)) :
    iprop((owns (d.tc : Thread nD τ) m3 fullShare X3 : sProp 𝕄) ∗ owns (d.tc : Thread nD τ) m4 fullShare X4 ∗ owns (d.tc : Thread nD τ) m5 fullShare X5
        ∗ owns (d.tc : Thread nD τ) m6 fullShare X6 ∗ owns (d.tc : Thread nD τ) m7 fullShare X7 ∗ owns (d.tc : Thread nD τ) m8 fullShare X8 ∗ scr d a b
        ∗ (iprop(owns (d.tc : Thread nD τ) m3 fullShare X3 ∗ owns (d.tc : Thread nD τ) m4 fullShare X4 ∗ owns (d.tc : Thread nD τ) m5 fullShare X5
            ∗ owns (d.tc : Thread nD τ) m6 fullShare X6 ∗ owns (d.tc : Thread nD τ) m7 fullShare X7
            ∗ owns (d.tc : Thread nD τ) m8 fullShare (if k0_cond3 i = 1#1 then packed X3 X4 X5 X6 X7 (mmStep i X3 X4 (a, b)) else X8)
            ∗ scr d (mmStep i X3 X4 (a, b)).1 (mmStep i X3 X4 (a, b)).2) -∗ Q ⟨⟩))
      ⊢ WP (cc0__tc_idx_body i m3 h3 m4 h4 m5 h5 m6 h6 m7 h7 m8 h8 M9 h9) Q := by
  rw [cc0__tc_idx_body_eq_skeleton]
  unfold cc0__tc_idx_body_skel
  dsimp only
  iintro ⟨H3, H4, H5, H6, H7, H8, Hs, Hk⟩
  iapply (seg1 d i a b _ Q)
  isplitl [Hs]; · iexact Hs
  iintro Hs
  iapply (seg2 d i m3 m4 X3 X4 (a, b) _ Q)
  isplitl [H3]; · iexact H3
  isplitl [H4]; · iexact H4
  isplitl [Hs]; · iexact Hs
  iintro ⟨H3, H4, Hs⟩
  dsimp only
  by_cases hc : k0_cond3 i = 1#1
  · rw [dif_pos hc, if_pos hc, k0_part1_eq_skeleton]
    unfold k0_part1_skel
    simp only [Prog.lift, Prog.bind_op, Prog.bind_ret, Prog.bind_assoc]
    iapply (own_load d _) $$ H3; iintro H3
    iapply (own_load d _) $$ H4; iintro H4
    iapply (load_A d _ _ _) $$ Hs; iintro Hs
    iapply (load_B d _ _ _) $$ Hs; iintro Hs
    simp only [Prog.pure_eq_ret, Prog.bind_ret]
    iapply (own_load d _) $$ H5; iintro H5
    iapply (own_load d _) $$ H6; iintro H6
    iapply (own_load d _) $$ H7; iintro H7
    iapply (own_load d _) $$ H8; iintro H8
    iapply (own_store d _) $$ H8; iintro H8
    rw [wp_ret]; imodintro; iapply Hk
    isplitl [H3]; · iexact H3
    isplitl [H4]; · iexact H4
    isplitl [H5]; · iexact H5
    isplitl [H6]; · iexact H6
    isplitl [H7]; · iexact H7
    isplitl [H8]; · iexact H8
    iexact Hs
  · rw [dif_neg hc, if_neg hc, wp_pure]
    imodintro; iapply Hk
    isplitl [H3]; · iexact H3
    isplitl [H4]; · iexact H4
    isplitl [H5]; · iexact H5
    isplitl [H6]; · iexact H6
    isplitl [H7]; · iexact H7
    isplitl [H8]; · iexact H8
    iexact Hs

/-- The loss kernel's body: the histogram's block stays as it is, and the result's word is the loss. -/
theorem loss_body (m0 : Memref sig .tc .vmem S2048x256 .f32) (h0 : m0.IsWhole) (m1 : Memref sig .tc .smem S1x1 .f32) (h1 : m1.IsWhole)
    (X0 : Vec F S2048x256 .f32) (X1 : Vec F S1x1 .f32) (Q : PUnit → sProp (MT nD τ sig (HIx 1) (Elt F) ℕ UU ℕ)) :
    iprop((owns (d.tc : Thread nD τ) m0 fullShare X0 : sProp 𝕄) ∗ owns (d.tc : Thread nD τ) m1 fullShare X1
        ∗ (iprop(owns (d.tc : Thread nD τ) m0 fullShare X0 ∗ owns (d.tc : Thread nD τ) m1 fullShare (fun _ => k2_pay1 X0 : Vec F S1x1 .f32)) -∗ Q ⟨⟩))
      ⊢ WP (cc2__tc_loss_body m0 h0 m1 h1) Q := by
  rw [cc2__tc_loss_body_eq_skeleton]
  unfold cc2__tc_loss_body_skel
  iintro ⟨H0, H1, Hk⟩
  simp only [Prog.lift, Prog.bind_op, Prog.bind_ret, smemLoad, smemLoadElt]
  iapply (own_load d _) $$ H0; iintro H0
  iapply (own_load d _) $$ H1; iintro H1
  iapply (own_store d _) $$ H1; iintro H1
  rw [wp_pure]; imodintro; iapply Hk
  isplitl [H0]; · iexact H0
  iexact H1

end Bodies

end Cert.Proof.TcBody

end
-- ==== Proof.TcData.lean ====
/-
  The two TensorCore kernels as grid pipelines: what each window holds at each grid point, and that the kernels' bodies
  keep it so.
-/
module

public import proofs.«01_k».proof.Proof.TcBody

@[expose] public section

set_option maxRecDepth 16384

noncomputable section

namespace Cert.Proof.TcData

open Cert.KernelIdeal Cert.KernelIdeal.Gen
open Cert.Proof.Common Cert.Proof.TcOps Cert.Proof.TcBody

open Idealize.ShloMosaic Idealize.ShloMosaic.TcCoe
open Idealize.ShloMosaic.Pipeline (RDat)
open Idealize.ShloMosaic.ValueIdx (ix1 ix2 ix3)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 1) (Elt F) ℕ UU ℕ

-- what the unscoped buffers of each core hold when the kernel is entered
variable (U : (c : Dev nD) → (b : Ref sig .tc) → Buf (Elt F) ((c.tc : Thread nD τ).loc b))
-- what the core then owes, none of it to a pipeline's own semaphore, and a bound on the levels of its past waits
variable (O : Dev nD → CellTallies nD τ sig (HIx 1)) (b : ℕ)

/-- The pairs of a semaphore and an index that the core may have waited at: those of level at most `b`. -/
def past (c : Dev nD) : Set (SemLoc sig × HIx 1) := {p | (K (F := F)).lev ((T c : Thread nD τ), p.1) p.2 ≤ b}

/-! ## The index kernel -/

/-- The five input blocks at a grid point. -/
def b0 (c : Dev nD) (t : Fin cfg0.N) : Vec F S1024x32 .f32 := ((cfg0.win 0).blk t).view.read (Elt F) (U c (Pipeline.arrRef spec0 0))
def b1 (c : Dev nD) (t : Fin cfg0.N) : Vec F S32x1024 .f32 := ((cfg0.win 1).blk t).view.read (Elt F) (U c (Pipeline.arrRef spec0 1))
def b2 (c : Dev nD) (t : Fin cfg0.N) : Vec F S1024x1 .i32 := ((cfg0.win 2).blk t).view.read (Elt F) (U c (Pipeline.arrRef spec0 2))
def b3 (c : Dev nD) (t : Fin cfg0.N) : Vec F S1x1024 .i32 := ((cfg0.win 3).blk t).view.read (Elt F) (U c (Pipeline.arrRef spec0 3))
def b4 (c : Dev nD) (t : Fin cfg0.N) : Vec F S1x1024 .i32 := ((cfg0.win 4).blk t).view.read (Elt F) (U c (Pipeline.arrRef spec0 4))

/-- The running least and greatest distances before grid point `n` (before the first, anything: that point resets them). -/
def mm (c : Dev nD) : ℕ → F .f32 × F .f32
  | 0 => (Scalar.ofBits .f32 0#32, Scalar.ofBits .f32 0#32)
  | n + 1 => if h : n < cfg0.N then mmStep (grid0.coords ⟨n, h⟩) (b0 U c ⟨n, h⟩) (b1 U c ⟨n, h⟩) (mm c n) else mm c n

/-- The packed bins that the kernel writes at grid point `t`, if it writes there. -/
def pk (c : Dev nD) (t : Fin cfg0.N) : Vec F S1x1024x1024 .i32 :=
  packed (b0 U c t) (b1 U c t) (b2 U c t) (b3 U c t) (b4 U c t) (mm U c (t.val + 1))

/-- The first grid point resets the running least and greatest: what they were does not matter. -/
theorem mmStep_first (c : Dev nD) (t : Fin cfg0.N) (ht : t.val = 0) (ab ab' : F .f32 × F .f32) (X3 : Vec F S1024x32 .f32) (X4 : Vec F S32x1024 .f32) :
    mmStep (grid0.coords t) X3 X4 ab = mmStep (grid0.coords t) X3 X4 ab' := by
  have h1 : cond1 (grid0.coords t) = 1#1 := by
    have : t = ⟨0, by rw [show cfg0.N = 32 from N_0]; decide⟩ := Fin.ext ht
    subst this
    decide +kernel
  unfold mmStep reset
  rw [if_pos h1, if_pos h1]

/-- The kernel's scratch and the loss kernel's staging buffers, between grid points `t - 1` and `t`. -/
def inv0 (c : Dev nD) (n : ℕ) : sProp 𝕄 :=
  iprop((∃ f : Buf (Elt F) ((c.tc : Thread nD τ).loc cc2_stg0_0), ((c.tc : Thread nD τ).loc cc2_stg0_0) ↦{fullShare} f)
    ∗ (∃ a b, ⌜n ≠ 0 → (a, b) = mm U c n⌝ ∗ scr c a b)
    ∗ (∃ f : Buf (Elt F) ((c.tc : Thread nD τ).loc cc2_stg1_0), ((c.tc : Thread nD τ).loc cc2_stg1_0) ↦{fullShare} f))

/-- The index kernel's proof data: inputs are left as found, and where the kernel writes its output block that is the
    packed bins. -/
def rd0 (c : Dev nD) : RDat τ (Elt F) (HIx 1) ℕ UU ℕ cfg0 c where
  A w := U c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => k0_cond3 (grid0.coords t) = 1#1 → X = pk U c t
  Φ t := inv0 U c t.val
  q _ := fullShare
  owed _ := O c
  recorded _ := past (F := F) b c

theorem fill_full {G : Pipeline.Grid} (w : Pipeline.Window sig G) (i : G.Coords) (h : ∀ a, w.clip i a = none) {α : Type}
    (d : w.block.Idx → α) (g : (w.xblock i).Idx → α) (j : w.block.Idx) :
    w.fill i d g j = g fun a => ⟨(j a).val, show (j a).val < (w.clip i a).extent (w.size a) by rw [h a]; exact (j a).isLt⟩ := by
  have hm : w.moved i j = true :=
    (w.moved_iff _ j).mpr fun a => by have := (j a).isLt; unfold Pipeline.Window.xsize; rw [h a]; exact this
  unfold Pipeline.Window.fill; rw [dif_pos hm]

theorem found0 (c : Dev nD) (t : Fin cfg0.N) (Y : (cfg0.win 0).block.Idx → Elt F (cfg0.win 0).elt) (h : (rd0 U O b c).Finds 0 t Y) : Y = b0 U c t := by
  obtain ⟨d, rfl⟩ := (rd0 U O b c).finds_in_eq_fetched 0 rfl (fun _ _ _ => rfl) (fun _ _ _ h => h) t Y h
  funext j
  exact fill_full (cfg0.win 0) _ (fun _ => rfl) _ _ _
theorem found1 (c : Dev nD) (t : Fin cfg0.N) (Y : (cfg0.win 1).block.Idx → Elt F (cfg0.win 1).elt) (h : (rd0 U O b c).Finds 1 t Y) : Y = b1 U c t := by
  obtain ⟨d, rfl⟩ := (rd0 U O b c).finds_in_eq_fetched 1 rfl (fun _ _ _ => rfl) (fun _ _ _ h => h) t Y h
  funext j
  exact fill_full (cfg0.win 1) _ (fun _ => rfl) _ _ _
theorem found2 (c : Dev nD) (t : Fin cfg0.N) (Y : (cfg0.win 2).block.Idx → Elt F (cfg0.win 2).elt) (h : (rd0 U O b c).Finds 2 t Y) : Y = b2 U c t := by
  obtain ⟨d, rfl⟩ := (rd0 U O b c).finds_in_eq_fetched 2 rfl (fun _ _ _ => rfl) (fun _ _ _ h => h) t Y h
  funext j
  exact fill_full (cfg0.win 2) _ (fun _ => rfl) _ _ _
theorem found3 (c : Dev nD) (t : Fin cfg0.N) (Y : (cfg0.win 3).block.Idx → Elt F (cfg0.win 3).elt) (h : (rd0 U O b c).Finds 3 t Y) : Y = b3 U c t := by
  obtain ⟨d, rfl⟩ := (rd0 U O b c).finds_in_eq_fetched 3 rfl (fun _ _ _ => rfl) (fun _ _ _ h => h) t Y h
  funext j
  exact fill_full (cfg0.win 3) _ (fun _ => rfl) _ _ _
theorem found4 (c : Dev nD) (t : Fin cfg0.N) (Y : (cfg0.win 4).block.Idx → Elt F (cfg0.win 4).elt) (h : (rd0 U O b c).Finds 4 t Y) : Y = b4 U c t := by
  obtain ⟨d, rfl⟩ := (rd0 U O b c).finds_in_eq_fetched 4 rfl (fun _ _ _ => rfl) (fun _ _ _ h => h) t Y h
  funext j
  exact fill_full (cfg0.win 4) _ (fun _ => rfl) _ _ _

theorem mm_succ (c : Dev nD) (t : Fin cfg0.N) : mm U c (t.val + 1) = mmStep (grid0.coords t) (b0 U c t) (b1 U c t) (mm U c t.val) := by
  rw [mm]; exact dif_pos t.isLt

/-- The index kernel's body keeps its proof data at every grid point. -/
theorem body0 (c : Dev nD) : (rd0 U O b c).BodyObligation (defs₀ (F := F)) 𝒱₀ none Set.univ := fun t Y hY => by
  have e0 := found0 U O b c t _ (hY 0)
  have e1 := found1 U O b c t _ (hY 1)
  have e2 := found2 U O b c t _ (hY 2)
  have e3 := found3 U O b c t _ (hY 3)
  have e4 := found4 U O b c t _ (hY 4)
  rw [bigSep_W0, bigSep_W0]
  rw [show (rd0 U O b c).Φ t.castSucc = inv0 U c t.val from rfl, show (rd0 U O b c).Φ t.succ = inv0 U c (t.val + 1) from rfl,
    show (rd0 U O b c).owesAt none t.succ = (rd0 U O b c).owesAt none t.castSucc from rfl]
  dsimp only
  unfold inv0
  iintro ⟨⟨HA, ⟨%a, %b', %hab, Hs⟩, HB⟩, Howes, H0, H1, H2, H3, H4, H5⟩
  have hmm : mmStep (grid0.coords t) (b0 U c t) (b1 U c t) (a, b') = mm U c (t.val + 1) := by
    rw [mm_succ]
    by_cases ht : t.val = 0
    · exact mmStep_first c t ht _ _ _ _
    · rw [hab ht]
  iapply (idx_body c (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3)) _ (hstage0_4 ((cfg0.slots t 4).cast nbuf0_4))
    _ (hstage0_5 ((cfg0.slots t 5).cast nbuf0_5)) (Memref.isWhole_whole _) (Y 0) (Y 1) (Y 2) (Y 3) (Y 4) (Y 5) a b' _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  iintro ⟨H0, H1, H2, H3, H4, H5, Hs⟩
  isplitl [HA HB Hs]
  · isplitl [HA]; · iexact HA
    isplitr [HB]; swap; (· iexact HB)
    iexists _; iexists _
    isplitr; swap; (· iexact Hs)
    ipureintro; intro _
    rw [e0, e1]; exact hmm
  isplitl [Howes]; · iexact Howes
  isplitl [H0]; · iexists _; isplitr; swap; (· iexact H0); ipureintro; exact rfl
  isplitl [H1]; · iexists _; isplitr; swap; (· iexact H1); ipureintro; exact rfl
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  iexists _; isplitr; swap; (· iexact H5)
  ipureintro
  intro hc
  rw [if_pos hc, e0, e1, e2, e3, e4, hmm]
  rfl

/-! ## The loss kernel -/

/-- The histograms' block: the whole array. -/
def h0 (c : Dev nD) : Vec F S2048x256 .f32 := ((cfg2.win 0).blk t2_0).view.read (Elt F) (U c (Pipeline.arrRef spec2 0))

/-- The loss kernel's proof data: the histograms are left as found, and the result is the loss of them. -/
def rd2 (c : Dev nD) : RDat τ (Elt F) (HIx 1) ℕ UU ℕ cfg2 c where
  A w := U c (Pipeline.arrRef spec2 w)
  after w t := match w with
    | ⟨0, _⟩ => fun Y X => X = Y
    | ⟨1, _⟩ => fun _ X => X = fun _ => k2_pay1 (h0 U c)
  Φ _ := Pipeline.scopedRest (Ix := HIx 1) (Name := ℕ) (U := UU) (Lvl := ℕ) (Val := Elt F) spec2 c
  q _ := fullShare
  owed _ := O c
  recorded _ := past (F := F) b c

theorem foundH (c : Dev nD) (Y : (cfg2.win 0).block.Idx → Elt F (cfg2.win 0).elt) (h : (rd2 U O b c).Finds 0 t2_0 Y) : Y = h0 U c := by
  obtain ⟨d, rfl⟩ := (rd2 U O b c).finds_in_eq_fetched 0 rfl (fun _ _ _ => rfl) (fun _ _ _ h => h) t2_0 Y h
  funext j
  exact fill_full (cfg2.win 0) _ (fun _ => rfl) _ _ _

/-- The loss kernel's body keeps its proof data. -/
theorem body2 (c : Dev nD) : (rd2 U O b c).BodyObligation (defs₀ (F := F)) 𝒱₀ none Set.univ := fun t Y hY => by
  obtain rfl := fin_N2 t
  have e0 := foundH U O b c _ (hY 0)
  rw [bigSep_W2, bigSep_W2]
  rw [show (rd2 U O b c).Φ t2_0.castSucc = (rd2 U O b c).Φ t2_0.succ from rfl,
    show (rd2 U O b c).owesAt none t2_0.succ = (rd2 U O b c).owesAt none t2_0.castSucc from rfl]
  dsimp only
  iintro ⟨HΦ, Howes, H0, H1⟩
  iapply (loss_body c _ (hstage2_0 0) _ (hstage2_1 0) (Y 0) (Y 1) _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; exact rfl
  iexists _; isplitr; swap; (· iexact H1)
  ipureintro
  rw [e0]
  rfl

end Cert.Proof.TcData

end
-- ==== Proof.TcRegion.lean ====
/-
  The two TensorCore kernels called from the program: each call takes the core's buffers from what they hold at its entry
  to what the kernel's windows may hold at its end.
-/
module

public import proofs.«01_k».proof.Proof.TcData

@[expose] public section

set_option maxRecDepth 16384

noncomputable section

namespace Cert.Proof.TcRegion

open Cert.KernelIdeal Cert.KernelIdeal.Gen
open Cert.Proof.Common Cert.Proof.TcOps Cert.Proof.TcBody Cert.Proof.TcData

open Idealize.ShloMosaic Idealize.ShloMosaic.TcCoe
open Idealize.ShloMosaic.Pipeline (RDat)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 1) (Elt F) ℕ UU ℕ

variable (U : (c : Dev nD) → (b : Ref sig .tc) → Buf (Elt F) ((c.tc : Thread nD τ).loc b))
variable (O : Dev nD → CellTallies nD τ sig (HIx 1)) (b : ℕ)

/-- The pipelines take no table. -/
abbrev adm : (p : Fin 2) → (pcfgs (F := F) p).Adm := fun p => (cfgs p).toPCfg_adm

/-- Both kernels' proof data. -/
def rdats : (p : Fin 2) → (c : Dev nD) → RDat τ (Elt F) (HIx 1) ℕ UU ℕ (Pipeline.pin (pcfgs (F := F)) adm p) c
  | ⟨0, _⟩ => fun c => rd0 U O b c
  | ⟨1, _⟩ => fun c => rd2 U O b c

/-- Contents given at distinct references, the rest as they were: one valuation has them all. -/
theorem exists_overlay {W : ℕ} (f : Fin W → Ref sig .tc) (hf : Function.Injective f) (c : Dev nD)
    (U₀ : (b : Ref sig .tc) → Buf (Elt F) ((c.tc : Thread nD τ).loc b)) (G : (w : Fin W) → Buf (Elt F) ((c.tc : Thread nD τ).loc (f w))) :
    ∃ U' : (b : Ref sig .tc) → Buf (Elt F) ((c.tc : Thread nD τ).loc b),
      (∀ w, G w = U' (f w)) ∧ ∀ b, b ∉ Finset.univ.image f → U' b = U₀ b := by
  classical
  refine ⟨fun b => if h : ∃ w, f w = b then h.choose_spec ▸ G h.choose else U₀ b, fun w => ?_, fun b hb => ?_⟩
  · have h : ∃ w', f w' = f w := ⟨w, rfl⟩
    dsimp only
    rw [dif_pos h]
    generalize hs : h.choose_spec = e
    clear hs
    generalize h.choose = w' at e ⊢
    obtain rfl := hf e
    rfl
  · dsimp only
    rw [dif_neg]
    rintro ⟨w, rfl⟩
    exact hb (Finset.mem_image.mpr ⟨w, Finset.mem_univ _, rfl⟩)

/-- What the core's buffers may hold after kernel `p`: each window's array what its write-backs may leave, the rest as before. -/
def Left (p : Fin 2) (c : Dev nD) (U' : (b : Ref sig .tc) → Buf (Elt F) ((c.tc : Thread nD τ).loc b)) : Prop :=
  (∀ w, (rdats U O b p c).ArrAt w (Pipeline.pin (pcfgs (F := F)) adm p).N (U' (Pipeline.arrRef (Pipeline.pin (pcfgs (F := F)) adm p).spec w)))
    ∧ ∀ r, r ∉ Finset.univ.image (Pipeline.arrRef (Pipeline.pin (pcfgs (F := F)) adm p).spec) → U' r = U c r

/-- Kernel `p`'s arrays at the contents `V`. -/
def arrs (p : Fin 2) (c : Dev nD) (V : (b : Ref sig .tc) → Buf (Elt F) ((c.tc : Thread nD τ).loc b)) : sProp 𝕄 :=
  bigSep Finset.univ fun w => (((c.tc : Thread nD τ).loc (Pipeline.arrRef (Pipeline.pin (pcfgs (F := F)) adm p).spec w)) ↦{fullShare}
    V (Pipeline.arrRef (Pipeline.pin (pcfgs (F := F)) adm p).spec w) : sProp 𝕄)

/-- The kernel's arrays and what the core owes, at the call of a TensorCore kernel. -/
def before (p : Fin 2) (c : Dev nD) : sProp 𝕄 :=
  iprop(arrs p c (U c) ∗ ∃ W : Waits sig (HIx 1), ⌜↑W ⊆ past (F := F) b c⌝ ∗ owes (c.tc : Thread nD τ) (O c) W)

/-- The same at its end. -/
def behind (p : Fin 2) (c : Dev nD) : sProp 𝕄 :=
  iprop((∃ U', ⌜Left U O b p c U'⌝ ∗ arrs p c U') ∗ ∃ W : Waits sig (HIx 1), ⌜↑W ⊆ past (F := F) b c⌝ ∗ owes (c.tc : Thread nD τ) (O c) W)

theorem bound_eq (p : Fin 2) (c : Dev nD) (t) (hr : (rdats U O b p c).recorded t = past (F := F) b c) :
    (rdats U O b p c).bound none t = past (F := F) b c := by
  unfold Pipeline.RDat.bound
  rw [hr]
  refine Set.union_eq_self_of_subset_right ?_
  rintro q ⟨w, s, rfl⟩
  exact Nat.zero_le _

/-- A pipeline's own wait is below all that the core owes. -/
theorem mayWait0 (hO : ∀ c g, O c g none = 0) (c : Dev nD) (sm : SemLoc sig) :
    (levAts (K (F := F)).L (K (F := F)).lev : sProp 𝕄) ⊢ MayWait (c.tc : Thread nD τ) sm none (O c) :=
  (K (F := F)).mayWait_none (thr := (c.tc : Thread nD τ)) sm (hO c)

set_option backward.isDefEq.respectTransparency.types false in
/-- Kernel `p`'s call as a region of the program. -/
def reg (p : Fin 2) (hO : ∀ c g, O c g none = 0) (lf : Pipeline.LaunchFacts (nD := nD) (τ := τ) cfgs p)
    (hbody : ∀ c, (rdats U O b p c).BodyObligation (defs₀ (F := F)) 𝒱₀ none Set.univ)
    (hq : ∀ c w, (rdats U O b p c).share w = fullShare)
    (hA : ∀ c w, (rdats U O b p c).A w = U c (Pipeline.arrRef (Pipeline.pin (pcfgs (F := F)) adm p).spec w))
    (hown : ∀ c t, (rdats U O b p c).owed t = O c) (hrec : ∀ c t, (rdats U O b p c).recorded t = past (F := F) b c)
    (hin : ∀ c, (Pipeline.scopedRest (Pipeline.pin (pcfgs (F := F)) adm p).spec c : sProp 𝕄) ⊢ (rdats U O b p c).Φ 0)
    (hout : ∀ c, (rdats U O b p c).Φ (Fin.last _) ⊢ (Pipeline.scopedRest (Pipeline.pin (pcfgs (F := F)) adm p).spec c : sProp 𝕄))
    (hpre : ∀ c, ⊢ (Pipeline.prefHeld (pcfgs (F := F) p).pre c (fun _ => fullShare) (adm (F := F) p).1 : sProp 𝕄)) :
    RDat.RegionSeg (pcfgs (F := F)) adm (rdats U O b) none defs₀ 𝒱₀ (K (F := F)).L (K (F := F)).lev p where
  win := lf.win.to₀
  block_pos := lf.block_pos
  stage_whole := lf.stage_whole
  K := PEmpty
  osem k := k.elim
  ho := Pipeline.OwnSemFacts.none _
  hbody := hbody
  hwaits c := Pipeline.RDat.cellsWaits_intro (Pipeline.pin (pcfgs (F := F)) adm) (rdats U O b) none p c fun w s t => by
    rw [hown]; exact mayWait0 O hO c _
  pre := before U O b p
  post := behind U O b p
  X _ := BI.emp
  Y _ := BI.emp
  Z _ := BI.emp
  hentry c := by
    rw [Pipeline.ownSems0_none]
    have harr := (Pipeline.RDat.arrays_eq (pcfgs (F := F)) adm (rdats U O b) p c lf.arr_whole (hq c) (rdats U O b p c).A).symm
    have hA' : arrs p c (U c) = (rdats U O b p c).arrays (rdats U O b p c).A := by
      refine Eq.trans ?_ harr
      unfold arrs
      exact bigSep_congr fun w _ => by rw [← hA c w]
    have hp := hpre c
    unfold before
    iintro ⟨⟨Hub, HO⟩, -, -⟩
    ihave Ha := (Entails.of_eq hA') $$ Hub
    imodintro
    isplitl [Ha]; · iexact Ha
    isplitr; · iapply hp
    isplitl [HO]
    · unfold Pipeline.RDat.owesAt Pipeline.owesWithin
      rw [bound_eq U O b p c _ (hrec c _), hown]
      iexact HO
    isplitr <;> iempintro
  hin c := by
    have h := hin c
    iintro ⟨-, -, Hr⟩; iapply h; iexact Hr
  hout c := by
    rw [Pipeline.ownSems0_none]
    have h := hout c
    iintro Hr
    isplitr; · iempintro
    isplitr; · iempintro
    iapply h; iexact Hr
  hexit c := by
    rw [Pipeline.RDat.arraysAt_eq (pcfgs (F := F)) adm (rdats U O b) p c lf.arr_whole (hq c)]
    unfold behind
    iintro ⟨Ha, HO, -, -⟩
    ihave Ha' := (BI.bigSep_exists_pi Finset.univ (fun w G => iprop(⌜(rdats U O b p c).ArrAt w (Pipeline.pin (pcfgs (F := F)) adm p).N G⌝
      ∗ (((c.tc : Thread nD τ).loc (Pipeline.arrRef (Pipeline.pin (pcfgs (F := F)) adm p).spec w)) ↦{fullShare} G : sProp 𝕄)))) $$ Ha
    icases Ha' with ⟨%Gs, Ha⟩
    ihave Ha2 := (BI.bigSep_pure_sep Finset.univ (fun w => (rdats U O b p c).ArrAt w (Pipeline.pin (pcfgs (F := F)) adm p).N (Gs w))
      (fun w => (((c.tc : Thread nD τ).loc (Pipeline.arrRef (Pipeline.pin (pcfgs (F := F)) adm p).spec w)) ↦{fullShare} Gs w : sProp 𝕄))) $$ Ha
    icases Ha2 with ⟨%hGs, Ha⟩
    obtain ⟨U', hU', hrest⟩ := exists_overlay (Pipeline.arrRef (Pipeline.pin (pcfgs (F := F)) adm p).spec) lf.win.arr_inj c (U c) Gs
    imodintro
    isplitl [Ha]
    · iexists U'
      isplitr
      · ipureintro
        refine ⟨fun w => ?_, hrest⟩
        rw [← hU' w]; exact hGs w (Finset.mem_univ w)
      · unfold arrs
        iapply (Entails.of_eq (show (bigSep Finset.univ fun w => (((c.tc : Thread nD τ).loc (Pipeline.arrRef (Pipeline.pin (pcfgs (F := F)) adm p).spec w)) ↦{fullShare} Gs w : sProp 𝕄))
          = bigSep Finset.univ fun w => (((c.tc : Thread nD τ).loc (Pipeline.arrRef (Pipeline.pin (pcfgs (F := F)) adm p).spec w)) ↦{fullShare} U' (Pipeline.arrRef (Pipeline.pin (pcfgs (F := F)) adm p).spec w) : sProp 𝕄)
          from bigSep_congr fun w _ => by rw [← hU' w]))
        iexact Ha
    · unfold Pipeline.RDat.owesAt Pipeline.owesWithin
      rw [bound_eq U O b p c _ (hrec c _), hown]
      iexact HO

theorem pre_none (p : Fin 2) (c : Dev nD) : ⊢ (Pipeline.prefHeld (pcfgs (F := F) p).pre c (fun _ => fullShare) (adm (F := F) p).1 : sProp 𝕄) := by
  unfold Pipeline.prefHeld
  rw [show (Finset.univ : Finset (Fin 0)) = ∅ from rfl, BI.bigSep_empty]
  iempintro

/-- The index kernel's call. -/
def reg0 (hO : ∀ c g, O c g none = 0) := reg U O b 0 hO launch0 (fun c => body0 U O b c)
  (fun c w => by unfold Pipeline.RDat.share; split <;> rfl)
  (fun _ _ => rfl) (fun _ _ => rfl) (fun _ _ => rfl)
  (fun c => by
    show (Pipeline.scopedRest spec0 c : sProp 𝕄) ⊢ inv0 U c 0
    rw [scopedRest0_eq]
    unfold inv0
    iintro ⟨HA, ⟨%f, HS⟩, HB⟩
    isplitl [HA]; · iexact HA
    isplitr [HB]; swap; (· iexact HB)
    iexists (f (ValueIdx.ix1 0)); iexists (f (ValueIdx.ix1 1))
    isplitr; · ipureintro; exact fun h => absurd rfl h
    iapply (Entails.of_eq (congrArg (fun g => (((c.tc : Thread nD τ).loc cc0_scratch0) ↦{fullShare} g : sProp 𝕄)) (mm2_eta f)))
    iexact HS)
  (fun c => by
    show inv0 U c (Fin.last cfg0.N).val ⊢ (Pipeline.scopedRest spec0 c : sProp 𝕄)
    rw [scopedRest0_eq]
    unfold inv0
    iintro ⟨HA, ⟨%x, %y, -, HS⟩, HB⟩
    isplitl [HA]; · iexact HA
    isplitr [HB]; swap; (· iexact HB)
    iexists _; iexact HS)
  (pre_none 0)

/-- The loss kernel's call. -/
def reg2 (hO : ∀ c g, O c g none = 0) := reg U O b 1 hO launch2 (fun c => body2 U O b c)
  (fun c w => by unfold Pipeline.RDat.share; split <;> rfl)
  (fun _ _ => rfl) (fun _ _ => rfl) (fun _ _ => rfl) (fun _ => .rfl) (fun _ => .rfl) (pre_none 1)

end Cert.Proof.TcRegion

end
-- ==== Proof.TcValue.lean ====
/-
  What the two TensorCore kernels leave in the arrays they write.
-/
module

public import proofs.«01_k».proof.Proof.TcRegion
public import Idealize.ShloMosaic.Lib.Pipeline.ValueKit.Geometry
public import Idealize.ShloMosaic.Lib.Pipeline.ArrRel

@[expose] public section

set_option maxRecDepth 16384

noncomputable section

namespace Cert.Proof.TcValue

open Cert.KernelIdeal Cert.KernelIdeal.Gen
open Cert.Proof.Common Cert.Proof.TcOps Cert.Proof.TcBody Cert.Proof.TcData Cert.Proof.TcRegion

open Idealize.ShloMosaic Idealize.ShloMosaic.TcCoe
open Idealize.ShloMosaic.Pipeline (RDat)
open Idealize.ShloMosaic.SparseCore.Cfg (HIx)
open Idealize.ShloMosaic.ValueIdx
open Idealize.SL Idealize.SL.RA

variable {F : FTy → Type} [FloatOps F] [Named F] [∀ e, Nonempty (Elt F e)]

variable (U : (c : Dev nD) → (b : Ref sig .tc) → Buf (Elt F) ((c.tc : Thread nD τ).loc b))
variable (O : Dev nD → CellTallies nD τ sig (HIx 1)) (b : ℕ)

/-- The grid point that writes tile `k` of the bins: the second pass at the tile's row and column of blocks. -/
def tpt (k : Fin 10) : Fin cfg0.N :=
  ⟨![16, 17, 18, 19, 21, 22, 23, 26, 27, 31] k, by rw [show cfg0.N = 32 from N_0]; revert k; decide⟩

/-- After the write-backs an element of a written block, in no block written later, is what the body left there. -/
theorem arrAt_emb {cfg : Pipeline.Cfg sig Λ₀} {c : Dev nD} (rd : RDat τ (Elt F) (HIx 1) ℕ UU ℕ cfg c) (w : Fin cfg.W)
    (t : Fin cfg.N) (hf : (cfg.win w).flush t = true) (y : ((cfg.win w).xblock (cfg.grid.coords t)).Idx) :
    ∀ (n : ℕ) (G : Buf (Elt F) ((cfg.win w).arr.view.loc (c.tc : Thread nD τ))), t.val < n →
      (∀ u : Fin cfg.N, t.val < u.val → (cfg.win w).flush u = true → ((cfg.win w).blk t).view.emb y ∉ ((cfg.win w).blk u).view.set) →
      rd.ArrAt w n G →
      ∃ X, rd.Leaves w t X ∧ G (((cfg.win w).blk t).view.emb y)
        = _root_.cast (congrArg (Elt F) ((cfg.win w).blk t).view.elt_eq.symm) ((cfg.win w).cut (cfg.grid.coords t) X y)
  | 0, _, h, _, _ => absurd h (Nat.not_lt_zero _)
  | n + 1, G, h, hl, hG => by
    unfold Pipeline.RDat.ArrAt at hG
    dsimp only at hG
    by_cases hn : n < cfg.N
    swap
    · rw [dif_neg hn] at hG
      exact arrAt_emb rd w t hf y n G (by have := t.isLt; omega) hl hG
    rw [dif_pos hn] at hG
    by_cases hfn : (cfg.win w).flush ⟨n, hn⟩ = true
    swap
    · rw [if_neg hfn] at hG
      have : t.val ≠ n := fun e => hfn (by have : t = ⟨n, hn⟩ := Fin.ext e; exact this ▸ hf)
      exact arrAt_emb rd w t hf y n G (by omega) hl hG
    rw [if_pos hfn] at hG
    obtain ⟨G₀, X, hG₀, hX, rfl⟩ := hG
    by_cases e : t.val = n
    · obtain rfl : t = ⟨n, hn⟩ := Fin.ext e
      exact ⟨X, hX, View.write_emb_of_mem _ _ (Finset.mem_univ y)⟩
    · rw [View.write_of_not_mem _ _ _ (by rw [View.setOn_univ]; exact hl ⟨n, hn⟩ (by show t.val < n; omega) hfn)]
      exact arrAt_emb rd w t hf y n G₀ (by omega) hl hG₀

theorem flush_tpt : ∀ k : Fin 10, (cfg0.win 5).flush (tpt k) = true := by decide +kernel
theorem index_tpt : ∀ k : Fin 10, (cfg0.win 5).index (tpt k) = ![k.val, 0, 0] := by decide +kernel
theorem cond_tpt : ∀ k : Fin 10, k0_cond3 (grid0.coords (tpt k)) = 1#1 := by decide +kernel
theorem flush_later : ∀ k : Fin 10, ∀ u : Fin cfg0.N, (tpt k).val < u.val → (cfg0.win 5).flush u = true →
    (cfg0.win 5).index u (0 : Fin 3) ≠ k.val := by decide +kernel

/-- The bins' array after the index kernel: tile `k` holds the packed bins of the grid point that writes it. -/
theorem left_bins (c : Dev nD) (U' : (r : Ref sig .tc) → Buf (Elt F) ((c.tc : Thread nD τ).loc r)) (h : Left U O b 0 c U')
    (k : Fin 10) (r l : Fin 1024) :
    (U' main_v13 : S10x1024x1024.Idx → BitVec 32) (ix3 k r l) = (pk U c (tpt k) : S1x1024x1024.Idx → BitVec 32) (ix3 0 r l) := by
  have hA : (rd0 U O b c).ArrAt 5 cfg0.N (U' main_v13) := h.1 5
  have hy : (((cfg0.win 5).blk (tpt k)).view.emb (ix3 (0 : Fin 1) r l : S1x1024x1024.Idx) : S10x1024x1024.Idx) = ix3 k r l := by
    funext a
    apply Fin.ext
    have e := (cfg0.win 5).rect_emb_val (tpt k) (ix3 (0 : Fin 1) r l : S1x1024x1024.Idx) a
    rw [index_tpt k] at e
    refine Eq.trans e ?_
    fin_cases a
    · show k.val * 1 + 0 = k.val; omega
    · show 0 * 1024 + r.val = r.val; omega
    · show 0 * 1024 + l.val = l.val; omega
  obtain ⟨X, ⟨Y, hY, hX⟩, hG⟩ := arrAt_emb (rd0 U O b c) 5 (tpt k) (flush_tpt k) (ix3 (0 : Fin 1) r l : S1x1024x1024.Idx) cfg0.N (U' main_v13)
    (tpt k).isLt (fun u hu hfu hm => by
      have hm' := ((cfg0.win 5).emb_mem_blk_iff u (ix3 k r l : S10x1024x1024.Idx)).mp (by rw [← hy]; exact hm)
      have h0 := hm' (0 : Fin 3)
      apply flush_later k u hu hfu
      have h1 : (cfg0.win 5).index u (0 : Fin 3) * 1 ≤ k.val := h0.1
      have h2 : k.val < (cfg0.win 5).index u (0 : Fin 3) * 1 + 1 := h0.2
      omega) hA
  have hX' : X = pk U c (tpt k) := hX (cond_tpt k)
  subst hX'
  rw [hy] at hG
  exact hG

/-- The other arrays keep what they held. -/
theorem left_rest (c : Dev nD) (U' : (r : Ref sig .tc) → Buf (Elt F) ((c.tc : Thread nD τ).loc r)) (h : Left U O b 0 c U')
    (r : Ref sig .tc) (hr : r ≠ main_v13) : U' r = U c r := by
  by_cases hm : r ∈ Finset.univ.image (Pipeline.arrRef (Pipeline.pin (pcfgs (F := F)) adm 0).spec)
  · obtain ⟨w, -, rfl⟩ := Finset.mem_image.mp hm
    have hw := h.1 w
    have hin : ((Pipeline.pin (pcfgs (F := F)) adm 0).win w).isOut = false := by
      revert hr
      fin_cases w
      · exact fun _ => rfl
      · exact fun _ => rfl
      · exact fun _ => rfl
      · exact fun _ => rfl
      · exact fun _ => rfl
      · exact fun hr => absurd rfl hr
    rw [Pipeline.RDat.ArrAt_in _ w hin] at hw
    exact hw
  · exact h.2 r hm

theorem whole_loss : (cfg2.win 1).WholeAt t2_0 := by decide +kernel

theorem h0_eq (c : Dev nD) : (h0 U c : S2048x256.Idx → F .f32) = U c main_v16 := by
  funext j
  unfold h0
  rw [View.read_apply]
  have : (((cfg2.win 0).blk t2_0).view.emb j : S2048x256.Idx) = j := by
    funext a
    apply Fin.ext
    have e := (cfg2.win 0).rect_emb_val t2_0 j a
    refine Eq.trans e ?_
    fin_cases a
    · show 0 * 2048 + _ = _; omega
    · show 0 * 256 + _ = _; omega
  rw [this]
  rfl

/-- The loss' array after the last kernel. -/
theorem left_loss (c : Dev nD) (U' : (r : Ref sig .tc) → Buf (Elt F) ((c.tc : Thread nD τ).loc r)) (h : Left U O b 1 c U') :
    (U' main_v17 : S1x1.Idx → F .f32) = fun _ => k2_pay1 (U c main_v16 : S2048x256.Idx → F .f32) := by
  have hA : (rd2 U O b c).ArrAt 1 cfg2.N (U' main_v17) := h.1 1
  obtain ⟨X, ⟨Y, hY, hX⟩, hG⟩ := Pipeline.RDat.ArrAt.emb_eq_of_wholeAt (rd := rd2 U O b c) hA whole_loss
  have hX' : X = fun _ => k2_pay1 (h0 U c) := hX
  subst hX'
  funext j
  rw [h0_eq] at hG
  exact hG j

/-- The other arrays keep what they held. -/
theorem left_rest2 (c : Dev nD) (U' : (r : Ref sig .tc) → Buf (Elt F) ((c.tc : Thread nD τ).loc r)) (h : Left U O b 1 c U')
    (r : Ref sig .tc) (hr : r ≠ main_v17) : U' r = U c r := by
  by_cases hm : r ∈ Finset.univ.image (Pipeline.arrRef (Pipeline.pin (pcfgs (F := F)) adm 1).spec)
  · obtain ⟨w, -, rfl⟩ := Finset.mem_image.mp hm
    have hw := h.1 w
    have hin : ((Pipeline.pin (pcfgs (F := F)) adm 1).win w).isOut = false := by
      revert hr
      fin_cases w
      · exact fun _ => rfl
      · exact fun hr => absurd rfl hr
    rw [Pipeline.RDat.ArrAt_in _ w hin] at hw
    exact hw
  · exact h.2 r hm

end Cert.Proof.TcValue

end
-- ==== Proof.Tile.lean ====
/-
  The SparseCore kernel on one tile: from a read share of the packed bins and its row of the result, at any contents, it
  leaves that row at its histogram (`Common.hist`). The proof is at a symbolic tile, and follows the kernel's text: a
  double-buffered loop over the tile's twenty chunks, each fetched by a copy of its own and scattered sixteen words at a
  time into the histogram that the tile keeps in its own memory.
-/
module

public import proofs.«01_k».proof.Proof.Common
public import Idealize.ShloMosaic.Lib.ValueLayout
public import Idealize.ShloMosaic.Lib.Pipeline.Value

@[expose] public section

set_option maxRecDepth 4096

noncomputable section

namespace Cert.Proof.Tile

open Cert.KernelIdeal Cert.KernelIdeal.Gen Cert.Proof.Common

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-! ## The tile's places -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's row. -/
abbrev wL (L : grid1.Coords) : Fin 32 := wid (Fin.cast bound_zero (L 0)) (Fin.cast bound_one (L 1))

/-- The tile's scratch: the two chunk buffers and the histogram. -/
abbrev sA : Memref sig .scVector .vmem S16384 .i32 := Memref.whole cc1_scratch0
abbrev sB : Memref sig .scVector .vmem S16384 .i32 := Memref.whole cc1_scratch1
abbrev sH : Memref sig .scVector .vmem S16384 .f32 := Memref.whole cc1_scratch2

/-- A chunk of the packed bins, as the kernel addresses it. -/
abbrev slabAt (off : Fin 3 → Nat) (h : ∀ a, off a + S1x1x16384.size a ≤ S32x20x16384.size a) : Memref sig .scVector .hbm S16384 .i32 :=
  ((xV : Memref sig .scVector .hbm S32x20x16384 .i32).slice (Rect.unit (s := S32x20x16384) off S1x1x16384.size h) (fun _ => rfl)).squeeze S16384
    squeezes_S1x1x16384_S16384
/-- A row of the result, as the kernel addresses it. -/
abbrev rowAt (off : Fin 2 → Nat) (h : ∀ a, off a + S1x16384.size a ≤ S32x16384.size a) : Memref sig .scVector .hbm S16384 .f32 :=
  ((oV : Memref sig .scVector .hbm S32x16384 .f32).slice (Rect.unit (s := S32x16384) off S1x16384.size h) (fun _ => rfl)).squeeze S16384
    squeezes_S1x16384_S16384

/-- Chunk `ci` of row `w` of the packed bins. -/
def chunk (X : S32x20x16384.Idx → BitVec 32) (w : Fin 32) (ci : ℕ) : S16384.Idx → BitVec 32 :=
  fun j => X (ix3 w (Fin.ofNat 20 ci) (j 0))

omit [FloatOps F] [Named F] in
/-- What a chunk's copy reads. -/
theorem slab_read (X : S32x20x16384.Idx → BitVec 32) (off : Fin 3 → Nat) (h) (w : Fin 32) (ci : ℕ) (hci : ci < 20) (ho : off = ![w.val, ci, 0]) :
    (slabAt off h).view.read (Elt F) (X : Buf (Elt F) (xLoc 0)) = (chunk X w ci : Vec F S16384 .i32) := by
  subst ho
  funext j
  rw [View.read_apply]
  refine (cast_eq _ _).trans (congrArg X ?_)
  have hj : (j 0).val < 16384 := (j 0).isLt
  show (Rect.unit (s := S32x20x16384) ![w.val, ci, 0] S1x1x16384.size h).emb (Shape.reshapeEquiv squeezes_S1x1x16384_S16384.numel_eq j) = _
  rw [show Shape.reshapeEquiv squeezes_S1x1x16384_S16384.numel_eq j = (ix3 (0 : Fin 1) (0 : Fin 1) (j 0 : Fin 16384) : S1x1x16384.Idx) from by
    apply Shape.reshapeEquiv_eq_of_rowMajor
    rw [Shape.rowMajor_val_three, Shape.rowMajor_val_one]
    simp]
  funext a
  apply Fin.ext
  rw [Rect.emb_apply]
  match a with
  | 0 => simp
  | 1 => show ci + 1 * 0 = ci % 20; omega
  | 2 => simp

theorem rowAt_set (L : grid1.Coords) : (rowAt (k1_off8 L) (k1_off8_inb L)).view.set = rowSet (wL L) := by
  show (((oV : Memref sig .scVector .hbm S32x16384 .f32).view.slice (Rect.unit (s := S32x16384) (k1_off8 L) S1x16384.size (k1_off8_inb L))).reshape S16384 squeezes_S1x16384_S16384.numel_eq).set
    = ((oV : Memref sig .scVector .hbm S32x16384 .f32).view.slice (row (wL L))).set
  rw [View.set_reshape]
  have e : Rect.unit (s := S32x16384) (k1_off8 L) S1x16384.size (k1_off8_inb L) = row (wL L) := by
    unfold row Rect.part Rect.block
    congr 1 <;> funext a
    · rw [k1_off8_eq]
      match a with
      | 0 => simp [Shape.partIx, Shape.partSize, wL, wid]; rfl
      | 1 => simp [Shape.partIx, Shape.partSize]
    · match a with
      | 0 => simp [Shape.partSize]
      | 1 => simp [Shape.partSize]
  exact e ▸ rfl

theorem rowAt_emb (L : grid1.Coords) (j : S16384.Idx) :
    (rowAt (k1_off8 L) (k1_off8_inb L)).view.emb j = (ix2 (wL L) (j 0) : S32x16384.Idx) := by
  have hj : (j 0).val < 16384 := (j 0).isLt
  show (Rect.unit (s := S32x16384) (k1_off8 L) S1x16384.size (k1_off8_inb L)).emb (Shape.reshapeEquiv squeezes_S1x16384_S16384.numel_eq j) = _
  rw [show Shape.reshapeEquiv squeezes_S1x16384_S16384.numel_eq j = (ix2 (0 : Fin 1) (j 0 : Fin 16384) : S1x16384.Idx) from by
    apply Shape.reshapeEquiv_eq_of_rowMajor
    rw [Shape.rowMajor_val_two, Shape.rowMajor_val_one]
    simp]
  funext a
  apply Fin.ext
  rw [Rect.emb_apply]
  match a with
  | 0 => simp [k1_off8_eq, wL, wid]; rfl
  | 1 => simp [k1_off8_eq]

/-- What the row holds once the tile's histogram has been written over it. -/
theorem row_write (X : S32x20x16384.Idx → BitVec 32) (L : grid1.Coords) (f : Buf (Elt F) (oLoc 0)) :
    ∀ i ∈ rowSet (wL L), (rowAt (k1_off8 L) (k1_off8_inb L)).view.write (Elt F) f
      (histN X (wL L) 20480 : Vec F S16384 .f32) Finset.univ i = (hist X : Buf (Elt F) (oLoc 0)) i := by
  intro i hi
  rw [← rowAt_set] at hi
  obtain ⟨j, -, rfl⟩ := Finset.mem_map.mp hi
  rw [View.write_emb_of_mem _ _ (Finset.mem_univ j)]
  rw [rowAt_emb]
  refine (cast_eq _ _).trans ?_
  exact congrArg (histN X (wL L) 20480) (eq_ix1 j)

/-- The sixteen words at offset `16 * t` of chunk `ci` are what scatter `1024 * ci + t` reads. -/
theorem load_chunk (X : S32x20x16384.Idx → BitVec 32) (w : Fin 32) (ci t : ℕ) (ht : t < 1024) (off : Fin 1 → Nat) (h : ∀ a, off a + S16.size a ≤ S16384.size a)
    (ho : off = ![16 * t]) (x : S16.Idx) :
    chunk X w ci ((Rect.unit (s := S16384) off S16.size h).toLoadRect.idx x) = vec X w (1024 * ci + t) x := by
  subst ho
  have hx : (x 0).val < 16 := (x 0).isLt
  unfold chunk vec
  have e1 : (1024 * ci + t) / 1024 = ci := by omega
  have e2 : (1024 * ci + t) % 1024 = t := by omega
  rw [e1, e2]
  congr 2
  apply Fin.ext
  rw [LoadRect.idx_apply]
  show 16 * t + 1 * (x 0).val = (16 * t + (x 0).val) % 16384
  omega

theorem readAtA (f : Buf (Elt F) ((V 0 0 0 : Thread nD τ).loc cc1_scratch0)) (r : LoadRect S16384) :
    (sA : Memref sig .scVector .vmem S16384 .i32).view.readAt (Elt F) r f = fun x => (f : S16384.Idx → BitVec 32) (r.idx x) := by
  funext x
  simp only [View.readAt_apply, Memref.view_whole, View.read_whole]
theorem readAtB (f : Buf (Elt F) ((V 0 0 0 : Thread nD τ).loc cc1_scratch1)) (r : LoadRect S16384) :
    (sB : Memref sig .scVector .vmem S16384 .i32).view.readAt (Elt F) r f = fun x => (f : S16384.Idx → BitVec 32) (r.idx x) := by
  funext x
  simp only [View.readAt_apply, Memref.view_whole, View.read_whole]

/-- Every packed bin is below 16384 words' worth: what makes each scatter's side condition hold. -/
def Below (X : S32x20x16384.Idx → BitVec 32) : Prop := ∀ i, (X i).toNat < 16384

theorem chk_vec {X : S32x20x16384.Idx → BitVec 32} (hX : Below X) (w : Fin 32) (n : ℕ) :
    ∀ a x, ((![vec X w n] : Fin 1 → IVec S16 32) a x).toNat < S16384.size a := by
  intro a x
  obtain rfl : a = 0 := Subsingleton.elim _ _
  exact hX _

theorem hstep_of {h : S16384.Idx → F .f32} {v : IVec S16 32} {x : FVec F S16 .f32}
    (hc : ∀ a y, ((![v] : Fin 1 → IVec S16 32) a y).toNat < S16384.size a) :
    storeIdx (s := S16384) (e := .f32) (h : Vec F S16384 .f32) ![v] (x : Vec F S16 .f32) (fun _ => 1#1) true hc = hstep h v x := by
  unfold hstep; rw [dif_pos hc]

/-- The chunk's weight as the kernel computes it at the head of a trip (even chunks) … -/
theorem pay4_eq (L : grid1.Coords) (t : Fin k1_t2_loop.trips) :
    k1_pay4 (F := F) (Scalar.addi (Scalar.muli (BitVec.ofNat 32 (L 1).val) 2#32) (BitVec.ofNat 32 (L 0).val)) 0#32 1#32 t
      = wsc ((wL L).val * 20 + 2 * t.val) := by
  have h : ∀ (L : grid1.Coords) (t : Fin k1_t2_loop.trips),
      Scalar.addi (Scalar.muli (Scalar.addi (Scalar.muli (BitVec.ofNat 32 (L 1).val) 2#32) (BitVec.ofNat 32 (L 0).val)) 20#32)
        (Scalar.muli (Scf.iv 0#32 1#32 t) 2#32) = BitVec.ofNat 32 ((wL L).val * 20 + 2 * t.val) := by decide +kernel
  unfold wsc
  rw [← h L t]
  rfl

/-- … and in its middle (odd chunks). -/
theorem v62_eq (L : grid1.Coords) (t : Fin k1_t2_loop.trips) :
    Scalar.addi (Scalar.muli (Scalar.addi (Scalar.muli (BitVec.ofNat 32 (L 1).val) 2#32) (BitVec.ofNat 32 (L 0).val)) 20#32)
        (Scalar.addi (Scalar.muli (Scf.iv 0#32 1#32 t) 2#32) 1#32) = BitVec.ofNat 32 ((wL L).val * 20 + (2 * t.val + 1)) := by
  revert L t; decide +kernel

theorem pay3_eq (n : ℕ) (v79 : BitVec 32) (v84 : BitVec 1) (h79 : v79 = tileW (BitVec.ofNat 32 n))
    (h84 : v84 = Scalar.ori (Scalar.ori (Scalar.cmpi .eq v79 0#32) (Scalar.cmpi .eq v79 4#32)) (Scalar.cmpi .eq v79 7#32)) :
    k1_pay3 (F := F) v79 v84 = wvec n := by
  subst h84 h79; rfl

theorem cond1_iff (t : Fin k1_t2_loop.trips) : k1_cond1 t = 1#1 ↔ t.val + 1 < 10 := by
  revert t; decide +kernel

/-! ## The tile's own resources -/

section Body

variable (d : Dev nD) (L : grid1.Coords)

/-- The tile's thread. -/
abbrev thr : Thread nD τ := V d (cV L) (jV L)

abbrev cAcell : GSem nD τ sig := (thr d L, .dma cc1_scratch3.sem)
abbrev cBcell : GSem nD τ sig := (thr d L, .dma cc1_scratch4.sem)
abbrev cOcell : GSem nD τ sig := (thr d L, .dma cc1_scoped0.sem)

theorem ownSems0_V :
    (ownSems0 (thr d L) : sProp 𝕄)
      = iprop(semVal (cAcell d L) 0 ∗ semVal (cBcell d L) 0 ∗ semVal (cOcell d L) 0
          ∗ bigSep ((((ownCells (thr d L)).erase (cAcell d L)).erase (cBcell d L)).erase (cOcell d L)) fun g => semVal g 0) := by
  unfold SparseCore.Cfg.ownSems0
  rw [SparseCore.bigSep_erase' ((mem_ownCells (g := cAcell d L)).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scratch4.sem : SemLoc sig).isScoped .scVector = true; decide⟩⟩),
    SparseCore.bigSep_erase' (Finset.mem_erase.mpr ⟨by simp [cBcell, cOcell]; decide, Finset.mem_erase.mpr ⟨by simp [cAcell, cOcell]; decide,
      (mem_ownCells (g := cOcell d L)).mpr ⟨rfl, by show (SemLoc.dma cc1_scoped0.sem : SemLoc sig).isScoped .scVector = true; decide⟩⟩⟩)]

/-- The three scratch buffers are among the tile's own. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The scratch buffers, at given contents. -/
abbrev aPts (f : S16384.Idx → BitVec 32) : sProp 𝕄 := (thr d L).loc cc1_scratch0 ↦{fullShare} (f : Buf (Elt F) ((thr d L).loc cc1_scratch0))
abbrev bPts (f : S16384.Idx → BitVec 32) : sProp 𝕄 := (thr d L).loc cc1_scratch1 ↦{fullShare} (f : Buf (Elt F) ((thr d L).loc cc1_scratch1))
abbrev hPts (f : S16384.Idx → F .f32) : sProp 𝕄 := (thr d L).loc cc1_scratch2 ↦{fullShare} (f : Buf (Elt F) ((thr d L).loc cc1_scratch2))

theorem pts_sA_univ (f : S16384.Idx → BitVec 32) :
    ((sA : Memref sig .scVector .vmem S16384 .i32).view.loc (thr d L) ↦{fullShare} (f : Buf (Elt F) ((thr d L).loc cc1_scratch0)) : sProp 𝕄) = aPts d L f := rfl
theorem pts_sB_univ (f : S16384.Idx → BitVec 32) :
    ((sB : Memref sig .scVector .vmem S16384 .i32).view.loc (thr d L) ↦{fullShare} (f : Buf (Elt F) ((thr d L).loc cc1_scratch1)) : sProp 𝕄) = bPts d L f := rfl
theorem pts_sH_univ (f : S16384.Idx → F .f32) :
    ((sH : Memref sig .scVector .vmem S16384 .f32).view.loc (thr d L) ↦{fullShare} (f : Buf (Elt F) ((thr d L).loc cc1_scratch2)) : sProp 𝕄) = hPts d L f := rfl
theorem pts_sH_set (f : S16384.Idx → F .f32) :
    ((sH : Memref sig .scVector .vmem S16384 .f32).view.loc (thr d L) ↦[(sH : Memref sig .scVector .vmem S16384 .f32).view.set]{fullShare} (f : Buf (Elt F) ((thr d L).loc cc1_scratch2)) : sProp 𝕄) = hPts d L f := by
  simp only [Memref.view_whole, View.set_whole]
theorem pts_sH_whole (f : S16384.Idx → F .f32) :
    (((sH : Memref sig .scVector .vmem S16384 .f32).access (.whole S16384)).loc (thr d L) ↦[((sH : Memref sig .scVector .vmem S16384 .f32).access (.whole S16384)).set]{fullShare} (f : Buf (Elt F) ((thr d L).loc cc1_scratch2)) : sProp 𝕄)
      = hPts d L f := by
  rw [show ((sH : Memref sig .scVector .vmem S16384 .f32).access (.whole S16384)).set = Finset.univ from Memref.set_access_whole (cc1_scratch2 : Ref sig .scVector)]

/-! ## The loops -/

/-- Zeroing: after `k` trips the first `16 * k` words are zero. -/
def zInv (k : ℕ) : sProp 𝕄 :=
  iprop(∃ f : S16384.Idx → F .f32, ⌜∀ j, (j 0).val < 16 * k → f j = Scalar.ofBits .f32 0x00000000#32⌝ ∗ hPts d L f)

theorem zero_step (k : Fin k1_t1_loop.trips) (acc : BitVec 32) :
    zInv (F := F) d L k.val ⊢ wp frame (wpE (defs₀ (F := F)) 𝒱₀ (thr d L) none) Set.univ
      (k1_t1_body L xV (Memref.isWhole_whole _) oV (Memref.isWhole_whole _) sA (Memref.isWhole_whole _) sB (Memref.isWhole_whole _)
        sH (Memref.isWhole_whole _) cc1_scratch3 cc1_scratch4 cc1_scoped0 k acc) fun _ => zInv (F := F) d L (k.val + 1) := by
  unfold k1_t1_body
  simp only [Prog.lift, Prog.bind_op, Prog.bind_ret, Prog.pure_eq_ret]
  unfold zInv
  iintro ⟨%f, %hf, H⟩
  ihave H' := (Entails.of_eq (pts_sH_univ (F := F) d L f).symm) $$ H
  iapply (wp_load 𝒱₀ (thr d L) none Set.univ (m := (sH : Memref sig .scVector .vmem S16384 .f32)) (S := Finset.univ) (Finset.subset_univ _)) $$ H'; iintro H'
  iapply (wp_store 𝒱₀ (thr d L) none Set.univ (m := (sH : Memref sig .scVector .vmem S16384 .f32)) (r := Rect.unit (s := S16384) (k1_off2 k) S16.size (k1_off2_inb k)) (Mk := Finset.univ) (S := Finset.univ) (Finset.subset_univ _)) $$ H'; iintro H'
  rw [wp_ret]; imodintro
  iexists _
  isplitr
  rotate_left
  · iexact H'
  ipureintro
  intro j hj
  set r := Rect.unit (s := S16384) (k1_off2 k) S16.size (k1_off2_inb k) with hr
  have hoff : r.off 0 = 16 * k.val := by rw [hr]; show k1_off2 k 0 = _; rw [k1_off2_eq]; rfl
  by_cases hm : (j 0).val < 16 * k.val
  · have h1 := View.read_writes_cons_miss_of_axis (Val := Elt F) (sH : Memref sig .scVector .vmem S16384 .f32).view f ⟨r, (k1_pay2 (F := F) : r.shape.Idx → Elt F .f32)⟩ [] j 0 (16 * k.val) 16 hoff rfl rfl (.inl hm)
    exact h1.trans (hf j hm)
  · have hx : (j 0).val - 16 * k.val < 16 := by omega
    have h1 := View.read_writes_cons_hit_of_coords (Val := Elt F) (sH : Memref sig .scVector .vmem S16384 .f32).view f r (k1_pay2 (F := F) : r.shape.Idx → Elt F .f32) [] (ix1 (⟨(j 0).val - 16 * k.val, hx⟩ : Fin 16)) j (by
      intro a
      obtain rfl : a = 0 := Subsingleton.elim _ _
      rw [hoff]
      show (j 0).val = 16 * k.val + 1 * ((j 0).val - 16 * k.val)
      omega)
    exact h1

end Body

end Cert.Proof.Tile

end
-- ==== Proof.Bins.lean ====
/-
  The packed bins of a tile, element by element, and that they are all below the histogram's length.
-/
module

public import proofs.«01_k».proof.Proof.TcValue
public import proofs.«01_k».proof.Proof.Host
public import proofs.«01_k».proof.Proof.Tile

@[expose] public section

set_option maxRecDepth 16384

noncomputable section

namespace Cert.Proof.Bins

open Cert.KernelIdeal Cert.KernelIdeal.Gen
open Cert.Proof.Common Cert.Proof.TcOps Cert.Proof.TcBody Cert.Proof.TcData Cert.Proof.TcValue

open Idealize.ShloMosaic Idealize.ShloMosaic.TcCoe
open Idealize.ShloMosaic.ValueIdx

variable {F : FTy → Type} [FloatOps F] [Named F]

/-- The bin of the distance `z`, `lo` the least one and `inv` one over a bin's width: clamped to 0 … 99. -/
def bin1 (z lo inv : F .f32) : BitVec 32 :=
  IntOp.minsi 99#32 (IntOp.maxsi 0#32 (FloatOps.fptosi 32 (FloatOps.floor (FloatOps.mulf (FloatOps.subf z lo) inv))))

/-- The inverse of a bin's width, of the least distance and of the greatest distance's square and that square's inverse root. -/
def inv1 (lo v55 v56 : F .f32) : F .f32 :=
  let st := Scalar.mulf (Scalar.subf (Scalar.mulf v55 (Scalar.mulf v56 (Scalar.subf (Scalar.ofBits .f32 0x3FC00000#32)
    (Scalar.mulf (Scalar.mulf (Scalar.mulf (Scalar.ofBits .f32 0x3F000000#32) v55) v56) v56)))) lo) (Named.named κ "hundredth" 0x3C23D70A#32)
  let y := Scalar.divf (Scalar.ofBits .f32 0x3F800000#32) st
  Scalar.mulf y (Scalar.subf (Scalar.ofBits .f32 0x40000000#32) (Scalar.mulf st y))

/-- A selection by the equality of two words. -/
theorem eq_word (x y : BitVec 32) : Scalar.select (IntOp.cmpi .eq x y) 100#32 0#32 = if x = y then 100#32 else 0#32 := by
  by_cases h : x = y
  · rw [if_pos h, h]; simp [Scalar.select, IntOp.cmpi]
  · rw [if_neg h]
    have : (x == y) = false := by simpa using h
    simp [Scalar.select, IntOp.cmpi, this]

/-- A bin is one of 0 … 99. -/
theorem clamp_lt (z : BitVec 32) : (IntOp.minsi 99#32 (IntOp.maxsi 0#32 z)).toNat < 100 := by
  unfold IntOp.minsi IntOp.maxsi
  by_cases h : z.slt 0#32 = true
  · rw [if_pos h]; decide
  · rw [if_neg h]
    have hz : ¬ z.toInt < 0 := by simpa [BitVec.slt] using h
    by_cases h2 : (99#32).slt z = true
    · rw [if_pos h2]; decide
    · rw [if_neg h2]
      have hz2 : ¬ (99 : ℤ) < z.toInt := by simpa [BitVec.slt] using h2
      have := BitVec.toInt_eq_toNat_cond z
      have := z.isLt
      split at * <;> omega

theorem bin1_lt (z lo inv : F .f32) : (bin1 z lo inv).toNat < 100 := clamp_lt _

theorem sum_lt (x y z : BitVec 32) (hx : x.toNat < 100) (hy : y.toNat ≤ 100) (hz : z.toNat ≤ 16128) : (x + y + z).toNat < 16384 := by
  rw [BitVec.toNat_add, BitVec.toNat_add]; omega

/-- One packed bin: the distance's bin, 100 more where the two labels are equal, and the lane's offset. -/
theorem packed_apply (X3 : Vec F S1024x32 .f32) (X4 : Vec F S32x1024 .f32) (X5 : Vec F S1024x1 .i32) (X6 X7 : Vec F S1x1024 .i32)
    (ab : F .f32 × F .f32) (r l : Fin 1024) :
    (packed X3 X4 X5 X6 X7 ab : S1x1024x1024.Idx → BitVec 32) (ix3 0 r l)
      = bin1 (k0_pay5 X3 X4 (ix2 r l)) (k0_pay6 ab.1) (inv1 (k0_pay6 ab.1) (k0_pay7 ab.2) (k0_pay8 ab.2))
        + (if (X5 (ix2 r 0) : BitVec 32) = X6 (ix2 0 l) then 100#32 else 0#32) + (X7 (ix2 0 l) : BitVec 32) := by
  unfold packed k0_pay4
  simp only [shapeCast_self]
  refine (shapeCast_addUnit_apply (![1024, 1024] : Fin 2 → ℕ) _ shapeCasts_S1024x1024_S1x1024x1024 _).trans ?_
  have e : (fun a : Fin 2 => (ix3 (0 : Fin 1) r l : S1x1024x1024.Idx) a.succ) = (ix2 r l : S1024x1024.Idx) := by
    funext a; fin_cases a <;> rfl
  rw [show (fun a : Fin 2 => (ix3 (0 : Fin 1) r l : S1x1024x1024.Idx) a.succ) = (ix2 r l : S1024x1024.Idx) from e]
  have e5 := broadcastTo_apply (t := S1024x1024) X5 broadcasts_S1024x1_S1024x1024 (ix2 r l) (ix2 r 0) (by
    intro a; fin_cases a <;> rfl)
  have e6 := broadcastTo_apply (t := S1024x1024) X6 broadcasts_S1x1024_S1024x1024 (ix2 r l) (ix2 0 l) (by
    intro a; fin_cases a <;> rfl)
  have e7 := broadcastTo_apply (t := S1024x1024) X7 broadcasts_S1x1024_S1024x1024 (ix2 r l) (ix2 0 l) (by
    intro a; fin_cases a <;> rfl)
  show (_ : BitVec 32) + Scalar.select (IntOp.cmpi .eq (broadcastTo S1024x1024 X5 broadcasts_S1024x1_S1024x1024 (ix2 r l))
    (broadcastTo S1024x1024 X6 broadcasts_S1x1024_S1024x1024 (ix2 r l))) 100#32 0#32
    + (broadcastTo S1024x1024 X7 broadcasts_S1x1024_S1024x1024 (ix2 r l) : BitVec 32) = _
  rw [e5, e6, e7]
  congr 1
  congr 1
  exact eq_word _ _

section Arrays

variable [∀ e, Nonempty (Elt F e)]
variable (U : (c : Dev nD) → (b : Ref sig .tc) → Buf (Elt F) ((c.tc : Thread nD τ).loc b)) (c : Dev nD)

/-- All ten tiles of the packed bins, as the index kernel leaves them. -/
def bins : S10x1024x1024.Idx → BitVec 32 := fun i => (pk U c (tpt (i 0)) : S1x1024x1024.Idx → BitVec 32) (ix3 0 (i 1) (i 2))

/-- The same as the 32 rows of 20 chunks that the SparseCore call reads. -/
def rows : S32x20x16384.Idx → BitVec 32 := shapeCast S32x20x16384 (bins U c) shapeCasts_S10x1024x1024_S32x20x16384

theorem idx_v12 : ∀ t : Fin cfg0.N, (cfg0.win 4).index t = ![0, 0] := by decide +kernel

theorem b4_eq (t : Fin cfg0.N) : (b4 U c t : S1x1024.Idx → BitVec 32) = U c main_v12 := by
  funext j
  unfold b4
  rw [View.read_apply]
  have : (((cfg0.win 4).blk t).view.emb j : S1x1024.Idx) = j := by
    funext a
    apply Fin.ext
    have e := (cfg0.win 4).rect_emb_val t j a
    rw [idx_v12 t] at e
    refine Eq.trans e ?_
    fin_cases a
    · show 0 * 1 + _ = _; omega
    · show 0 * 1024 + _ = _; omega
  rw [this]
  rfl

theorem boff_toNat (j : S1x1024.Idx) : (Host.boff j).toNat = (((j 1).val % 16) + 16 * (((j 1).val / 16) % 4)) * 256 := by
  unfold Host.boff
  rw [BitVec.toNat_ofNat]
  exact Nat.mod_eq_of_lt (by have := Nat.mod_lt (j 1).val (show 16 > 0 by decide); have := Nat.mod_lt ((j 1).val / 16) (show 4 > 0 by decide); omega)

/-- A packed bin is a word of the histogram. -/
theorem bin_below (h12 : (U c main_v12 : S1x1024.Idx → BitVec 32) = Host.boff) (t : Fin cfg0.N) (r l : Fin 1024) :
    ((pk U c t : S1x1024x1024.Idx → BitVec 32) (ix3 0 r l)).toNat < 16384 := by
  unfold pk
  rw [b4_eq, h12]
  refine lt_of_eq_of_lt (congrArg BitVec.toNat (packed_apply _ _ _ _ _ _ r l)) ?_
  have h1 := bin1_lt (k0_pay5 (b0 U c t) (b1 U c t) (ix2 r l)) (k0_pay6 (mm U c (t.val + 1)).1)
    (inv1 (k0_pay6 (mm U c (t.val + 1)).1) (k0_pay7 (mm U c (t.val + 1)).2) (k0_pay8 (mm U c (t.val + 1)).2))
  have h2 := boff_toNat (ix2 0 l)
  have h3 : (((ix2 0 l : S1x1024.Idx) 1).val % 16) < 16 := Nat.mod_lt _ (by decide)
  have h4 : (((ix2 0 l : S1x1024.Idx) 1).val / 16 % 4) < 4 := Nat.mod_lt _ (by decide)
  have h5 : (if (b2 U c t (ix2 r 0) : BitVec 32) = b3 U c t (ix2 0 l) then 100#32 else 0#32).toNat ≤ 100 := by
    split <;> decide
  exact sum_lt _ _ _ (by omega) h5 (by omega)

/-- Every packed bin is a word of the histogram. -/
theorem rows_below (h12 : (U c main_v12 : S1x1024.Idx → BitVec 32) = Host.boff) : Tile.Below (rows U c) := by
  intro i
  unfold rows shapeCast
  generalize Shape.reshapeEquiv shapeCasts_S10x1024x1024_S32x20x16384 i = k
  exact bin_below U c h12 (tpt (k 0)) (k 1) (k 2)

end Arrays

end Cert.Proof.Bins

end
-- ==== Proof.TileBody.lean ====
/-
  The SparseCore kernel on one tile, continued: the scatter loops, the double-buffered loop over the chunks, and the
  whole task (`tile_body`), then the launch theorem's obligation for the call (`tileObl`).
-/
module

public import proofs.«01_k».proof.Proof.Tile

@[expose] public section

set_option maxRecDepth 4096

noncomputable section

namespace Cert.Proof.Tile

open Cert.KernelIdeal Cert.KernelIdeal.Gen Cert.Proof.Common

open Idealize.ShloMosaic
open Idealize.ShloMosaic.ValueIdx (ix1 ix2 ix3 eq_ix1 eq_ix2 eq_ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

section Body

variable (d : Dev nD) (L : grid1.Coords) (X : S32x20x16384.Idx → BitVec 32) (hX : Below X)

theorem histN_succ (w : Fin 32) (n : ℕ) : histN (F := F) X w (n + 1) = hstep (histN X w n) (vec X w n) (wvec (w.val * 20 + n / 1024)) := rfl
theorem wvec_eq (n : ℕ) : wvec (F := F) n = k1_pay5 (k1_pay1 (F := F)) (wsc n) := rfl

include hX in
/-- One scatter from the first chunk buffer. -/
theorem scatA_step (v1 v12 : BitVec 32) (t : Fin k1_t2_loop.trips) (v48 : F .f32) (h48 : v48 = wsc ((wL L).val * 20 + 2 * t.val))
    (k : Fin k1_t3_loop.trips) (acc : Unit) :
    iprop(aPts d L (chunk X (wL L) (2 * t.val)) ∗ hPts (F := F) d L (histN X (wL L) (1024 * (2 * t.val) + k.val)))
      ⊢ wp frame (wpE (defs₀ (F := F)) 𝒱₀ (thr d L) none) Set.univ
      (k1_t3_body L xV (Memref.isWhole_whole _) oV (Memref.isWhole_whole _) sA (Memref.isWhole_whole _) sB (Memref.isWhole_whole _)
        sH (Memref.isWhole_whole _) cc1_scratch3 cc1_scratch4 cc1_scoped0 v1 (k1_pay1 (F := F)) t v12 v48 k acc)
        fun _ => iprop(aPts d L (chunk X (wL L) (2 * t.val)) ∗ hPts (F := F) d L (histN X (wL L) (1024 * (2 * t.val) + (k.val + 1)))) := by
  have hk : k.val < 1024 := k.isLt
  have hvec : (sA : Memref sig .scVector .vmem S16384 .i32).view.readAt (Elt F)
      (Rect.unit (s := S16384) (k1_off5 k) S16.size (k1_off5_inb k)).toLoadRect (chunk X (wL L) (2 * t.val)) = vec X (wL L) (1024 * (2 * t.val) + k.val) := by
    rw [readAtA]
    funext x
    exact load_chunk X (wL L) (2 * t.val) k.val hk _ _ (k1_off5_eq k) x
  unfold k1_t3_body
  simp only [Prog.lift, Prog.bind_op, Prog.bind_ret, Prog.pure_eq_ret]
  iintro ⟨Ha, Hh⟩
  ihave Ha' := (Entails.of_eq (pts_sA_univ (F := F) d L _).symm) $$ Ha
  iapply (wp_load 𝒱₀ (thr d L) none Set.univ (m := (sA : Memref sig .scVector .vmem S16384 .i32)) (S := Finset.univ) (Finset.subset_univ _)) $$ Ha'; iintro Ha'
  rw [hvec]
  rw [wp_assume_of _ _ _ _ (show k1_chk1 _ from chk_vec hX (wL L) _)]
  ihave Hh' := (Entails.of_eq (pts_sH_whole (F := F) d L _).symm) $$ Hh
  iapply (SparseCore.wp_vectorStoreIdx 𝒱₀ (thr d L) none Set.univ (base := (sH : Memref sig .scVector .vmem S16384 .f32))) $$ Hh'; iintro Hh'
  rw [wp_ret]; imodintro
  isplitl [Ha']; · iexact Ha'
  have hval : ((sH : Memref sig .scVector .vmem S16384 .f32).access (.whole S16384)).write (Elt F)
      (histN X (wL L) (1024 * (2 * t.val) + k.val) : Buf (Elt F) ((thr d L).loc cc1_scratch2))
      (storeIdx (s := S16384) (e := .f32) (((sH : Memref sig .scVector .vmem S16384 .f32).access (.whole S16384)).read (Elt F) (histN X (wL L) (1024 * (2 * t.val) + k.val) : Buf (Elt F) ((thr d L).loc cc1_scratch2)))
        ![vec X (wL L) (1024 * (2 * t.val) + k.val)] (k1_pay5 (k1_pay1 (F := F)) v48) (fun _ => 1#1) true (k1_idx1_inb _ (chk_vec hX (wL L) _))) Finset.univ
      = (histN X (wL L) (1024 * (2 * t.val) + (k.val + 1)) : S16384.Idx → F .f32) := by
    rw [h48, ← wvec_eq]
    refine (Memref.write_access_whole_univ (Elt F) (cc1_scratch2 : Ref sig .scVector) _ _).trans ?_
    rw [show 1024 * (2 * t.val) + (k.val + 1) = (1024 * (2 * t.val) + k.val) + 1 from rfl, histN_succ,
      show (1024 * (2 * t.val) + k.val) / 1024 = 2 * t.val by omega, ← hstep_of (chk_vec hX (wL L) _)]
    exact congrArg (fun g => storeIdx (s := S16384) (e := .f32) (g : Vec F S16384 .f32) ![vec X (wL L) (1024 * (2 * t.val) + k.val)]
      (wvec ((wL L).val * 20 + (2 * t.val)) : Vec F S16 .f32) (fun _ => 1#1) true (chk_vec hX (wL L) _))
      (Memref.read_access_whole (Elt F) (cc1_scratch2 : Ref sig .scVector) _)
  ihave Hh := (Entails.of_eq (pts_sH_whole (F := F) d L _)) $$ Hh'
  rw [← hval]
  iexact Hh

include hX in
/-- One scatter from the second chunk buffer. -/
theorem scatB_step (t : Fin k1_t2_loop.trips) (v79 : BitVec 32) (v84 : BitVec 1)
    (hw : k1_pay3 (F := F) v79 v84 = wvec ((wL L).val * 20 + (2 * t.val + 1))) (k : Fin k1_t4_loop.trips) (acc : Unit) :
    iprop(bPts d L (chunk X (wL L) (2 * t.val + 1)) ∗ hPts (F := F) d L (histN X (wL L) (1024 * (2 * t.val + 1) + k.val)))
      ⊢ wp frame (wpE (defs₀ (F := F)) 𝒱₀ (thr d L) none) Set.univ
      (k1_t4_body L xV (Memref.isWhole_whole _) oV (Memref.isWhole_whole _) sA (Memref.isWhole_whole _) sB (Memref.isWhole_whole _)
        sH (Memref.isWhole_whole _) cc1_scratch3 cc1_scratch4 cc1_scoped0 v79 v84 k acc)
        fun _ => iprop(bPts d L (chunk X (wL L) (2 * t.val + 1)) ∗ hPts (F := F) d L (histN X (wL L) (1024 * (2 * t.val + 1) + (k.val + 1)))) := by
  have hk : k.val < 1024 := k.isLt
  have hvec : (sB : Memref sig .scVector .vmem S16384 .i32).view.readAt (Elt F)
      (Rect.unit (s := S16384) (k1_off7 k) S16.size (k1_off7_inb k)).toLoadRect (chunk X (wL L) (2 * t.val + 1)) = vec X (wL L) (1024 * (2 * t.val + 1) + k.val) := by
    rw [readAtB]
    funext x
    exact load_chunk X (wL L) (2 * t.val + 1) k.val hk _ _ (k1_off7_eq k) x
  unfold k1_t4_body
  simp only [Prog.lift, Prog.bind_op, Prog.bind_ret, Prog.pure_eq_ret]
  iintro ⟨Ha, Hh⟩
  ihave Ha' := (Entails.of_eq (pts_sB_univ (F := F) d L _).symm) $$ Ha
  iapply (wp_load 𝒱₀ (thr d L) none Set.univ (m := (sB : Memref sig .scVector .vmem S16384 .i32)) (S := Finset.univ) (Finset.subset_univ _)) $$ Ha'; iintro Ha'
  rw [hvec]
  rw [wp_assume_of _ _ _ _ (show k1_chk2 _ from chk_vec hX (wL L) _)]
  ihave Hh' := (Entails.of_eq (pts_sH_whole (F := F) d L _).symm) $$ Hh
  iapply (SparseCore.wp_vectorStoreIdx 𝒱₀ (thr d L) none Set.univ (base := (sH : Memref sig .scVector .vmem S16384 .f32))) $$ Hh'; iintro Hh'
  rw [wp_ret]; imodintro
  isplitl [Ha']; · iexact Ha'
  have hval : ((sH : Memref sig .scVector .vmem S16384 .f32).access (.whole S16384)).write (Elt F)
      (histN X (wL L) (1024 * (2 * t.val + 1) + k.val) : Buf (Elt F) ((thr d L).loc cc1_scratch2))
      (storeIdx (s := S16384) (e := .f32) (((sH : Memref sig .scVector .vmem S16384 .f32).access (.whole S16384)).read (Elt F) (histN X (wL L) (1024 * (2 * t.val + 1) + k.val) : Buf (Elt F) ((thr d L).loc cc1_scratch2)))
        ![vec X (wL L) (1024 * (2 * t.val + 1) + k.val)] (k1_pay3 v79 v84) (fun _ => 1#1) true (k1_idx2_inb _ (chk_vec hX (wL L) _))) Finset.univ
      = (histN X (wL L) (1024 * (2 * t.val + 1) + (k.val + 1)) : S16384.Idx → F .f32) := by
    rw [hw]
    refine (Memref.write_access_whole_univ (Elt F) (cc1_scratch2 : Ref sig .scVector) _ _).trans ?_
    rw [show 1024 * (2 * t.val + 1) + (k.val + 1) = (1024 * (2 * t.val + 1) + k.val) + 1 from rfl, histN_succ,
      show (1024 * (2 * t.val + 1) + k.val) / 1024 = 2 * t.val + 1 by omega, ← hstep_of (chk_vec hX (wL L) _)]
    exact congrArg (fun g => storeIdx (s := S16384) (e := .f32) (g : Vec F S16384 .f32) ![vec X (wL L) (1024 * (2 * t.val + 1) + k.val)]
      (wvec ((wL L).val * 20 + (2 * t.val + 1)) : Vec F S16 .f32) (fun _ => 1#1) true (chk_vec hX (wL L) _))
      (Memref.read_access_whole (Elt F) (cc1_scratch2 : Ref sig .scVector) _)
  ihave Hh := (Entails.of_eq (pts_sH_whole (F := F) d L _)) $$ Hh'
  rw [← hval]
  iexact Hh

/-- The credit of a chunk's copy into the first buffer. -/
abbrev NA : ℕ := (sA : Memref sig .scVector .vmem S16384 .i32).view.dmaCredit
theorem NA_pos : 0 < NA := View.dmaCredit_pos _ (by decide)

/-- A chunk's copy into the first buffer, under way: when it is done the buffer holds the chunk. -/
def flA (ci : ℕ) : sProp 𝕄 :=
  Transfers.Flight countersEmb (thr d L) (.dma cc1_scratch3.sem) (none : HIx 1) NA (aPts (F := F) d L (chunk X (wL L) ci))

/-- The packed bins, through a share. -/
abbrev xPts (q : PosShare TreeShare) : sProp 𝕄 := xLoc d ↦{q} (X : Buf (Elt F) (xLoc d))

/-- Starting a chunk's copy into the first buffer. -/
theorem issueA {β : Type} (off : Fin 3 → Nat) (h : ∀ a, off a + S1x1x16384.size a ≤ S32x20x16384.size a) (ci : ℕ) (hci : ci < 20) (ho : off = ![(wL L).val, ci, 0])
    (q : PosShare TreeShare) (f : S16384.Idx → BitVec 32)
    {hsrc : (slabAt off h).view.WordExact} {hdst : (sA : Memref sig .scVector .vmem S16384 .i32).view.WordExact}
    {hsem : DmaTarget.Typed (nD := nD) (τ := τ) (p := (thr d L).2) .hbm (.dma cc1_scratch3.sem) (.here (sA : Memref sig .scVector .vmem S16384 .i32))}
    {k : PUnit → Prog (TpuEff nD τ sig (Elt F) Λ₀ (thr d L).2) β} {Q : β → sProp 𝕄} :
    iprop(xPts (F := F) d X q ∗ aPts (F := F) d L f ∗ semVal (thr d L, .dma cc1_scratch3.sem) 0)
      ⊢ iprop((iprop(xPts (F := F) d X q.right ∗ flA (F := F) d L X ci) -∗ wp frame (wpE (defs₀ (F := F)) 𝒱₀ (thr d L) none) Set.univ (k ⟨⟩) Q)
        -∗ wp frame (wpE (defs₀ (F := F)) 𝒱₀ (thr d L) none) Set.univ
          (.op (.enqueueDma (slabAt off h) (.here sA) (.dma cc1_scratch3.sem) hsrc hdst hsem) k) Q) := by
  iintro ⟨Hx, Ha, Hs⟩ Hk
  ihave Hx2 := (pointsTo_share (PosShare.mem_left_op_right q)).1 $$ Hx
  icases Hx2 with ⟨Hl, Hr⟩
  ihave Hl2 := (pointsTo_split_subset (Finset.subset_univ (slabAt off h).view.set)).1 $$ Hl
  icases Hl2 with ⟨Hl, -⟩
  iapply (Transfers.wp_dmaLocal countersEmb 𝒱₀ (thr d L) none (src := slabAt off h) (dst := (sA : Memref sig .scVector .vmem S16384 .i32))
    (sm := .dma cc1_scratch3.sem) (fs := (X : Buf (Elt F) (xLoc d))) (fd := f) (Sd := Finset.univ) (none : HIx 1) NA rfl NA_pos (Finset.subset_univ _)) $$ [Hl Ha Hs]
  · isplitl [Hl]; · iexact Hl
    isplitl [Ha]; · iexact Ha
    iexact Hs
  iintro Hf
  iapply Hk
  isplitl [Hr]; · iexact Hr
  unfold flA
  iapply (Transfers.Flight_mono countersEmb (thr d L) ?hm) $$ Hf
  case hm =>
    iintro ⟨H, -⟩
    have e : (sA : Memref sig .scVector .vmem S16384 .i32).view.write (Elt F) (f : Buf (Elt F) ((thr d L).loc cc1_scratch0))
        ((slabAt off h).view.read (Elt F) (X : Buf (Elt F) (xLoc d))) Finset.univ = (chunk X (wL L) ci : Buf (Elt F) ((thr d L).loc cc1_scratch0)) :=
      (View.write_whole_univ _ _ _).trans (slab_read X off h (wL L) ci hci ho)
    rw [← e]
    iexact H

/-- Waiting for it. -/
theorem waitA {β : Type} (off : Fin 3 → Nat) (h : ∀ a, off a + S1x1x16384.size a ≤ S32x20x16384.size a) (ci : ℕ)
    {hsrc : (slabAt off h).view.WordExact} {hdst : (sA : Memref sig .scVector .vmem S16384 .i32).view.WordExact}
    {k : PUnit → Prog (TpuEff nD τ sig (Elt F) Λ₀ (thr d L).2) β} {Q : β → sProp 𝕄}
    {O : CellTallies nD τ sig (HIx 1)} {W : Waits sig (HIx 1)} :
    iprop(flA (F := F) d L X ci ∗ owes (thr d L) O W ∗ Transfers.MayWaits (thr d L) (none : HIx 1) O)
      ⊢ iprop((iprop(aPts (F := F) d L (chunk X (wL L) ci) ∗ semVal (thr d L, .dma cc1_scratch3.sem) 0
            ∗ owes (thr d L) O (insert (SemLoc.dma cc1_scratch3.sem, (none : HIx 1)) W)) -∗ wp frame (wpE (defs₀ (F := F)) 𝒱₀ (thr d L) none) Set.univ (k ⟨⟩) Q)
        -∗ wp frame (wpE (defs₀ (F := F)) 𝒱₀ (thr d L) none) Set.univ
          (.op (.waitDma2 cc1_scratch3.sem (slabAt off h) sA hsrc hdst) k) Q) := by
  unfold flA
  iintro ⟨Hf, HO, Hmw⟩ Hk
  iapply (Transfers.wp_waitLocalO countersEmb 𝒱₀ (thr d L) none (none : HIx 1) (rfl : (sA : Memref sig .scVector .vmem S16384 .i32).view.dmaCredit = NA)) $$ [Hf HO Hmw]
  · isplitl [Hf]; · iexact Hf
    isplitl [HO]; · iexact HO
    iapply (Transfers.MayWaits.elim (SemLoc.dma cc1_scratch3.sem)); iexact Hmw
  iexact Hk

/-- The credit of a chunk's copy into the second buffer. -/
abbrev NB : ℕ := (sB : Memref sig .scVector .vmem S16384 .i32).view.dmaCredit
theorem NB_pos : 0 < NB := View.dmaCredit_pos _ (by decide)

/-- A chunk's copy into the second buffer, under way: when it is done the buffer holds the chunk. -/
def flB (ci : ℕ) : sProp 𝕄 :=
  Transfers.Flight countersEmb (thr d L) (.dma cc1_scratch4.sem) (none : HIx 1) NB (bPts (F := F) d L (chunk X (wL L) ci))

/-- Starting a chunk's copy into the second buffer. -/
theorem issueB {β : Type} (off : Fin 3 → Nat) (h : ∀ a, off a + S1x1x16384.size a ≤ S32x20x16384.size a) (ci : ℕ) (hci : ci < 20) (ho : off = ![(wL L).val, ci, 0])
    (q : PosShare TreeShare) (f : S16384.Idx → BitVec 32)
    {hsrc : (slabAt off h).view.WordExact} {hdst : (sB : Memref sig .scVector .vmem S16384 .i32).view.WordExact}
    {hsem : DmaTarget.Typed (nD := nD) (τ := τ) (p := (thr d L).2) .hbm (.dma cc1_scratch4.sem) (.here (sB : Memref sig .scVector .vmem S16384 .i32))}
    {k : PUnit → Prog (TpuEff nD τ sig (Elt F) Λ₀ (thr d L).2) β} {Q : β → sProp 𝕄} :
    iprop(xPts (F := F) d X q ∗ bPts (F := F) d L f ∗ semVal (thr d L, .dma cc1_scratch4.sem) 0)
      ⊢ iprop((iprop(xPts (F := F) d X q.right ∗ flB (F := F) d L X ci) -∗ wp frame (wpE (defs₀ (F := F)) 𝒱₀ (thr d L) none) Set.univ (k ⟨⟩) Q)
        -∗ wp frame (wpE (defs₀ (F := F)) 𝒱₀ (thr d L) none) Set.univ
          (.op (.enqueueDma (slabAt off h) (.here sB) (.dma cc1_scratch4.sem) hsrc hdst hsem) k) Q) := by
  iintro ⟨Hx, Ha, Hs⟩ Hk
  ihave Hx2 := (pointsTo_share (PosShare.mem_left_op_right q)).1 $$ Hx
  icases Hx2 with ⟨Hl, Hr⟩
  ihave Hl2 := (pointsTo_split_subset (Finset.subset_univ (slabAt off h).view.set)).1 $$ Hl
  icases Hl2 with ⟨Hl, -⟩
  iapply (Transfers.wp_dmaLocal countersEmb 𝒱₀ (thr d L) none (src := slabAt off h) (dst := (sB : Memref sig .scVector .vmem S16384 .i32))
    (sm := .dma cc1_scratch4.sem) (fs := (X : Buf (Elt F) (xLoc d))) (fd := f) (Sd := Finset.univ) (none : HIx 1) NB rfl NB_pos (Finset.subset_univ _)) $$ [Hl Ha Hs]
  · isplitl [Hl]; · iexact Hl
    isplitl [Ha]; · iexact Ha
    iexact Hs
  iintro Hf
  iapply Hk
  isplitl [Hr]; · iexact Hr
  unfold flB
  iapply (Transfers.Flight_mono countersEmb (thr d L) ?hm) $$ Hf
  case hm =>
    iintro ⟨H, -⟩
    have e : (sB : Memref sig .scVector .vmem S16384 .i32).view.write (Elt F) (f : Buf (Elt F) ((thr d L).loc cc1_scratch1))
        ((slabAt off h).view.read (Elt F) (X : Buf (Elt F) (xLoc d))) Finset.univ = (chunk X (wL L) ci : Buf (Elt F) ((thr d L).loc cc1_scratch1)) :=
      (View.write_whole_univ _ _ _).trans (slab_read X off h (wL L) ci hci ho)
    rw [← e]
    iexact H

/-- Waiting for it. -/
theorem waitB {β : Type} (off : Fin 3 → Nat) (h : ∀ a, off a + S1x1x16384.size a ≤ S32x20x16384.size a) (ci : ℕ)
    {hsrc : (slabAt off h).view.WordExact} {hdst : (sB : Memref sig .scVector .vmem S16384 .i32).view.WordExact}
    {k : PUnit → Prog (TpuEff nD τ sig (Elt F) Λ₀ (thr d L).2) β} {Q : β → sProp 𝕄}
    {O : CellTallies nD τ sig (HIx 1)} {W : Waits sig (HIx 1)} :
    iprop(flB (F := F) d L X ci ∗ owes (thr d L) O W ∗ Transfers.MayWaits (thr d L) (none : HIx 1) O)
      ⊢ iprop((iprop(bPts (F := F) d L (chunk X (wL L) ci) ∗ semVal (thr d L, .dma cc1_scratch4.sem) 0
            ∗ owes (thr d L) O (insert (SemLoc.dma cc1_scratch4.sem, (none : HIx 1)) W)) -∗ wp frame (wpE (defs₀ (F := F)) 𝒱₀ (thr d L) none) Set.univ (k ⟨⟩) Q)
        -∗ wp frame (wpE (defs₀ (F := F)) 𝒱₀ (thr d L) none) Set.univ
          (.op (.waitDma2 cc1_scratch4.sem (slabAt off h) sB hsrc hdst) k) Q) := by
  unfold flB
  iintro ⟨Hf, HO, Hmw⟩ Hk
  iapply (Transfers.wp_waitLocalO countersEmb 𝒱₀ (thr d L) none (none : HIx 1) (rfl : (sB : Memref sig .scVector .vmem S16384 .i32).view.dmaCredit = NB)) $$ [Hf HO Hmw]
  · isplitl [Hf]; · iexact Hf
    isplitl [HO]; · iexact HO
    iapply (Transfers.MayWaits.elim (SemLoc.dma cc1_scratch4.sem)); iexact Hmw
  iexact Hk

include hX in
/-- All the scatters of a trip's first chunk. -/
theorem loopA {β : Type} (v1 v12 : BitVec 32) (t : Fin k1_t2_loop.trips) (v48 : F .f32) (h48 : v48 = wsc ((wL L).val * 20 + 2 * t.val))
    {kk : Unit → Prog (TpuEff nD τ sig (Elt F) Λ₀ (thr d L).2) β} {Q : β → sProp 𝕄} :
    iprop(aPts (F := F) d L (chunk X (wL L) (2 * t.val)) ∗ hPts (F := F) d L (histN X (wL L) (1024 * (2 * t.val))))
      ⊢ iprop((iprop(aPts (F := F) d L (chunk X (wL L) (2 * t.val)) ∗ hPts (F := F) d L (histN X (wL L) (1024 * (2 * t.val) + 1024)))
          -∗ wp frame (wpE (defs₀ (F := F)) 𝒱₀ (thr d L) none) Set.univ (kk ⟨⟩) Q)
        -∗ wp frame (wpE (defs₀ (F := F)) 𝒱₀ (thr d L) none) Set.univ
          (Scf.Loop.for k1_t3_loop k1_t3_ok ⟨⟩ (k1_t3_body L xV (Memref.isWhole_whole _) oV (Memref.isWhole_whole _) sA (Memref.isWhole_whole _) sB (Memref.isWhole_whole _)
            sH (Memref.isWhole_whole _) cc1_scratch3 cc1_scratch4 cc1_scoped0 v1 (k1_pay1 (F := F)) t v12 v48) >>= kk) Q) := by
  have htr : Scf.trips k1_t3_loop.lb k1_t3_loop.ub k1_t3_loop.st = 1024 := by decide +kernel
  iintro ⟨Ha, Hh⟩ Hk
  iapply (Scf.wp_for_bind frame (wpE (defs₀ (F := F)) 𝒱₀ (thr d L) none) Set.univ k1_t3_loop.lb k1_t3_loop.ub k1_t3_loop.st k1_t3_ok (⟨⟩ : Unit) _
    (fun (k : ℕ) (_ : Unit) => iprop(aPts (F := F) d L (chunk X (wL L) (2 * t.val)) ∗ hPts (F := F) d L (histN X (wL L) (1024 * (2 * t.val) + k))))
    (fun k acc => scatA_step d L X hX v1 v12 t v48 h48 k acc)) $$ [Ha Hh]
  · isplitl [Ha]; · iexact Ha
    iexact Hh
  iintro %acc H
  rw [htr]
  iapply Hk
  iexact H

include hX in
/-- All the scatters of a trip's second chunk. -/
theorem loopB {β : Type} (t : Fin k1_t2_loop.trips) (v79 : BitVec 32) (v84 : BitVec 1)
    (hw : k1_pay3 (F := F) v79 v84 = wvec ((wL L).val * 20 + (2 * t.val + 1)))
    {kk : Unit → Prog (TpuEff nD τ sig (Elt F) Λ₀ (thr d L).2) β} {Q : β → sProp 𝕄} :
    iprop(bPts (F := F) d L (chunk X (wL L) (2 * t.val + 1)) ∗ hPts (F := F) d L (histN X (wL L) (1024 * (2 * t.val + 1))))
      ⊢ iprop((iprop(bPts (F := F) d L (chunk X (wL L) (2 * t.val + 1)) ∗ hPts (F := F) d L (histN X (wL L) (1024 * (2 * t.val + 1) + 1024)))
          -∗ wp frame (wpE (defs₀ (F := F)) 𝒱₀ (thr d L) none) Set.univ (kk ⟨⟩) Q)
        -∗ wp frame (wpE (defs₀ (F := F)) 𝒱₀ (thr d L) none) Set.univ
          (Scf.Loop.for k1_t4_loop k1_t4_ok ⟨⟩ (k1_t4_body L xV (Memref.isWhole_whole _) oV (Memref.isWhole_whole _) sA (Memref.isWhole_whole _) sB (Memref.isWhole_whole _)
            sH (Memref.isWhole_whole _) cc1_scratch3 cc1_scratch4 cc1_scoped0 v79 v84) >>= kk) Q) := by
  have htr : Scf.trips k1_t4_loop.lb k1_t4_loop.ub k1_t4_loop.st = 1024 := by decide +kernel
  iintro ⟨Ha, Hh⟩ Hk
  iapply (Scf.wp_for_bind frame (wpE (defs₀ (F := F)) 𝒱₀ (thr d L) none) Set.univ k1_t4_loop.lb k1_t4_loop.ub k1_t4_loop.st k1_t4_ok (⟨⟩ : Unit) _
    (fun (k : ℕ) (_ : Unit) => iprop(bPts (F := F) d L (chunk X (wL L) (2 * t.val + 1)) ∗ hPts (F := F) d L (histN X (wL L) (1024 * (2 * t.val + 1) + k))))
    (fun k acc => scatB_step d L X hX t v79 v84 hw k acc)) $$ [Ha Hh]
  · isplitl [Ha]; · iexact Ha
    iexact Hh
  iintro %acc H
  rw [htr]
  iapply Hk
  iexact H

/-- The loop over pairs of chunks, before trip `k`: the packed bins through some share; chunk `2 * k` on its way to the first
    buffer, if there is one; the second buffer at rest; the histogram after the first `2 * k` chunks. -/
def pInv (O : CellTallies nD τ sig (HIx 1)) (W : Waits sig (HIx 1)) (k : ℕ) : sProp 𝕄 :=
  iprop(Transfers.MayWaits (thr d L) (none : HIx 1) O ∗ (∃ q, xPts (F := F) d X q)
    ∗ (if k < 10 then flA (F := F) d L X (2 * k) else iprop((∃ f, aPts (F := F) d L f) ∗ semVal (cAcell d L) 0))
    ∗ (∃ f, bPts (F := F) d L f) ∗ semVal (cBcell d L) 0
    ∗ hPts (F := F) d L (histN X (wL L) (1024 * (2 * k)))
    ∗ ∃ W', ⌜∀ p ∈ W', p ∈ W ∨ p.2 = none⌝ ∗ owes (thr d L) O W')

/-- A trip's second part, with the weight's ingredients of the odd chunk as functions of the chunk's number. -/
theorem part2_eq (v1 : BitVec 32) (t : Fin k1_t2_loop.trips) (v12 : BitVec 32) (v48 : F .f32) (n : BitVec 32)
    (h : Scalar.addi (Scalar.muli v1 20#32) (Scalar.addi v12 1#32) = n) :
    k1_part2 (F := F) L xV (Memref.isWhole_whole _) oV (Memref.isWhole_whole _) sA (Memref.isWhole_whole _) sB (Memref.isWhole_whole _)
        sH (Memref.isWhole_whole _) cc1_scratch3 cc1_scratch4 cc1_scoped0 v1 (k1_pay1 (F := F)) t v12 v48 = (do
      Scf.Loop.for k1_t3_loop k1_t3_ok ⟨⟩ (k1_t3_body L xV (Memref.isWhole_whole _) oV (Memref.isWhole_whole _) sA (Memref.isWhole_whole _) sB (Memref.isWhole_whole _)
        sH (Memref.isWhole_whole _) cc1_scratch3 cc1_scratch4 cc1_scoped0 v1 (k1_pay1 (F := F)) t v12 v48)
      if h1 : k1_cond1 t = 1#1 then do
        Prog.lift (.enqueueDma (slabAt (k1_off6 L t) (k1_off6_inb L t h1)) (.here sA) (.dma cc1_scratch3.sem) ((View.wordExact_bits rfl).reshape _ _) (Memref.isWhole_whole _).wordExact ⟨Or.inl rfl, trivial⟩)
        pure ⟨⟩
      else do
        pure ⟨⟩
      Prog.lift (.waitDma2 cc1_scratch4.sem (slabAt (k1_off3 L t) (k1_off3_inb L t)) sB ((View.wordExact_bits rfl).reshape _ _) (Memref.isWhole_whole _).wordExact)
      pure ⟨tileW n, Scalar.ori (Scalar.ori (Scalar.cmpi .eq (tileW n) 0#32) (Scalar.cmpi .eq (tileW n) 4#32)) (Scalar.cmpi .eq (tileW n) 7#32)⟩) := by
  subst h
  rfl

theorem pInv_lt (O : CellTallies nD τ sig (HIx 1)) (W : Waits sig (HIx 1)) (k : ℕ) (hk : k < 10) :
    pInv (F := F) d L X O W k = iprop(Transfers.MayWaits (thr d L) (none : HIx 1) O ∗ (∃ q, xPts (F := F) d X q)
    ∗ flA (F := F) d L X (2 * k)
    ∗ (∃ f, bPts (F := F) d L f) ∗ semVal (cBcell d L) 0
    ∗ hPts (F := F) d L (histN X (wL L) (1024 * (2 * k)))
    ∗ ∃ W', ⌜∀ p ∈ W', p ∈ W ∨ p.2 = none⌝ ∗ owes (thr d L) O W') := by
  unfold pInv
  rw [if_pos hk]

theorem pInv_last (O : CellTallies nD τ sig (HIx 1)) (W : Waits sig (HIx 1)) :
    pInv (F := F) d L X O W 10 = iprop(Transfers.MayWaits (thr d L) (none : HIx 1) O ∗ (∃ q, xPts (F := F) d X q)
    ∗ ((∃ f, aPts (F := F) d L f) ∗ semVal (cAcell d L) 0)
    ∗ (∃ f, bPts (F := F) d L f) ∗ semVal (cBcell d L) 0
    ∗ hPts (F := F) d L (histN X (wL L) 20480)
    ∗ ∃ W', ⌜∀ p ∈ W', p ∈ W ∨ p.2 = none⌝ ∗ owes (thr d L) O W') := by
  unfold pInv
  rw [if_neg (by omega)]

include hX in
set_option maxHeartbeats 1000000 in
/-- One trip of that loop. -/
theorem pair_step (O : CellTallies nD τ sig (HIx 1)) (W : Waits sig (HIx 1)) (t : Fin k1_t2_loop.trips) (acc : BitVec 32) :
    pInv (F := F) d L X O W t.val ⊢ wp frame (wpE (defs₀ (F := F)) 𝒱₀ (thr d L) none) Set.univ
      (k1_t2_body L xV (Memref.isWhole_whole _) oV (Memref.isWhole_whole _) sA (Memref.isWhole_whole _) sB (Memref.isWhole_whole _)
        sH (Memref.isWhole_whole _) cc1_scratch3 cc1_scratch4 cc1_scoped0
        (Scalar.addi (Scalar.muli (BitVec.ofNat 32 (L 1).val) 2#32) (BitVec.ofNat 32 (L 0).val)) t acc) fun _ => pInv (F := F) d L X O W (t.val + 1) := by
  have ht : t.val < 10 := t.isLt
  unfold k1_t2_body
  rw [k1_part1_eq_skeleton]
  unfold k1_part1_skel
  simp only [Prog.lift, Prog.bind_op, Prog.bind_ret, Prog.pure_eq_ret]
  rw [part2_eq _ _ _ _ _ _ (v62_eq L t)]
  simp only [Prog.lift, Prog.bind_op, Prog.bind_ret, Prog.pure_eq_ret]
  rw [pInv_lt d L X O W t.val ht]
  iintro ⟨#Hmw, ⟨%q, Hx⟩, Hfa, ⟨%fb, Hb⟩, Hsb, Hh, %W1, %hW1, HO⟩
  iapply (issueB (F := F) d L X _ _ (2 * t.val + 1) (by omega) (k1_off3_eq L t) q fb) $$ [Hx Hb Hsb]
  · isplitl [Hx]; · iexact Hx
    isplitl [Hb]; · iexact Hb
    iexact Hsb
  iintro ⟨Hx, Hfb⟩
  iapply (waitA (F := F) d L X _ _ (2 * t.val)) $$ [Hfa HO]
  · isplitl [Hfa]; · iexact Hfa
    isplitl [HO]; · iexact HO
    iexact Hmw
  iintro ⟨Ha, Hsa, HO⟩
  rw [Prog.bind_assoc]
  iapply (loopA (F := F) d L X hX _ _ t _ (pay4_eq L t)) $$ [Ha Hh]
  · isplitl [Ha]; · iexact Ha
    iexact Hh
  iintro ⟨Ha, Hh⟩
  rw [show 1024 * (2 * t.val) + 1024 = 1024 * (2 * t.val + 1) by ring]
  have fin : ∀ (fl : sProp 𝕄) (hfl : fl = if t.val + 1 < 10 then flA (F := F) d L X (2 * (t.val + 1)) else iprop((∃ f, aPts (F := F) d L f) ∗ semVal (cAcell d L) 0))
      (W2 : Waits sig (HIx 1)) (hW2 : ∀ p ∈ W2, p ∈ W ∨ p.2 = none),
      iprop(Transfers.MayWaits (thr d L) (none : HIx 1) O ∗ (∃ q, xPts (F := F) d X q) ∗ fl ∗ bPts (F := F) d L (chunk X (wL L) (2 * t.val + 1)) ∗ semVal (cBcell d L) 0
        ∗ hPts (F := F) d L (histN X (wL L) (1024 * (2 * t.val + 1) + 1024)) ∗ owes (thr d L) O W2) ⊢ pInv (F := F) d L X O W (t.val + 1) := by
    intro fl hfl W2 hW2
    subst hfl
    unfold pInv
    rw [show 1024 * (2 * (t.val + 1)) = 1024 * (2 * t.val + 1) + 1024 by ring]
    iintro ⟨Hmw, Hx, Hfl, Hb, Hsb, Hh, HO⟩
    isplitl [Hmw]; · iexact Hmw
    isplitl [Hx]; · iexact Hx
    isplitl [Hfl]; · iexact Hfl
    isplitl [Hb]; · iexists _; iexact Hb
    isplitl [Hsb]; · iexact Hsb
    isplitl [Hh]; · iexact Hh
    iexists W2
    isplitr; · ipureintro; exact hW2
    iexact HO
  have hWins : ∀ a b : SemLoc sig, ∀ p ∈ insert (a, (none : HIx 1)) (insert (b, (none : HIx 1)) W1), p ∈ W ∨ p.2 = none := by
    intro a b p hp
    rcases Finset.mem_insert.1 hp with rfl | hp
    · exact Or.inr rfl
    rcases Finset.mem_insert.1 hp with rfl | hp
    · exact Or.inr rfl
    exact hW1 p hp
  by_cases h1 : k1_cond1 t = 1#1
  · have ht1 : t.val + 1 < 10 := (cond1_iff t).mp h1
    simp only [h1, ↓reduceDIte, Prog.bind_op, Prog.bind_ret]
    iapply (issueA (F := F) d L X _ _ (2 * (t.val + 1)) (by omega) (k1_off6_eq L t) _ _) $$ [Hx Ha Hsa]
    · isplitl [Hx]; · iexact Hx
      isplitl [Ha]; · iexact Ha
      iexact Hsa
    iintro ⟨Hx, Hfa⟩
    iapply (waitB (F := F) d L X _ _ (2 * t.val + 1)) $$ [Hfb HO]
    · isplitl [Hfb]; · iexact Hfb
      isplitl [HO]; · iexact HO
      iexact Hmw
    iintro ⟨Hb, Hsb, HO⟩
    iapply (loopB (F := F) d L X hX t _ _ (pay3_eq _ _ _ rfl rfl)) $$ [Hb Hh]
    · isplitl [Hb]; · iexact Hb
      iexact Hh
    iintro ⟨Hb, Hh⟩
    rw [wp_ret]; imodintro
    iapply (fin (flA (F := F) d L X (2 * (t.val + 1))) (if_pos ht1).symm _ (hWins _ _))
    isplitl []; · iexact Hmw
    isplitl [Hx]; · iexists _; iexact Hx
    isplitl [Hfa]; · iexact Hfa
    isplitl [Hb]; · iexact Hb
    isplitl [Hsb]; · iexact Hsb
    isplitl [Hh]; · iexact Hh
    iexact HO
  · have ht1 : ¬ t.val + 1 < 10 := fun h => h1 ((cond1_iff t).mpr h)
    simp only [h1, ↓reduceDIte, Prog.bind_op, Prog.bind_ret]
    iapply (waitB (F := F) d L X _ _ (2 * t.val + 1)) $$ [Hfb HO]
    · isplitl [Hfb]; · iexact Hfb
      isplitl [HO]; · iexact HO
      iexact Hmw
    iintro ⟨Hb, Hsb, HO⟩
    iapply (loopB (F := F) d L X hX t _ _ (pay3_eq _ _ _ rfl rfl)) $$ [Hb Hh]
    · isplitl [Hb]; · iexact Hb
      iexact Hh
    iintro ⟨Hb, Hh⟩
    rw [wp_ret]; imodintro
    iapply (fin iprop((∃ f, aPts (F := F) d L f) ∗ semVal (cAcell d L) 0) (if_neg ht1).symm _ (hWins _ _))
    isplitl []; · iexact Hmw
    isplitl [Hx]; · iexists _; iexact Hx
    isplitl [Ha Hsa]
    · isplitl [Ha]; · iexists _; iexact Ha
      iexact Hsa
    isplitl [Hb]; · iexact Hb
    isplitl [Hsb]; · iexact Hsb
    isplitl [Hh]; · iexact Hh
    iexact HO

omit [FloatOps F] [Named F] in
theorem pts_row (f : Buf (Elt F) (oLoc d)) :
    ((rowAt (k1_off8 L) (k1_off8_inb L)).view.loc (thr d L) ↦[rowSet (wL L)]{fullShare} f : sProp 𝕄) = oRow d (wL L) f := rfl

include hX in
set_option maxHeartbeats 1000000 in
/-- The kernel on one tile: from a share of the packed bins and its row of the result to that row at its histogram. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ (xPts (F := F) d X q ∗ ∃ f, oRow d (wL L) f)
        ∗ scopedBufs (thr d L) ∗ scopedSems0 (thr d L) ∗ owes (thr d L) O W)
      ⊢ wp frame (wpE (defs₀ (F := F)) 𝒱₀ (thr d L) none) Set.univ
          (cc1__sc_hist_body L xV (Memref.isWhole_whole _) oV (Memref.isWhole_whole _) sA (Memref.isWhole_whole _) sB (Memref.isWhole_whole _)
            sH (Memref.isWhole_whole _) cc1_scratch3 cc1_scratch4 cc1_scoped0)
          fun _ => iprop(oRow d (wL L) (hist X : Buf (Elt F) (oLoc d)) ∗ scopedBufs (thr d L) ∗ scopedSems0 (thr d L)
            ∗ ∃ W', ⌜∀ p ∈ W', p ∈ W ∨ p.2 = none⌝ ∗ owes (thr d L) O W') := by
  have ht1 : Scf.trips k1_t1_loop.lb k1_t1_loop.ub k1_t1_loop.st = 1024 := by decide +kernel
  have ht2 : Scf.trips k1_t2_loop.lb k1_t2_loop.ub k1_t2_loop.st = 10 := by decide +kernel
  rw [cc1__sc_hist_body_eq_skeleton]; unfold cc1__sc_hist_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  iintro ⟨#Hlv, -, ⟨Hx, ⟨%fo, Ho⟩⟩, ⟨⟨%fa, Ha⟩, Hb, ⟨%fh, Hh⟩, Hbufs⟩, ⟨Hsa, Hsb, Hso, Hsems⟩, HO⟩
  ihave #Hmw := ((K (F := F)).mayWaits_none (thr := thr d L) hO) $$ Hlv
  iapply (issueA (F := F) d L X _ _ 0 (by omega) (k1_off1_eq L) q fa) $$ [Hx Ha Hsa]
  · isplitl [Hx]; · iexact Hx
    isplitl [Ha]; · iexact Ha
    iexact Hsa
  iintro ⟨Hx, Hfa⟩
  iapply (Scf.wp_for_bind frame (wpE (defs₀ (F := F)) 𝒱₀ (thr d L) none) Set.univ k1_t1_loop.lb k1_t1_loop.ub k1_t1_loop.st k1_t1_ok (0#32 : BitVec 32) _
    (fun (k : ℕ) (_ : BitVec 32) => zInv (F := F) d L k) (fun k acc => zero_step d L k acc)) $$ [Hh]
  · unfold zInv
    iexists fh
    isplitr; · ipureintro; intro j hj; exact absurd hj (by omega)
    iexact Hh
  iintro %acc Hz
  rw [ht1]
  unfold zInv
  icases Hz with ⟨%fz, %hz, Hh⟩
  have hz0 : fz = histN X (wL L) 0 := funext fun j => hz j (by have hj : (j 0).val < 16384 := (j 0).isLt; omega)
  iapply (Scf.wp_for_bind frame (wpE (defs₀ (F := F)) 𝒱₀ (thr d L) none) Set.univ k1_t2_loop.lb k1_t2_loop.ub k1_t2_loop.st k1_t2_ok (0#32 : BitVec 32) _
    (fun (k : ℕ) (_ : BitVec 32) => pInv (F := F) d L X O W k) (fun k acc => pair_step d L X hX O W k acc)) $$ [Hx Hfa Hb Hsb Hh HO]
  · rw [pInv_lt d L X O W 0 (by omega)]
    isplitl []; · iexact Hmw
    isplitl [Hx]; · iexists _; iexact Hx
    isplitl [Hfa]; · iexact Hfa
    isplitl [Hb]; · iexact Hb
    isplitl [Hsb]; · iexact Hsb
    isplitl [Hh]; · rw [hz0]; iexact Hh
    iexists W
    isplitr; · ipureintro; exact fun p hp => Or.inl hp
    iexact HO
  iintro %acc2 HI
  rw [ht2]
  ihave HI := (Entails.of_eq (pInv_last (F := F) d L X O W)) $$ HI
  icases HI with ⟨-, -, ⟨Ha, Hsa⟩, Hb, Hsb, Hh, ⟨%W1, %hW1, HO⟩⟩
  ihave Hh' := (Entails.of_eq (pts_sH_set (F := F) d L _).symm) $$ Hh
  ihave Ho' := (Entails.of_eq (pts_row (F := F) d L fo).symm) $$ Ho
  iapply (Transfers.wp_dmaLocal countersEmb 𝒱₀ (thr d L) none (src := (sH : Memref sig .scVector .vmem S16384 .f32)) (dst := rowAt (k1_off8 L) (k1_off8_inb L))
    (sm := .dma cc1_scoped0.sem) (fs := (histN X (wL L) 20480 : Buf (Elt F) ((thr d L).loc cc1_scratch2))) (fd := fo) (Sd := rowSet (wL L)) (none : HIx 1)
    ((rowAt (k1_off8 L) (k1_off8_inb L)).view.dmaCredit) rfl (View.dmaCredit_pos _ (by decide)) (by rw [rowAt_set])) $$ [Hh' Ho' Hso]
  · isplitl [Hh']; · iexact Hh'
    isplitl [Ho']; · iexact Ho'
    iexact Hso
  iintro Hf
  iapply (Transfers.wp_waitLocalO countersEmb 𝒱₀ (thr d L) none (none : HIx 1) rfl) $$ [Hf HO]
  · isplitl [Hf]; · iexact Hf
    isplitl [HO]; · iexact HO
    iapply (Transfers.MayWaits.elim (SemLoc.dma cc1_scoped0.sem)); iexact Hmw
  iintro ⟨⟨Ho, Hh⟩, Hso, HO⟩
  rw [wp_ret]; imodintro
  isplitl [Ho]
  · have e : ∀ i ∈ rowSet (wL L), (rowAt (k1_off8 L) (k1_off8_inb L)).view.write (Elt F) fo
        ((sH : Memref sig .scVector .vmem S16384 .f32).view.read (Elt F) (histN X (wL L) 20480 : Buf (Elt F) ((thr d L).loc cc1_scratch2))) Finset.univ i
          = (hist X : Buf (Elt F) (oLoc d)) i := fun i hi =>
      (congrArg (fun v => (rowAt (k1_off8 L) (k1_off8_inb L)).view.write (Elt F) fo v Finset.univ i) (View.read_whole (cc1_scratch2 : Ref sig .scVector) _)).trans
        (row_write (F := F) X L fo i hi)
    iapply (Entails.of_eq (pointsTo_congr (ℓ := oLoc d) (q := fullShare) e)) $$ Ho
  isplitl [Ha Hb Hh Hbufs]
  · isplitl [Ha]; · iexact Ha
    isplitl [Hb]; · iexact Hb
    isplitl [Hh]
    · iexists _; iapply (Entails.of_eq (pts_sH_set (F := F) d L _)) $$ Hh
    iexact Hbufs
  isplitl [Hsa Hsb Hso Hsems]
  · isplitl [Hsa]; · iexact Hsa
    isplitl [Hsb]; · iexact Hsb
    isplitl [Hso]; · iexact Hso
    iexact Hsems
  iexists _
  isplitr
  rotate_left
  · iexact HO
  ipureintro
  intro p hp
  rcases Finset.mem_insert.1 hp with rfl | hp
  · exact Or.inr rfl
  exact hW1 p hp

end Body

/-! ## The obligation of the launch -/

/-- The grid coordinates of tile `s` of SparseCore `c`. -/
abbrev coordsV (c : Fin (grid1.bound 0)) (s : Fin (grid1.bound 1)) : grid1.Coords := fun
  | 0 => c
  | 1 => s
  | ⟨_ + 2, h⟩ => absurd h (Nat.not_lt.2 (Nat.le_add_left _ _))

theorem defs₀_vector (c : Fin τ.nSC) (s : Fin τ.nSub) :
    defs₀ (F := F) (.scVector c s) 1 () = SparseCore.onTile hcore1 hsub1 (fun c s => cc1__sc_hist_body (coordsV c s)
      xV (Memref.isWhole_whole _) oV (Memref.isWhole_whole _) sA (Memref.isWhole_whole _) sB (Memref.isWhole_whole _)
      sH (Memref.isWhole_whole _) cc1_scratch3 cc1_scratch4 cc1_scoped0) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every tile of the call meets what the launch asks of it. -/
theorem tileObl (X : Dev nD → S32x20x16384.Idx → BitVec 32) (hX : ∀ d, Below (X d)) (hF : (K (F := F)).Facts) :
    (K (F := F)).TileObl (D (F := F)) 𝒱 (P X) v₀ 0 := by
  intro d c i O W hO _ _
  simp only [show (P (F := F) X).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (X d) (hX d) hF (shT (Fin.cast nCore_zero c) (Fin.cast nSub_zero i)) O W hO).trans
    (wp_mono frame _ _ fun _ => obl_post)

end Cert.Proof.Tile

end
-- ==== Proof.Calls.lean ====
/-
  The program's steps around its kernels, each from the buffers it finds to those it leaves: the call of a TensorCore kernel
  between the SparseCore call's handshakes, and what the SparseCore call takes and hands back.
-/
module

public import proofs.«01_k».proof.Proof.Host
public import proofs.«01_k».proof.Proof.Bins
public import proofs.«01_k».proof.Proof.TileBody
public import Idealize.ShloMosaic.Lib.Pipeline.Frame

@[expose] public section

set_option maxRecDepth 16384

noncomputable section

namespace Cert.Proof.Calls

open Cert.KernelIdeal Cert.KernelIdeal.Gen
open Cert.Proof.Common Cert.Proof.TcOps Cert.Proof.TcBody Cert.Proof.TcData Cert.Proof.TcRegion Cert.Proof.TcValue Cert.Proof.Host Cert.Proof.Bins

open Idealize.ShloMosaic Idealize.ShloMosaic.TcCoe
open Idealize.ShloMosaic.StableHlo
open Idealize.ShloMosaic.Pipeline (RDat ucRefs)
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-- The two pipelines' cells are different semaphores. -/
theorem phinj : Function.Injective (Pipeline.cellOf (nD := nD) (τ := τ) (Pipeline.pin (pcfgs (F := F)) adm)) := cellOf_inj

/-- One pipeline's ghost state at the launch. -/
def ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- The core owes a kernel of its own nothing: its debts are the SparseCore call's start signals. -/
theorem Otc_none (n : ℕ) (d : Dev nD) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg (fun h => nomatch h.2)]
  · rfl

variable (U : (c : Dev nD) → (b : Ref sig .tc) → Buf (Elt F) ((c.tc : Thread nD τ).loc b))

/-- A TensorCore kernel's call between the handshakes: its arrays to what it may leave. -/
theorem wp_call (n : ℕ) (p : Fin 2)
    (R : RDat.RegionSeg (pcfgs (F := F)) adm (rdats U (fun d => (K (F := F)).Otc d n) (8 * n)) none defs₀ 𝒱₀ (K (F := F)).L (K (F := F)).lev p)
    (hpre : R.pre = before U (fun d => (K (F := F)).Otc d n) (8 * n) p)
    (hpost : R.post = behind U (fun d => (K (F := F)).Otc d n) (8 * n) p)
    (d : Dev nD) (Φ : PUnit → sProp 𝕄) :
    iprop(levAts (K (F := F)).L (K (F := F)).lev ∗ boundary (SparseCore.T d : Thread nD τ) ∗ arrs p d (U d) ∗ (K (F := F)).tcSt EH d n ∗ ghost p d
        ∗ ((boundary (SparseCore.T d : Thread nD τ) ∗ (∃ U', ⌜Left U (fun d => (K (F := F)).Otc d n) (8 * n) p d U'⌝ ∗ arrs p d U') ∗ (K (F := F)).tcSt EH d n) -∗ Φ ⟨⟩))
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none (.op (.customCall (Pipeline.entry p) ()) .ret) Φ)
  refine BIBase.Entails.trans ?_ (RDat.RegionSeg.wp (pcfgs (F := F)) adm _ none phinj EP defs₀ 𝒱₀ (K (F := F)).L (K (F := F)).lev R d none (fun _ h => nomatch h) .ret Φ)
  rw [hpre, hpost]
  unfold before behind ghost SparseCore.Cfg.tcSt
  iintro ⟨HL, Hb, Ha, ⟨⟨%W, %hW, HO⟩, Hrest⟩, ⟨Hg1, Hg2⟩, Hk⟩
  isplitl [Hk Hrest]
  · iintro ⟨Hb, HU, %W', %hW', HO⟩
    rw [wp_ret]
    imodintro
    iapply Hk
    isplitl [Hb]; · iexact Hb
    isplitl [HU]; · iexact HU
    isplitl [HO]
    · iexists W'
      isplitr; · ipureintro; exact hW'
      iexact HO
    · iexact Hrest
  isplitl [Hb]; · iexact Hb
  isplitl [Ha HO]
  · isplitl [Ha]; · iexact Ha
    iexists W
    isplitr; · ipureintro; exact hW
    iexact HO
  isplitl [HL]; · iexact HL
  isplitl [Hg1]; · iexact Hg1
  iexact Hg2

/-! ## The buffers as the kernels' arrays -/

abbrev dr (r : Ref sig .tc) : DevRef τ sig := Proc.devRef .tc r

/-- The index kernel's arrays, and the loss kernel's. -/
abbrev SI : Finset (DevRef τ sig) := {dr main_arg0, dr main_v0, dr main_v1, dr main_v2, dr main_v12, dr main_v13}
abbrev SL : Finset (DevRef τ sig) := {dr main_v16, dr main_v17}

omit [FloatOps F] [Named F] [∀ e, Nonempty (Elt F e)] in
theorem held_SL (d : Dev nD) (W : Valuation τ sig (Elt F)) :
    (held (SparseCore.T d) SL W : sProp 𝕄) = iprop(((SparseCore.T d).loc main_v16 ↦{fullShare} W (dr main_v16)) ∗ ((SparseCore.T d).loc main_v17 ↦{fullShare} W (dr main_v17))) := by
  unfold held SL
  rw [SparseCore.bigSep_insert' (by decide), bigSep_singleton]

theorem arrs0_held (d : Dev nD) (W : Valuation τ sig (Elt F)) : (arrs 0 d (fun r => W (dr r)) : sProp 𝕄) = held (SparseCore.T d) SI W := by
  unfold arrs held SI
  rw [SparseCore.bigSep_insert' (by decide), SparseCore.bigSep_insert' (by decide), SparseCore.bigSep_insert' (by decide),
    SparseCore.bigSep_insert' (by decide), SparseCore.bigSep_insert' (by decide), bigSep_singleton]
  exact bigSep_W0 _

theorem arrs2_held (d : Dev nD) (W : Valuation τ sig (Elt F)) : (arrs 1 d (fun r => W (dr r)) : sProp 𝕄) = held (SparseCore.T d) SL W := by
  rw [held_SL]
  exact bigSep_W2 _

/-- The packed bins and the histograms. -/
abbrev SX : Finset (DevRef τ sig) := {dr main_v14, dr main_v15}

omit [FloatOps F] [Named F] [∀ e, Nonempty (Elt F e)] in
theorem held_SX (d : Dev nD) (W : Valuation τ sig (Elt F)) :
    (held (SparseCore.T d) SX W : sProp 𝕄) = iprop((xLoc d ↦{fullShare} W (dr main_v14)) ∗ (oLoc d ↦{fullShare} W (dr main_v15))) := by
  unfold held SX
  rw [SparseCore.bigSep_insert' (by decide), bigSep_singleton]

/-! ## The SparseCore call's arguments and results -/

theorem wid0_inj : Function.Injective (wid 0) := by decide
theorem wid1_inj : Function.Injective (wid 1) := by decide
theorem wids_cover : (Finset.univ : Finset (Fin 32)) = (Finset.univ.map ⟨wid 0, wid0_inj⟩) ∪ (Finset.univ.map ⟨wid 1, wid1_inj⟩) := by decide
theorem wids_disjoint : Disjoint (Finset.univ.map ⟨wid 0, wid0_inj⟩) (Finset.univ.map ⟨wid 1, wid1_inj⟩) := by decide

/-- The rows of the histograms, by SparseCore and tile. -/
theorem rows_by_tile (Φ : Fin 32 → sProp 𝕄) :
    bigSep Finset.univ Φ = iprop((bigSep Finset.univ fun s : Fin 16 => Φ (wid 0 s)) ∗ bigSep Finset.univ fun s : Fin 16 => Φ (wid 1 s)) := by
  rw [show (Finset.univ : Finset (Fin 32)) = (Finset.univ.map ⟨wid 0, wid0_inj⟩) ∪ (Finset.univ.map ⟨wid 1, wid1_inj⟩) from wids_cover,
    BI.bigSep_union wids_disjoint, BI.bigSep_map, BI.bigSep_map]
  rfl

variable (X : Dev nD → S32x20x16384.Idx → BitVec 32)

theorem st_eq (d : Dev nD) : (bigSep Finset.univ fun c : Fin ((K (F := F)).nCore 0) => (P X).st 0 d c) = iprop(stC X d 0 ∗ stC X d 1) := by
  show (bigSep (Finset.univ : Finset (Fin 2)) fun c => stC X d c) = _
  rw [show (Finset.univ : Finset (Fin 2)) = {0, 1} by decide, SparseCore.bigSep_insert' (by decide), bigSep_singleton]

theorem dn_eq (d : Dev nD) : (bigSep Finset.univ fun c : Fin ((K (F := F)).nCore 0) => (P X).dn 0 d c) = iprop(dnC X d 0 ∗ dnC X d 1) := by
  show (bigSep (Finset.univ : Finset (Fin 2)) fun c => dnC X d c) = _
  rw [show (Finset.univ : Finset (Fin 2)) = {0, 1} by decide, SparseCore.bigSep_insert' (by decide), bigSep_singleton]

/-- The histograms whole are their 32 rows. -/
theorem whole_rows (d : Dev nD) (f : Buf (Elt F) (oLoc d)) : (oLoc d ↦{fullShare} f : sProp 𝕄) = bigSep Finset.univ fun i : Fin 32 => oRow d i f := by
  rw [← rows_cover]
  exact pointsTo_biUnion _ _ rows_disjoint

/-- The packed bins and the whole result are what the two SparseCores take. -/
theorem st_intro (d : Dev nD) (f : Buf (Elt F) (oLoc d)) :
    iprop((xLoc d ↦{fullShare} (X d : Buf (Elt F) (xLoc d))) ∗ (oLoc d ↦{fullShare} f))
      ⊢ (bigSep Finset.univ fun c : Fin ((K (F := F)).nCore 0) => (P X).st 0 d c : sProp 𝕄) := by
  rw [st_eq, whole_rows, rows_by_tile]
  unfold stC
  have hrow (c : Fin 2) : (bigSep Finset.univ fun s : Fin 16 => oRow d (wid c s) f)
      ⊢ (bigSep Finset.univ fun s : Fin 16 => iprop(∃ f, oRow d (wid c s) f) : sProp 𝕄) :=
    BI.bigSep_mono fun s _ => exists_intro (Φ := fun f => oRow d (wid c s) f) f
  iintro ⟨Hx, H0, H1⟩
  ihave H := (Transfers.pointsTo_toks_split fullShare 2) $$ Hx
  icases H with ⟨-, Hx⟩
  ihave Hx2 := (Entails.of_eq (show (bigSep Finset.univ fun i : Fin 2 => (xLoc d ↦{Transfers.shareTok fullShare 2 i} (X d : Buf (Elt F) (xLoc d)) : sProp 𝕄))
    = iprop((xLoc d ↦{shC 0} (X d : Buf (Elt F) (xLoc d))) ∗ (xLoc d ↦{shC 1} (X d : Buf (Elt F) (xLoc d)))) by
      rw [show (Finset.univ : Finset (Fin 2)) = {0, 1} by decide, SparseCore.bigSep_insert' (by decide), bigSep_singleton])) $$ Hx
  icases Hx2 with ⟨Hx0, Hx1⟩
  isplitl [Hx0 H0]
  · isplitl [Hx0]; · iexact Hx0
    iapply hrow 0; iexact H0
  · isplitl [Hx1]; · iexact Hx1
    iapply hrow 1; iexact H1

/-- What the two hand back is the whole result at the histograms. -/
theorem dn_elim (d : Dev nD) :
    (bigSep Finset.univ fun c : Fin ((K (F := F)).nCore 0) => (P X).dn 0 d c : sProp 𝕄)
      ⊢ (oLoc d ↦{fullShare} (hist (X d) : Buf (Elt F) (oLoc d)) : sProp 𝕄) := by
  rw [dn_eq, whole_rows, rows_by_tile]
  unfold dnC
  exact .rfl

end Cert.Proof.Calls

end
-- ==== Proof.Main.lean ====
/-
  The whole program's run: the host line, the index kernel, the SparseCore call, the loss kernel; what the result buffer
  holds at its end, as a function of the arguments' contents.
-/
module

public import proofs.«01_k».proof.Proof.Calls

@[expose] public section

set_option maxRecDepth 16384

noncomputable section

namespace Cert.Proof.Main

open Cert.KernelIdeal Cert.KernelIdeal.Gen
open Cert.Proof.Common Cert.Proof.TcOps Cert.Proof.TcBody Cert.Proof.TcData Cert.Proof.TcRegion Cert.Proof.TcValue Cert.Proof.Host Cert.Proof.Bins Cert.Proof.Calls

open Idealize.ShloMosaic Idealize.ShloMosaic.TcCoe
open Idealize.ShloMosaic.StableHlo
open Idealize.ShloMosaic.ValueIdx (ix1 ix2 ix3)
open Idealize.ShloMosaic.Pipeline (RDat ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (ρ : Dev nD → PrngReg)

/-! ## The buffers, step by step -/

abbrev R : Finset (DevRef τ sig) := ucRefs τ sig

/-- At the launch, after the host line, after the index kernel, after the bins' reshape. -/
def V0 (d : Dev nD) : Valuation τ sig (Elt F) := fun b => m (d, b)
def V1 (d : Dev nD) : Valuation τ sig (Elt F) := after opsHost (V0 m d)
def U1 (c : Dev nD) (b : Ref sig .tc) : Buf (Elt F) ((c.tc : Thread nD τ).loc b) := V1 m c (dr b)
/-- The packed bins, as the SparseCore call reads them. -/
def X (d : Dev nD) : S32x20x16384.Idx → BitVec 32 := rows (U1 m) d
def V2 (d : Dev nD) : Valuation τ sig (Elt F) := Function.update (V1 m d) (dr main_v13) (bins (U1 m) d)
def V3 (d : Dev nD) : Valuation τ sig (Elt F) := (opX (F := F)).result (V2 m d)
/-- After the SparseCore call, after the histograms' reshape, after the loss kernel, at the end. -/
def V4 (d : Dev nD) : Valuation τ sig (Elt F) := Function.update (V3 m d) (dr main_v15) (hist (X m d))
def V5 (d : Dev nD) : Valuation τ sig (Elt F) := (opH (F := F)).result (V4 m d)
def U5 (c : Dev nD) (b : Ref sig .tc) : Buf (Elt F) ((c.tc : Thread nD τ).loc b) := V5 m c (dr b)
/-- The histograms as the loss kernel reads them. -/
def H (d : Dev nD) : S2048x256.Idx → F .f32 := shapeCast S2048x256 (hist (X m d) : S32x16384.Idx → F .f32) shapeCasts_S32x16384_S2048x256
def V6 (d : Dev nD) : Valuation τ sig (Elt F) := Function.update (V5 m d) (dr main_v17) (fun _ => k2_pay1 (H m d))
def V7 (d : Dev nD) : Valuation τ sig (Elt F) := (opL (F := F)).result (V6 m d)
/-- The program's result. -/
def out (d : Dev nD) : S_.Idx → F .f32 := fun _ => k2_pay1 (H m d)

theorem v12_eq (d : Dev nD) : (U1 m d main_v12 : S1x1024.Idx → BitVec 32) = Host.boff := v12_after (V0 m d)

theorem X_below (d : Dev nD) : Tile.Below (X m d) := rows_below (U1 m) d (v12_eq m d)

theorem V3_v14 (d : Dev nD) : (V3 m d (dr main_v14) : S32x20x16384.Idx → BitVec 32) = X m d := by
  have h := reshape_result (τ := τ) (Val := Elt F) main_v13 main_v14 (rfl : (.i32 : EltTy) = .i32) shapeCasts_S10x1024x1024_S32x20x16384 (by decide) (by decide) (V2 m d)
  refine Eq.trans h ?_
  unfold X rows V2
  rw [Function.update_self]
  rfl

theorem V5_v16 (d : Dev nD) : (V5 m d (dr main_v16) : S2048x256.Idx → F .f32) = H m d := by
  have h := reshape_result (τ := τ) (Val := Elt F) main_v15 main_v16 (rfl : (.f32 : EltTy) = .f32) shapeCasts_S32x16384_S2048x256 (by decide) (by decide) (V4 m d)
  refine Eq.trans h ?_
  unfold H V4
  rw [Function.update_self]
  rfl

theorem V7_v18 (d : Dev nD) : (V7 m d (dr main_v18) : S_.Idx → F .f32) = out m d := by
  have h := reshape_result (τ := τ) (Val := Elt F) main_v17 main_v18 (rfl : (.f32 : EltTy) = .f32) shapeCasts_S1x1_S_ (by decide) (by decide) (V6 m d)
  refine Eq.trans h ?_
  unfold out V6
  rw [Function.update_self]
  rfl

/-- A buffer that no step after the host line writes ends as that line left it. -/
theorem V7_rest (d : Dev nD) (r : Ref sig .tc) (h13 : r ≠ main_v13) (h14 : r ≠ main_v14) (h15 : r ≠ main_v15) (h16 : r ≠ main_v16)
    (h17 : r ≠ main_v17) (h18 : r ≠ main_v18) : V7 m d (dr r) = V1 m d (dr r) := by
  unfold V7
  rw [reshape_result_ne _ _ _ _ _ _ _ h18]
  unfold V6
  rw [Function.update_of_ne (fun h => h17 (Proc.devRef_injective _ h))]
  unfold V5
  rw [reshape_result_ne _ _ _ _ _ _ _ h16]
  unfold V4
  rw [Function.update_of_ne (fun h => h15 (Proc.devRef_injective _ h))]
  unfold V3
  rw [reshape_result_ne _ _ _ _ _ _ _ h14]
  unfold V2
  rw [Function.update_of_ne (fun h => h13 (Proc.devRef_injective _ h))]

theorem V7_arg0 (d : Dev nD) : V7 m d (dr main_arg0) = m (d, dr main_arg0) :=
  (V7_rest m d _ (by decide) (by decide) (by decide) (by decide) (by decide) (by decide)).trans (arg0_after (V0 m d))
theorem V7_arg1 (d : Dev nD) : V7 m d (dr main_arg1) = m (d, dr main_arg1) :=
  (V7_rest m d _ (by decide) (by decide) (by decide) (by decide) (by decide) (by decide)).trans (arg1_after (V0 m d))

/-! ## Which buffers each step has -/

theorem host_sub : ∀ op ∈ (opsHost : List (HloOp τ sig (Elt F))), op.bufs ⊆ R := by
  intro op h
  have : ((opsHost : List (HloOp τ sig (Elt F))).map HloOp.bufs).all (fun s => s ⊆ R) = true := rfl
  simp only [List.all_map, List.all_eq_true] at this
  simpa using this op h

theorem SI_sub : SI ⊆ R := by decide +kernel
theorem SX_sub : SX ⊆ R := by decide +kernel
/-- The buffers after the SparseCore call, which keeps the packed bins. -/
abbrev R' : Finset (DevRef τ sig) := R \ {dr main_v14}
theorem SL_sub : SL ⊆ R' := by decide +kernel
theorem opX_sub : (opX (F := F)).bufs ⊆ R := show ({dr main_v13, dr main_v14} : Finset (DevRef τ sig)) ⊆ R by decide +kernel
theorem opH_sub : (opH (F := F)).bufs ⊆ R' := show ({dr main_v15, dr main_v16} : Finset (DevRef τ sig)) ⊆ R' by decide +kernel
theorem opL_sub : (opL (F := F)).bufs ⊆ R' := show ({dr main_v17, dr main_v18} : Finset (DevRef τ sig)) ⊆ R' by decide +kernel
/-- The arguments and the result. -/
abbrev SF : Finset (DevRef τ sig) := {dr main_arg0, dr main_arg1, dr main_v18}
theorem SF_sub : SF ⊆ R' := by decide +kernel

theorem v13_mem : dr main_v13 ∈ SI := by decide
theorem v17_mem : dr main_v17 ∈ SL := by decide
theorem v15_mem : dr main_v15 ∈ SX := by decide
theorem R'_diff : R' \ {dr main_v15} = R \ SX := by decide +kernel

/-! ## The kernels' effects on the buffers -/

theorem split0 (d : Dev nD) : (held (SparseCore.T d) R (V1 m d) : sProp 𝕄) = iprop(arrs 0 d (U1 m d) ∗ held (SparseCore.T d) (R \ SI) (V1 m d)) := by
  rw [held_sub_split _ SI_sub, ← arrs0_held]; rfl

/-- The index kernel leaves the bins and nothing else. -/
theorem join0 (O : Dev nD → CellTallies nD τ sig (HIx 1)) (b : ℕ) (d : Dev nD) (U' : (r : Ref sig .tc) → Buf (Elt F) ((d.tc : Thread nD τ).loc r))
    (h : Left (U1 m) O b 0 d U') :
    (iprop(arrs 0 d U' ∗ held (SparseCore.T d) (R \ SI) (V1 m d)) : sProp 𝕄) = held (SparseCore.T d) R (V2 m d) := by
  have hU (r : Ref sig .tc) : U' r = V2 m d (dr r) := by
    unfold V2
    by_cases hr : r = main_v13
    · subst hr
      rw [Function.update_self]
      funext i
      refine Eq.trans ?_ (left_bins (U1 m) O b d U' h (i 0) (i 1) (i 2))
      exact congrArg (U' main_v13) (by funext a; fin_cases a <;> rfl)
    · rw [Function.update_of_ne (fun h => hr (Proc.devRef_injective _ h))]
      exact left_rest (U1 m) O b d U' h r hr
  have e : U' = fun r => V2 m d (dr r) := funext hU
  rw [e, arrs0_held, held_sub_split (SparseCore.T d) SI_sub (V2 m d)]
  refine congrArg (fun Q : sProp 𝕄 => iprop(held (SparseCore.T d) SI (V2 m d) ∗ Q)) (held_congr _ fun b hb => ?_)
  unfold V2
  exact (Function.update_of_ne (fun e : b = dr main_v13 => (Finset.mem_sdiff.mp hb).2 (e ▸ v13_mem)) _ _).symm

theorem split2 (d : Dev nD) : (held (SparseCore.T d) R' (V5 m d) : sProp 𝕄) = iprop(arrs 1 d (U5 m d) ∗ held (SparseCore.T d) (R' \ SL) (V5 m d)) := by
  rw [held_sub_split _ SL_sub, ← arrs2_held]; rfl

/-- The loss kernel leaves the loss and nothing else. -/
theorem join2 (O : Dev nD → CellTallies nD τ sig (HIx 1)) (b : ℕ) (d : Dev nD) (U' : (r : Ref sig .tc) → Buf (Elt F) ((d.tc : Thread nD τ).loc r))
    (h : Left (U5 m) O b 1 d U') :
    (iprop(arrs 1 d U' ∗ held (SparseCore.T d) (R' \ SL) (V5 m d)) : sProp 𝕄) = held (SparseCore.T d) R' (V6 m d) := by
  have hU (r : Ref sig .tc) : U' r = V6 m d (dr r) := by
    unfold V6
    by_cases hr : r = main_v17
    · subst hr
      rw [Function.update_self]
      refine (left_loss (U5 m) O b d U' h).trans ?_
      funext _
      exact congrArg k2_pay1 (V5_v16 m d)
    · rw [Function.update_of_ne (fun h => hr (Proc.devRef_injective _ h))]
      exact left_rest2 (U5 m) O b d U' h r hr
  have e : U' = fun r => V6 m d (dr r) := funext hU
  rw [e, arrs2_held, held_sub_split (SparseCore.T d) SL_sub (V6 m d)]
  refine congrArg (fun Q : sProp 𝕄 => iprop(held (SparseCore.T d) SL (V6 m d) ∗ Q)) (held_congr _ fun b hb => ?_)
  unfold V6
  exact (Function.update_of_ne (fun e : b = dr main_v17 => (Finset.mem_sdiff.mp hb).2 (e ▸ v17_mem)) _ _).symm

theorem splitX (d : Dev nD) : (held (SparseCore.T d) R (V3 m d) : sProp 𝕄)
    = iprop(((xLoc d ↦{fullShare} (X m d : Buf (Elt F) (xLoc d))) ∗ (oLoc d ↦{fullShare} V3 m d (dr main_v15))) ∗ held (SparseCore.T d) (R \ SX) (V3 m d)) := by
  rw [held_sub_split _ SX_sub, held_SX, V3_v14]

/-- The histograms put back among the buffers. -/
theorem join_hist (d : Dev nD) (W : Valuation τ sig (Elt F)) (f : Buf (Elt F) (oLoc d)) :
    (iprop((oLoc d ↦{fullShare} f) ∗ held (SparseCore.T d) (R \ SX) W) : sProp 𝕄)
      = held (SparseCore.T d) R' (Function.update W (dr main_v15) f) := by
  have hs : ({dr main_v15} : Finset (DevRef τ sig)) ⊆ R' := by decide +kernel
  rw [held_sub_split (SparseCore.T d) hs (Function.update W (dr main_v15) f)]
  have h1 : (held (SparseCore.T d) {dr main_v15} (Function.update W (dr main_v15) f) : sProp 𝕄) = (oLoc d ↦{fullShare} f) := by
    unfold held
    rw [bigSep_singleton, Function.update_self]
  rw [h1, R'_diff]
  refine congrArg (fun Q : sProp 𝕄 => iprop((oLoc d ↦{fullShare} f) ∗ Q)) (held_congr _ fun b hb => ?_)
  exact (Function.update_of_ne (fun e : b = dr main_v15 => (Finset.mem_sdiff.mp hb).2 (e ▸ v15_mem)) _ _).symm

theorem joinX (d : Dev nD) : (iprop((oLoc d ↦{fullShare} (hist (X m d) : Buf (Elt F) (oLoc d))) ∗ held (SparseCore.T d) (R \ SX) (V3 m d)) : sProp 𝕄)
    = held (SparseCore.T d) R' (V4 m d) := join_hist d (V3 m d) (hist (X m d))

/-- What the program leaves the claim: the arguments at their launch contents and the result. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v18 ↦{fullShare} (out m d : Buf (Elt F) ((SparseCore.T d).loc main_v18))))

theorem fin_of_held (d : Dev nD) : (held (SparseCore.T d) R' (V7 m d) : sProp 𝕄) ⊢ FIN m d := by
  rw [held_sub_split (SparseCore.T d) SF_sub (V7 m d)]
  unfold FIN held SF
  rw [SparseCore.bigSep_insert' (by decide), SparseCore.bigSep_insert' (by decide), bigSep_singleton, V7_arg0, V7_arg1, V7_v18]
  iintro ⟨H, -⟩
  iexact H

end Cert.Proof.Main

end
-- ==== Proof.Whole.lean ====
/-
  The program on its TensorCore from the launch to the end, and the run of all its threads.
-/
module

public import proofs.«01_k».proof.Proof.Main

@[expose] public section

set_option maxRecDepth 16384

noncomputable section

namespace Cert.Proof.Whole

open Cert.KernelIdeal Cert.KernelIdeal.Gen
open Cert.Proof.Common Cert.Proof.TcRegion Cert.Proof.Host Cert.Proof.Bins Cert.Proof.Calls Cert.Proof.Main

open Idealize.ShloMosaic Idealize.ShloMosaic.TcCoe
open Idealize.ShloMosaic.StableHlo
open Idealize.ShloMosaic.Pipeline (RDat ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (ρ : Dev nD → PrngReg)

/-! ## @main on the TensorCore -/

/-- The index kernel's call takes the buffers from the host line's end to the bins. -/
theorem step0 (d : Dev nD) (Φ : PUnit → sProp 𝕄) :
    iprop(levAts (K (F := F)).L (K (F := F)).lev ∗ boundary (SparseCore.T d : Thread nD τ) ∗ held (SparseCore.T d) R (V1 m d) ∗ (K (F := F)).tcSt EH d 0 ∗ ghost 0 d
        ∗ ((boundary (SparseCore.T d : Thread nD τ) ∗ held (SparseCore.T d) R (V2 m d) ∗ (K (F := F)).tcSt EH d 0) -∗ Φ ⟨⟩))
      ⊢ wp frame (wpE ((K (F := F)).defs (D (F := F))) 𝒱 (SparseCore.T d) none) Set.univ
          (Prog.lift (.customCall (SparseCore.inner (Pipeline.entry 0)) ())) Φ := by
  refine BIBase.Entails.trans ?_ (wp_call (U1 m) 0 0 (reg0 (U1 m) (fun d => (K (F := F)).Otc d 0) (8 * 0) fun c g => Otc_none 0 c g) rfl rfl d Φ)
  rw [split0]
  iintro ⟨HL, Hb, ⟨Ha, Hh⟩, Hst, Hg, Hk⟩
  isplitl [HL]; · iexact HL
  isplitl [Hb]; · iexact Hb
  isplitl [Ha]; · iexact Ha
  isplitl [Hst]; · iexact Hst
  isplitl [Hg]; · iexact Hg
  iintro ⟨Hb, ⟨%U', %hU', Ha⟩, Hst⟩
  iapply Hk
  isplitl [Hb]; · iexact Hb
  isplitl [Ha Hh]
  · iapply (Entails.of_eq (join0 m _ _ d U' hU'))
    isplitl [Ha]; · iexact Ha
    iexact Hh
  iexact Hst

/-- The loss kernel's call takes them from the histograms to the loss. -/
theorem step2 (d : Dev nD) (Φ : PUnit → sProp 𝕄) :
    iprop(levAts (K (F := F)).L (K (F := F)).lev ∗ boundary (SparseCore.T d : Thread nD τ) ∗ held (SparseCore.T d) R' (V5 m d) ∗ (K (F := F)).tcSt EH d 1 ∗ ghost 1 d
        ∗ ((boundary (SparseCore.T d : Thread nD τ) ∗ held (SparseCore.T d) R' (V6 m d) ∗ (K (F := F)).tcSt EH d 1) -∗ Φ ⟨⟩))
      ⊢ wp frame (wpE ((K (F := F)).defs (D (F := F))) 𝒱 (SparseCore.T d) none) Set.univ
          (Prog.lift (.customCall (SparseCore.inner (Pipeline.entry 1)) ())) Φ := by
  refine BIBase.Entails.trans ?_ (wp_call (U5 m) 1 1 (reg2 (U5 m) (fun d => (K (F := F)).Otc d 1) (8 * 1) fun c g => Otc_none 1 c g) rfl rfl d Φ)
  rw [split2]
  iintro ⟨HL, Hb, ⟨Ha, Hh⟩, Hst, Hg, Hk⟩
  isplitl [HL]; · iexact HL
  isplitl [Hb]; · iexact Hb
  isplitl [Ha]; · iexact Ha
  isplitl [Hst]; · iexact Hst
  isplitl [Hg]; · iexact Hg
  iintro ⟨Hb, ⟨%U', %hU', Ha⟩, Hst⟩
  iapply Hk
  isplitl [Hb]; · iexact Hb
  isplitl [Ha Hh]
  · iapply (Entails.of_eq (join2 m _ _ d U' hU'))
    isplitl [Ha]; · iexact Ha
    iexact Hh
  iexact Hst

/-- The SparseCore call takes them from the bins to the histograms. -/
theorem step1 (κ : GSem nD τ sig → ℕ) (d : Dev nD) (Φ : PUnit → sProp 𝕄) :
    iprop((K (F := F)).ctx EH (P (X m)) κ ∗ held (SparseCore.T d) R (V3 m d) ∗ (K (F := F)).tcSt EH d 0
        ∗ ((held (SparseCore.T d) R' (V4 m d) ∗ (K (F := F)).tcSt EH d 1) -∗ Φ ⟨⟩))
      ⊢ wp frame (wpE ((K (F := F)).defs (D (F := F))) 𝒱 (SparseCore.T d) none) Set.univ ((K (F := F)).run d 0) Φ := by
  refine BIBase.Entails.trans ?_ ((K (F := F)).wp_run (D (F := F)) 𝒱 (EH := EH) (P := P (X m)) κ d 0)
  rw [splitX]
  iintro ⟨Hctx, ⟨Ho, Hh⟩, Hst, Hk⟩
  isplitl [Hctx]; · iexact Hctx
  isplitl [Hst]; · iexact Hst
  isplitl [Ho]; · iapply (st_intro (X m) d (V3 m d (dr main_v15))); iexact Ho
  iintro ⟨Hst, Hdn⟩
  ihave Hdn' := (dn_elim (X m) d) $$ Hdn
  iapply Hk
  isplitl [Hdn' Hh]
  · iapply (Entails.of_eq (joinX m d))
    isplitl [Hdn']; · iexact Hdn'
    iexact Hh
  iexact Hst

/-- Both pipelines' ghost state on device `d`. -/
def G (d : Dev nD) : sProp 𝕄 := iprop(ghost 0 d ∗ ghost 1 d)

/-- @main on device `d`: from the launch's buffers to the arguments unchanged and the result. -/
theorem hmain (κ : GSem nD τ sig → ℕ) (d : Dev nD) :
    iprop((K (F := F)).ctx EH (P (X m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((SparseCore.T d).loc b)) : sProp 𝕄) = held (SparseCore.T d) R (V0 m d) := Pipeline.unscopedBufs_held (Ix := HIx 1) (Name := ℕ) (U := UU) (Lvl := ℕ) (Val := Elt F) d (V0 m d)
  unfold SparseCore.Cfg.tcRes SparseCore.Cfg.tcEnd G
  rw [main_eq]
  iintro ⟨#Hctx, Hst, ⟨Hb, Hu, Hts, -⟩, ⟨Hg0, Hg1⟩⟩
  ihave Hheld := (Entails.of_eq hu) $$ Hu
  ihave #HL := (SparseCore.Cfg.ctx_levAts κ) $$ Hctx
  iapply (wp_seq 𝒱 none Set.univ d R _ opsHost host_sub opsHost_fresh (V0 m d)) $$ [Hb Hheld]
  · isplitl [Hb]; · iexact Hb
    iexact Hheld
  iintro ⟨Hb, Hheld⟩
  rw [wp_bind]
  iapply (step0 m d)
  isplitr; · iexact HL
  isplitl [Hb]; · iexact Hb
  isplitl [Hheld]; · iexact Hheld
  isplitl [Hst]; · iexact Hst
  isplitl [Hg0]; · iexact Hg0
  iintro ⟨Hb, Hheld, Hst⟩
  rw [wp_bind]
  iapply (wp_hlo_within 𝒱 (SparseCore.T d) none Set.univ (op := opX) (S := R) opX_sub (V := V2 m d)) $$ [Hb Hheld]
  · isplitl [Hb]; · iexact Hb
    iexact Hheld
  iintro ⟨Hb, Hheld⟩
  rw [wp_ret]; imodintro
  rw [wp_bind]
  iapply (step1 m κ d)
  isplitr; · iexact Hctx
  isplitl [Hheld]; · iexact Hheld
  isplitl [Hst]; · iexact Hst
  iintro ⟨Hheld, Hst⟩
  rw [wp_bind]
  iapply (wp_hlo_within 𝒱 (SparseCore.T d) none Set.univ (op := opH) (S := R') opH_sub (V := V4 m d)) $$ [Hb Hheld]
  · isplitl [Hb]; · iexact Hb
    iexact Hheld
  iintro ⟨Hb, Hheld⟩
  rw [wp_ret]; imodintro
  rw [wp_bind]
  iapply (step2 m d)
  isplitr; · iexact HL
  isplitl [Hb]; · iexact Hb
  isplitl [Hheld]; · iexact Hheld
  isplitl [Hst]; · iexact Hst
  isplitl [Hg1]; · iexact Hg1
  iintro ⟨Hb, Hheld, Hst⟩
  rw [wp_bind]
  iapply (wp_hlo_within 𝒱 (SparseCore.T d) none Set.univ (op := opL) (S := R') opL_sub (V := V6 m d)) $$ [Hb Hheld]
  · isplitl [Hb]; · iexact Hb
    iexact Hheld
  iintro ⟨Hb, Hheld⟩
  rw [wp_ret]; imodintro
  rw [wp_pure]; imodintro
  isplitl [Hst]; · iexact Hst
  isplitl [Hheld]; · iapply (fin_of_held m d); iexact Hheld
  isplitl [Hb]; · iexact Hb
  iexact Hts

/-! ## The launch element -/

/-- The handshakes' rounds and the pipelines' rounds at the launch. -/
def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem split_ghost : (ownU (u₀ (F := F)) : sProp 𝕄)
    ⊢ iprop(BI.own (EH (initOf (K (F := F)).hsCells (K (F := F)).hsToks))
        ∗ BI.own (EP (initOf (Pipeline.cells (Pipeline.pin (pcfgs (F := F)) adm) phinj) (Pipeline.launchToks (Pipeline.pin (pcfgs (F := F)) adm) phinj)))) := by
  unfold u₀
  iintro Hu
  ihave H := (ownU_pair _ _) $$ Hu
  icases H with ⟨HH, HK⟩
  isplitl [HH]; · iexact HH
  ihave H2 := (own_pair_emb (embR (nD := nD) (τ := τ) (sig := sig) (Ix := HIx 1) (Val := Elt F) (Name := ℕ) (Lvl := ℕ) (A := UH) (B := UK × Counters)) _ _) $$ HK
  icases H2 with ⟨HP, -⟩
  iexact HP

/-- Both pipelines' ghost state, device by device. -/
theorem ghost_devs :
    iprop((bigSep Finset.univ fun c : Dev nD => bigSep Finset.univ fun p : Fin 2 => Pipeline.cellsGhost (Pipeline.pin (pcfgs (F := F)) adm) EP p c)
      ∗ (bigSep Finset.univ fun c : Dev nD => bigSep Finset.univ fun p : Fin 2 => (Pipeline.toksInit (Pipeline.pin (pcfgs (F := F)) adm) EP p c : sProp 𝕄)))
      ⊢ bigSep Finset.univ fun d : Dev nD => G d := by
  rw [← bigSep_sep']
  refine BI.bigSep_mono fun d _ => ?_
  rw [← bigSep_sep']
  unfold G ghost
  rw [show (Finset.univ : Finset (Fin 2)) = {0, 1} by decide, SparseCore.bigSep_insert' (by decide), bigSep_singleton]
  exact BI.Entails.refl _

theorem bigSep_emp_one {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (X m)).x q thr) := by
  iintro Hu
  ihave H := (split_ghost (F := F)) $$ Hu
  icases H with ⟨HH, HP⟩
  imod (Pipeline.fund_ghost (Pipeline.pin (pcfgs (F := F)) adm) EP phinj) $$ HP with HG
  imodintro
  isplitl [HH]; · iexact HH
  isplitl [HG]; · iapply ghost_devs; iexact HG
  unfold P; dsimp only
  rw [show (bigSep Finset.univ fun _ : Thread nD τ => bigSep Finset.univ fun _ : Fin 1 => (iprop(emp) : sProp 𝕄)) = iprop(emp) from by
    rw [bigSep_congr fun _ _ => bigSep_emp_one _, bigSep_emp_one]]
  iempintro

/-! ## The run -/

/-- What a final state satisfies: the arguments unchanged, the result as computed. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v18) = (out m d : Buf (Elt F) ((SparseCore.T d).loc main_v18))

theorem agree (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem pure_and {Q : sProp 𝕄} {a b : Prop} (h1 : Q ⊢ (⌜a⌝ : sProp 𝕄)) (h2 : Q ⊢ (⌜b⌝ : sProp 𝕄)) : Q ⊢ (⌜a ∧ b⌝ : sProp 𝕄) := by
  refine BIBase.Entails.trans (persistent_entails_right h1) ?_
  iintro ⟨%ha, HQ⟩
  ihave H := h2 $$ HQ
  icases H with %hb
  ipureintro; exact ⟨ha, hb⟩

theorem hfin (d : Dev nD) (s' : Phys nD τ sig (Elt F)) : iprop(FIN m d ∗ SI s') ⊢ (⌜fq m d s'⌝ : sProp 𝕄) := by
  unfold FIN fq
  refine pure_and ?_ (pure_and ?_ ?_)
  · iintro ⟨⟨H, -, -⟩, HSI⟩
    iapply (agree ((SparseCore.T d).loc main_arg0) _ s')
    isplitl [H] <;> iassumption
  · iintro ⟨⟨-, H, -⟩, HSI⟩
    iapply (agree ((SparseCore.T d).loc main_arg1) _ s')
    isplitl [H] <;> iassumption
  · iintro ⟨⟨-, -, H⟩, HSI⟩
    iapply (agree ((SparseCore.T d).loc main_v18) _ s')
    isplitl [H] <;> iassumption

/-- Every run ends with the arguments unchanged, the result as computed and every semaphore at zero. -/
def QC : PUnit × MemSt nD τ sig (Elt F) → Prop := fun r =>
  (∀ c : Dev nD, r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_v18) = (out m c : Buf (Elt F) ((SparseCore.T c).loc main_v18))) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) facts v₀
    (fun q hq => match q with | 0 => nomatch hq)
    (fun q _ => match q with | 0 => Tile.tileObl (X m) (X_below m) facts)
    (fun q _ => match q with | 0 => SparseCore.Cfg.VecSplit.of_plain (vecSplit (X m)))
    m ρ main G (FIN m) (u₀ (F := F)) (sep_elim_left.trans (hu₀ m)) (hmain m ρ) (fq m) (hfin m) (QC m) (fun _ h hz => ⟨h, hz⟩)

end Cert.Proof.Whole

end
-- ==== Proof.Same.lean ====
/-
  At the bit patterns the kernel's program and its idealization are one program: each function of the one is the
  function of the other, and so are the body tables and the threads.
-/
module

public import proofs.«01_k».proof.Defs
public import proofs.«01_k».proof.Proof.Gen.Kernel
public import proofs.«01_k».proof.Proof.Gen.KernelIdeal

@[expose] public section

set_option maxRecDepth 16384
set_option maxHeartbeats 1000000

noncomputable section

namespace Cert.Proof.Same

open Idealize.ShloMosaic Idealize.SL.Sem

/-- At the bit patterns a named constant is the pattern printed beside its name. -/
scoped instance namedBits : Named Bits := ⟨fun _ _ _ bits => FloatOps.ofBits (F := Bits) _ bits⟩

theorem part0_eq : Cert.Kernel.k0_part1 (F := Bits) = Cert.KernelIdeal.k0_part1 (F := Bits) := rfl

theorem body0_eq : Cert.Kernel.cc0__tc_idx_body (F := Bits) = Cert.KernelIdeal.cc0__tc_idx_body (F := Bits) := rfl

theorem part1_eq : Cert.Kernel.k1_part1 (F := Bits) = Cert.KernelIdeal.k1_part1 (F := Bits) := rfl

theorem part2_eq : Cert.Kernel.k1_part2 (F := Bits) = Cert.KernelIdeal.k1_part2 (F := Bits) := rfl

theorem body1_eq : Cert.Kernel.cc1__sc_hist_body (F := Bits) = Cert.KernelIdeal.cc1__sc_hist_body (F := Bits) := rfl

theorem body2_eq : Cert.Kernel.cc2__tc_loss_body (F := Bits) = Cert.KernelIdeal.cc2__tc_loss_body (F := Bits) := rfl

theorem defs₀_eq : Cert.Kernel.defs₀ (F := Bits) = Cert.KernelIdeal.defs₀ (F := Bits) := by
  funext p ℓ a
  cases p <;> fin_cases ℓ <;> rfl

theorem pcfgs_eq : Cert.Kernel.pcfgs (F := Bits) = Cert.KernelIdeal.pcfgs (F := Bits) := rfl

theorem defs_eq : Cert.Kernel.defs (F := Bits) = Cert.KernelIdeal.defs (F := Bits) :=
  congrArg (fun e => Cert.KernelIdeal.sc.defs (Pipeline.defs (Cert.KernelIdeal.pcfgs (F := Bits)) e)) defs₀_eq

end Cert.Proof.Same

end
-- ==== Proof.SameMain.lean ====
/-
  At the bit patterns the kernel's program and its idealization have one main function, so one set of threads.
-/
module

public import proofs.«01_k».proof.Proof.Same
public import proofs.«01_k».proof.Proof.Host

@[expose] public section

set_option maxRecDepth 16384
set_option maxHeartbeats 1000000

noncomputable section

namespace Cert.Proof.SameMain

open Idealize.ShloMosaic Idealize.ShloMosaic.TcCoe Idealize.ShloMosaic.StableHlo Idealize.SL.Sem
open Cert.Proof.Same Cert.Proof.Host
open Cert.Kernel (sig τ nD S_ S1024)

/-- The scalar selection's buffers, read at the idealization. -/
abbrev bufsWhere (φ : Cert.Kernel.fn_where.Bufs) : Cert.KernelIdeal.fn_where.Bufs where
  v0 := φ.v0

/-- The vector selection's buffers, read at the idealization. -/
abbrev bufsWhereVec (φ : Cert.Kernel.fn_where_0.Bufs) : Cert.KernelIdeal.fn_where_0.Bufs where
  v0 := φ.v0

/-- The remainder's buffers, read at the idealization. -/
abbrev bufsRem (φ : Cert.Kernel.fn_remainder.Bufs) : Cert.KernelIdeal.fn_remainder.Bufs where
  v0 := φ.v0
  c := φ.c
  v1 := φ.v1
  c_0 := φ.c_0
  call0 := bufsWhere φ.call0
  v3 := φ.v3
  v4 := φ.v4
  c_1 := φ.c_1
  v5 := φ.v5
  v6 := φ.v6
  c_2 := φ.c_2
  v7 := φ.v7
  v8 := φ.v8
  c_3 := φ.c_3
  v9 := φ.v9
  v10 := φ.v10
  v11 := φ.v11
  v12 := φ.v12
  v13 := φ.v13
  v14 := φ.v14
  v15 := φ.v15

/-- The division's buffers, read at the idealization. -/
abbrev bufsDiv (φ : Cert.Kernel.fn_floor_divide.Bufs) : Cert.KernelIdeal.fn_floor_divide.Bufs where
  v0 := φ.v0
  v1 := φ.v1
  v2 := φ.v2
  v3 := φ.v3
  v4 := φ.v4
  v5 := φ.v5
  v6 := φ.v6
  v7 := φ.v7
  v8 := φ.v8
  c := φ.c
  v9 := φ.v9
  v10 := φ.v10
  v11 := φ.v11
  c_0 := φ.c_0
  v12 := φ.v12
  v13 := φ.v13
  call0 := bufsWhereVec φ.call0

/-- The kernel's remainder is the line of the idealization's operations, on its own buffers. -/
theorem rem_eq (arg0 : TRef sig ⟨S1024, .i32⟩) (arg1 : TRef sig ⟨S_, .i32⟩) (φ : Cert.Kernel.fn_remainder.Bufs) :
    Cert.Kernel.fn_remainder.body (F := Bits) arg0 arg1 φ = seq (remOps (F := Bits) arg0 arg1 (bufsRem φ)) := rfl

/-- The kernel's division is the line of the idealization's operations, on its own buffers. -/
theorem div_eq (arg0 : TRef sig ⟨S1024, .i32⟩) (arg1 : TRef sig ⟨S_, .i32⟩) (φ : Cert.Kernel.fn_floor_divide.Bufs) :
    Cert.Kernel.fn_floor_divide.body (F := Bits) arg0 arg1 φ = seq (divOps (F := Bits) arg0 arg1 (bufsDiv φ)) := rfl

/-- The kernel's main function is the idealization's host operations around its own three calls. -/
theorem kernel_main_eq (d : Dev nD) : Cert.Kernel.main (F := Bits) d = (seq (opsHost (F := Bits)) >>= fun _ =>
    Prog.lift (.customCall (SparseCore.inner (Pipeline.entry 0)) ()) >>= fun _ =>
    hlo rfl (opX (F := Bits)) (fun _ => .ret (⟨⟩ : PUnit)) >>= fun _ => Cert.Kernel.sc.run d 0 >>= fun _ =>
    hlo rfl (opH (F := Bits)) (fun _ => .ret (⟨⟩ : PUnit)) >>= fun _ =>
    Prog.lift (.customCall (SparseCore.inner (Pipeline.entry 1)) ()) >>= fun _ =>
    hlo rfl (opL (F := Bits)) (fun _ => .ret (⟨⟩ : PUnit)) >>= fun _ => pure ⟨⟩) := by
  unfold Cert.Kernel.main
  rw [rem_eq, div_eq, rem_eq]
  simp only [opsHost, seq_append, bind_assoc]
  rfl

theorem main_eq (d : Dev nD) : Cert.Kernel.main (F := Bits) d = Cert.KernelIdeal.main (F := Bits) d := by
  rw [kernel_main_eq, Host.main_eq]
  rfl

theorem threads_eq : Cert.Kernel.threads (F := Bits) = Cert.KernelIdeal.threads (F := Bits) :=
  congrArg (fun e => (Cert.KernelIdeal.sc (F := Bits)).threads e) (funext main_eq)

end Cert.Proof.SameMain

end
-- ==== Proof.Frames.lean ====
/-
  The frames: each program ends with its arguments unchanged and every semaphore at zero.
-/
module

public import proofs.«01_k».proof.Defs
public import proofs.«01_k».proof.Proof.Gen.Kernel
public import proofs.«01_k».proof.Proof.Gen.ReferenceIdeal.Run
public import proofs.«01_k».proof.Proof.Whole
public import proofs.«01_k».proof.Proof.SameMain
public import Idealize.ShloMosaic.Lib.Quiescent

@[expose] public section

noncomputable section

namespace Cert.Proof.Frames

open Idealize.ShloMosaic Idealize.SL.Sem

open Cert.Proof.Same

set_option maxHeartbeats 2000000 in
/-- The kernel's program is its idealization at the bit patterns, so the one's run is the other's. -/
theorem frame_kernel : Cert.quiescent_Kernel := fun m ρ _ => by
  have h : θ_run (Cert.KernelIdeal.defs (F := Bits)) (Cert.KernelIdeal.threads (F := Bits)) ⟨m, fun _ => 0, ρ⟩
      (fun r => (∀ c : Dev Cert.KernelIdeal.nD, r.2.mem ((c.tc : Thread Cert.KernelIdeal.nD Cert.KernelIdeal.τ).loc Cert.KernelIdeal.main_arg0) = m (c.tc.loc Cert.KernelIdeal.main_arg0) ∧
        r.2.mem ((c.tc : Thread Cert.KernelIdeal.nD Cert.KernelIdeal.τ).loc Cert.KernelIdeal.main_arg1) = m (c.tc.loc Cert.KernelIdeal.main_arg1)) ∧ r.2.sem = fun _ => 0) :=
    (θ_run _ _ _).mono (fun _ h => ⟨fun c => ⟨(h.1 c).1, (h.1 c).2.1⟩, h.2⟩) (Cert.Proof.Whole.run_main (F := Bits) m ρ)
  have e : θ_run (Cert.KernelIdeal.defs (F := Bits)) (Cert.KernelIdeal.threads (F := Bits))
      = θ_run (Cert.Kernel.defs (F := Bits)) (Cert.Kernel.threads (F := Bits)) :=
    congr (congrArg (fun D => θ_run (nD := Cert.KernelIdeal.nD) (τ := Cert.KernelIdeal.τ) (sig := Cert.KernelIdeal.sig) D) Same.defs_eq.symm) SameMain.threads_eq.symm
  rw [e] at h
  exact h

theorem frame_kernelIdeal : Cert.quiescent_KernelIdeal := fun m ρ _ =>
  (θ_run Cert.KernelIdeal.defs _ _).mono (fun _ h => ⟨fun c => ⟨(h.1 c).1, (h.1 c).2.1⟩, h.2⟩) (Cert.Proof.Whole.run_main (F := Ideal) m ρ)

theorem frame_referenceIdeal : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run (F := Ideal) m ρ)

theorem preserves : Cert.preserves_Kernel_KernelIdeal :=
  IdealRules.named_const.statement Cert.KernelIdeal.κ "hundredth" .f32 0x3C23D70A#32 ((1 / 100 : ℝ) : EReal) rfl

end Cert.Proof.Frames

end
-- ==== Proof.IdealDist.lean ====
/-
  At the ideal values: the distances of a tile, their least and greatest, and the square roots the kernel takes.
-/
module

public import proofs.«01_k».proof.Proof.Bins
public import Idealize.ShloMosaic.PureOps.Ideal.Laws
public import Idealize.ShloMosaic.Lib.MatmulPlain

@[expose] public section

set_option maxRecDepth 16384

noncomputable section

namespace Cert.Proof.IdealDist

open Cert.KernelIdeal Cert.KernelIdeal.Gen
open Cert.Proof.Common
open Idealize.ShloMosaic Idealize.ShloMosaic.TcCoe
open Idealize.ShloMosaic.ValueIdx
open Finset

/-! ## The constants -/

/-- The small number added to a squared distance. -/
def eps : ℝ := 9223372 / 9223372036854775808

theorem eps_pos : 0 < eps := by unfold eps; norm_num

theorem eps_f32 : Ideal.ofBits .f32 0x2B8CBCCC#32 = (eps : EReal) := by
  simp [Ideal.ofBits, Ideal.ieee, -EReal.coe_mul, eps]; norm_num

theorem half_f32 : Ideal.ofBits .f32 0x3F000000#32 = ((1 / 2 : ℝ) : EReal) := by
  simp [Ideal.ofBits, Ideal.ieee, -EReal.coe_mul]; norm_num

theorem three_half_f32 : Ideal.ofBits .f32 0x3FC00000#32 = ((3 / 2 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem hundred_f32 : Ideal.ofBits .f32 0x42C80000#32 = ((100 : ℝ) : EReal) := by
  simp [Ideal.ofBits, Ideal.ieee, -EReal.coe_mul]; norm_num

theorem top_f32 : Ideal.ofBits .f32 0x7F800000#32 = ⊤ := by simp [Ideal.ofBits, Ideal.ieee]

theorem bot_f32 : Ideal.ofBits .f32 0xFF800000#32 = ⊥ := by simp [Ideal.ofBits, Ideal.ieee]

/-! ## The square root by one step from the inverse root -/

/-- The kernel's square root of `y`, of the inverse root `r`. -/
def root (y r : EReal) : EReal :=
  y * (r * (Ideal.ofBits .f32 0x3FC00000#32 - Ideal.ofBits .f32 0x3F000000#32 * y * r * r))

theorem root_eq (y : ℝ) (hy : 0 < y) : root (y : EReal) (Ideal.rsqrt (y : EReal)) = ((Real.sqrt y : ℝ) : EReal) := by
  have hr : Ideal.rsqrt (y : EReal) = (((Real.sqrt y)⁻¹ : ℝ) : EReal) := by
    show (if y < 0 then ⊥ else if y = 0 then ⊤ else (((Real.sqrt y)⁻¹ : ℝ) : EReal)) = _
    rw [if_neg (not_lt.2 hy.le), if_neg hy.ne']
  unfold root
  rw [hr, half_f32, three_half_f32]
  rw [← EReal.coe_mul, ← EReal.coe_mul, ← EReal.coe_mul, ← EReal.coe_sub, ← EReal.coe_mul, ← EReal.coe_mul]
  refine congrArg (fun z : ℝ => (z : EReal)) ?_
  have hs : Real.sqrt y * Real.sqrt y = y := Real.mul_self_sqrt hy.le
  have h0 : Real.sqrt y ≠ 0 := (Real.sqrt_pos.2 hy).ne'
  generalize Real.sqrt y = s at hs h0
  subst hs
  field_simp
  norm_num

theorem pay6_eq (m : ℝ) (hm : 0 ≤ m) : (k0_pay6 (F := Ideal) (m : EReal) : EReal) = ((Real.sqrt (m + eps) : ℝ) : EReal) := by
  rw [← root_eq (m + eps) (by have := eps_pos; linarith), EReal.coe_add, ← eps_f32]
  rfl

theorem pay7_eq (m : ℝ) : (k0_pay7 (F := Ideal) (m : EReal) : EReal) = ((m + eps : ℝ) : EReal) := by
  rw [EReal.coe_add, ← eps_f32]
  rfl

/-! ## A tile's squared distances -/

section Tile

variable (X3 : Vec Ideal S1024x32 .f32) (X4 : Vec Ideal S32x1024 .f32)

/-- A squared distance, of its two rows. -/
theorem pay1_apply (r l : Fin 1024) : (k0_pay1 (F := Ideal) X3 X4 (ix2 r l) : EReal)
    = max ((∑ k : Fin 32, (X3 (ix2 r k) : EReal) * X3 (ix2 r k)) + (∑ k : Fin 32, (X4 (ix2 k l) : EReal) * X4 (ix2 k l))
        - Ideal.ofBits .f32 0x40000000#32 * (∑ k : Fin 32, (X3 (ix2 r k) : EReal) * X4 (ix2 k l))) 0 := by
  unfold k0_pay1
  simp only [shapeCast_self]
  have e1 : broadcastTo S1024x1024 (shapeCast S1024x1 (multiReduction (F := Ideal) .add [1] S1024 (mulf X3 X3) 0x00000000#32 reduces_S1024x32_S1024 (.inl rfl) rfl) shapeCasts_S1024_S1024x1)
      broadcasts_S1024x1_S1024x1024 (ix2 r l) = ∑ k : Fin 32, (X3 (ix2 r k) : EReal) * X3 (ix2 r k) := by
    refine (broadcastTo_apply (t := S1024x1024) _ broadcasts_S1024x1_S1024x1024 (ix2 r l) (ix2 r 0) (by
      intro a; fin_cases a <;> rfl)).trans ?_
    refine (shapeCast_apply _ shapeCasts_S1024_S1024x1 (ix2 r 0) (ix1 r) (by
      rw [Shape.rowMajor_val_one, Shape.rowMajor_val_two]; show r.val = r.val * 1 + 0; omega)).trans ?_
    refine (Ideal.multiReduction_add_single _ _ reduces_S1024x32_S1024 _ _ _).trans ?_
    refine Finset.sum_congr rfl fun k _ => ?_
    have : (reduces_S1024x32_S1024.lift (ix1 r : S1024.Idx) k : S1024x32.Idx) = ix2 r k := by
      funext a; fin_cases a <;> rfl
    rw [this]; rfl
  have e2 : broadcastTo S1024x1024 (shapeCast S1x1024 (multiReduction (F := Ideal) .add [0] S1024 (mulf X4 X4) 0x00000000#32 reduces_S32x1024_S1024 (.inl rfl) rfl) shapeCasts_S1024_S1x1024)
      broadcasts_S1x1024_S1024x1024 (ix2 r l) = ∑ k : Fin 32, (X4 (ix2 k l) : EReal) * X4 (ix2 k l) := by
    refine (broadcastTo_apply (t := S1024x1024) _ broadcasts_S1x1024_S1024x1024 (ix2 r l) (ix2 0 l) (by
      intro a; fin_cases a <;> rfl)).trans ?_
    refine (shapeCast_apply _ shapeCasts_S1024_S1x1024 (ix2 0 l) (ix1 l) (by
      rw [Shape.rowMajor_val_one, Shape.rowMajor_val_two]; show l.val = 0 * 1024 + l.val; omega)).trans ?_
    refine (Ideal.multiReduction_add_single _ _ reduces_S32x1024_S1024 _ _ _).trans ?_
    refine Finset.sum_congr rfl fun k _ => ?_
    have : (reduces_S32x1024_S1024.lift (ix1 l : S1024.Idx) k : S32x1024.Idx) = ix2 k l := by
      funext a; fin_cases a <;> rfl
    rw [this]; rfl
  have e3 : matmul (F := Ideal) (φ₁ := .f32) (φ₂ := .f32) dot_S1024x32_S32x1024_S1024x1024_1_0_0_1_n_n none X3 X4 (constant S1024x1024 .f32 0x00000000#32) (ix2 r l)
      = ∑ k : Fin 32, (X3 (ix2 r k) : EReal) * X4 (ix2 k l) := by
    refine (Ideal.matmul_plain_apply (M := 1024) (K := 32) (N := 1024) (φ₁ := .f32) (φ₂ := .f32) none X3 X4 (constant S1024x1024 .f32 0x00000000#32) r l).trans ?_
    show Ideal.ofBits .f32 0x00000000#32 + _ = _
    rw [Ideal.ofBits_zero_f32, zero_add]
  show max ((_ : EReal) + _ - Ideal.ofBits .f32 0x40000000#32 * _) (Ideal.ofBits .f32 0x00000000#32) = _
  rw [e1, e2, e3, Ideal.ofBits_zero_f32]

/-- A distance is the kernel's root of the squared distance and the small number. -/
theorem pay5_apply (r l : Fin 1024) : (k0_pay5 (F := Ideal) X3 X4 (ix2 r l) : EReal)
    = root ((k0_pay1 (F := Ideal) X3 X4 (ix2 r l) : EReal) + Ideal.ofBits .f32 0x2B8CBCCC#32)
        (Ideal.rsqrt ((k0_pay1 (F := Ideal) X3 X4 (ix2 r l) : EReal) + Ideal.ofBits .f32 0x2B8CBCCC#32)) := rfl

/-- The one element that the tile's reduction keeps, of the tile as one more axis. -/
theorem tile_idx (i : S1x1024x1024.Idx) : i = ix3 (0 : Fin 1) (i 1) (i 2) := by
  funext a
  fin_cases a
  · exact Subsingleton.elim (α := Fin 1) _ _
  · rfl
  · rfl

/-- A vector of one element has one index. -/
theorem one_idx (a b : S1.Idx) : a = b := by
  funext i
  fin_cases i
  exact Subsingleton.elim (α := Fin 1) _ _

theorem tile_cast (v : S1024x1024.Idx → EReal) (r l : Fin 1024) :
    shapeCast S1x1024x1024 v shapeCasts_S1024x1024_S1x1024x1024 (ix3 (0 : Fin 1) r l) = v (ix2 r l) :=
  shapeCast_apply v shapeCasts_S1024x1024_S1x1024x1024 _ (ix2 r l) (by
    rw [Shape.rowMajor_val_two, Shape.rowMajor_val_three]
    show r.val * 1024 + l.val = (0 * 1024 + r.val) * 1024 + l.val
    omega)

/-- The running least after a tile: what is below it. -/
theorem le_pay2 (a z : EReal) : z ≤ (k0_pay2 (F := Ideal) X3 X4 a : EReal) ↔ z ≤ a ∧ ∀ r l : Fin 1024, z ≤ (k0_pay1 (F := Ideal) X3 X4 (ix2 r l) : EReal) := by
  have e : (k0_pay2 (F := Ideal) X3 X4 a : EReal) = min a ((multiReduction (F := Ideal) .minimumf [1, 2] S1
      (shapeCast S1x1024x1024 (k0_pay1 X3 X4) shapeCasts_S1024x1024_S1x1024x1024) 0x7F800000#32 reduces_S1x1024x1024_S1 (.inl rfl) rfl) (ix1 0)) := by
    show min a _ = _
    refine congrArg (min a) ?_
    unfold extractAt
    refine (shapeCast_apply _ shapeCasts_S1_S1x1x1 _ (ix1 0) ?_)
    rw [Shape.rowMajor_val_one, Shape.rowMajor_val_three]
    rfl
  have e2 : (multiReduction (F := Ideal) .minimumf [1, 2] S1
      (shapeCast S1x1024x1024 (k0_pay1 X3 X4) shapeCasts_S1024x1024_S1x1024x1024) 0x7F800000#32 reduces_S1x1024x1024_S1 (.inl rfl) rfl) (ix1 0)
      = (univ.filter fun i => reduces_S1x1024x1024_S1.drop i = (ix1 0 : S1.Idx)).fold min (Ideal.ofBits .f32 0x7F800000#32)
        (shapeCast S1x1024x1024 (k0_pay1 (F := Ideal) X3 X4) shapeCasts_S1024x1024_S1x1024x1024) :=
    multiReduction_minimumf_eq_fold _ _ reduces_S1x1024x1024_S1 _ _ _
  rw [e, le_min_iff, e2, Finset.le_fold_min, top_f32]
  refine and_congr_right fun _ => ⟨fun h r l => ?_, fun h => ⟨le_top, fun i _ => ?_⟩⟩
  · rw [← tile_cast (k0_pay1 (F := Ideal) X3 X4) r l]
    exact h.2 _ (Finset.mem_filter.2 ⟨Finset.mem_univ _, one_idx _ _⟩)
  · rw [tile_idx i]; exact le_of_le_of_eq (h (i 1) (i 2)) (tile_cast (k0_pay1 (F := Ideal) X3 X4) (i 1) (i 2)).symm

/-- The running greatest after a tile: what is above it. -/
theorem pay3_le (a z : EReal) : (k0_pay3 (F := Ideal) X3 X4 a : EReal) ≤ z ↔ a ≤ z ∧ ∀ r l : Fin 1024, (k0_pay1 (F := Ideal) X3 X4 (ix2 r l) : EReal) ≤ z := by
  have e : (k0_pay3 (F := Ideal) X3 X4 a : EReal) = max a ((multiReduction (F := Ideal) .maximumf [1, 2] S1
      (shapeCast S1x1024x1024 (k0_pay1 X3 X4) shapeCasts_S1024x1024_S1x1024x1024) 0xFF800000#32 reduces_S1x1024x1024_S1 (.inl rfl) rfl) (ix1 0)) := by
    show max a _ = _
    refine congrArg (max a) ?_
    unfold extractAt
    refine (shapeCast_apply _ shapeCasts_S1_S1x1x1 _ (ix1 0) ?_)
    rw [Shape.rowMajor_val_one, Shape.rowMajor_val_three]
    rfl
  have e2 : (multiReduction (F := Ideal) .maximumf [1, 2] S1
      (shapeCast S1x1024x1024 (k0_pay1 X3 X4) shapeCasts_S1024x1024_S1x1024x1024) 0xFF800000#32 reduces_S1x1024x1024_S1 (.inl rfl) rfl) (ix1 0)
      = (univ.filter fun i => reduces_S1x1024x1024_S1.drop i = (ix1 0 : S1.Idx)).fold max (Ideal.ofBits .f32 0xFF800000#32)
        (shapeCast S1x1024x1024 (k0_pay1 (F := Ideal) X3 X4) shapeCasts_S1024x1024_S1x1024x1024) :=
    multiReduction_maximumf_eq_fold _ _ reduces_S1x1024x1024_S1 _ _ _
  rw [e, max_le_iff, e2, Finset.fold_max_le, bot_f32]
  refine and_congr_right fun _ => ⟨fun h r l => ?_, fun h => ⟨bot_le, fun i _ => ?_⟩⟩
  · rw [← tile_cast (k0_pay1 (F := Ideal) X3 X4) r l]
    exact h.2 _ (Finset.mem_filter.2 ⟨Finset.mem_univ _, one_idx _ _⟩)
  · rw [tile_idx i]; exact le_of_eq_of_le (tile_cast (k0_pay1 (F := Ideal) X3 X4) (i 1) (i 2)) (h (i 1) (i 2))

end Tile

end Cert.Proof.IdealDist

end
-- ==== Proof.IdealTile.lean ====
/-
  At the ideal values: the packed bins of the index kernel, of finite features.
-/
module

public import proofs.«01_k».proof.Proof.IdealDist

@[expose] public section

set_option maxRecDepth 16384

noncomputable section

namespace Cert.Proof.IdealTile

open Cert.KernelIdeal Cert.KernelIdeal.Gen
open Cert.Proof.Common Cert.Proof.TcBody Cert.Proof.TcData Cert.Proof.TcValue Cert.Proof.Bins
open Cert.Proof.IdealDist
open Idealize.ShloMosaic Idealize.ShloMosaic.TcCoe
open Idealize.ShloMosaic.ValueIdx
open Finset

/-! ## The problem's numbers -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := EReal.coe_strictMono.monotone.map_max

section Numbers

variable (A : Fin 4096 → Fin 32 → ℝ)

/-- The squared distance of two features. -/
def D (i j : Fin 4096) : ℝ := max ((∑ k, A i k * A i k) + (∑ k, A j k * A j k) - 2 * ∑ k, A i k * A j k) 0

theorem D_nonneg (i j : Fin 4096) : 0 ≤ D A i j := le_max_right _ _

theorem D_comm (i j : Fin 4096) : D A i j = D A j i := by
  unfold D
  rw [add_comm (∑ k, A i k * A i k)]
  rw [show (∑ k, A i k * A j k) = ∑ k, A j k * A i k from Finset.sum_congr rfl fun k _ => mul_comm _ _]

theorem D_ereal (i j : Fin 4096) : (D A i j : EReal)
    = max ((∑ k : Fin 32, (A i k : EReal) * A i k) + (∑ k : Fin 32, (A j k : EReal) * A j k)
        - Ideal.ofBits .f32 0x40000000#32 * (∑ k : Fin 32, (A i k : EReal) * A j k)) 0 := by
  have e (p q : Fin 4096) : (∑ k : Fin 32, (A p k : EReal) * A q k) = ((∑ k, A p k * A q k : ℝ) : EReal) := by
    rw [coe_sum]; exact Finset.sum_congr rfl fun k _ => (EReal.coe_mul _ _).symm
  rw [e, e, e, IdealDist.two_f32, ← EReal.coe_mul, ← EReal.coe_add, ← EReal.coe_sub, ← EReal.coe_zero, ← coe_max]
  rfl

/-- The least and the greatest squared distance. -/
def least : ℝ := D A (Classical.choose (Finite.exists_min fun p : Fin 4096 × Fin 4096 => D A p.1 p.2)).1
  (Classical.choose (Finite.exists_min fun p : Fin 4096 × Fin 4096 => D A p.1 p.2)).2
def greatest : ℝ := D A (Classical.choose (Finite.exists_max fun p : Fin 4096 × Fin 4096 => D A p.1 p.2)).1
  (Classical.choose (Finite.exists_max fun p : Fin 4096 × Fin 4096 => D A p.1 p.2)).2

theorem least_le (i j : Fin 4096) : least A ≤ D A i j :=
  Classical.choose_spec (Finite.exists_min fun p : Fin 4096 × Fin 4096 => D A p.1 p.2) (i, j)
theorem le_greatest (i j : Fin 4096) : D A i j ≤ greatest A :=
  Classical.choose_spec (Finite.exists_max fun p : Fin 4096 × Fin 4096 => D A p.1 p.2) (i, j)
theorem least_at : ∃ i j, least A = D A i j := ⟨_, _, rfl⟩
theorem greatest_at : ∃ i j, greatest A = D A i j := ⟨_, _, rfl⟩
theorem least_nonneg : 0 ≤ least A := D_nonneg A _ _
theorem greatest_nonneg : 0 ≤ greatest A := D_nonneg A _ _

/-- A distance of its square. -/
def far (d : ℝ) : ℝ := Real.sqrt (d + eps)

theorem far_mono {a b : ℝ} (h : a ≤ b) : far a ≤ far b := Real.sqrt_le_sqrt (by linarith)

/-- The bin of the distance `d` among 100 from `l` to `h`. -/
def theBin (d l h : ℝ) : BitVec 32 :=
  if (h - l) * (1 / 100) = 0 then 0#32
  else IntOp.minsi 99#32 (IntOp.maxsi 0#32 (Ideal.fptosi 32 (Ideal.liftRound Int.floor (((d - l) * (1 / ((h - l) * (1 / 100))) : ℝ) : EReal))))

theorem theBin_lt (d l h : ℝ) : (theBin d l h).toNat < 100 := by
  unfold theBin
  split
  · decide
  · exact clamp_lt _

/-- The bin of a pair. -/
def binAt (i j : Fin 4096) : BitVec 32 := theBin (far (D A i j)) (far (least A)) (far (greatest A))

theorem binAt_comm (i j : Fin 4096) : binAt A i j = binAt A j i := by unfold binAt; rw [D_comm]

end Numbers

theorem zero_floor : Ideal.fptosi 32 (Ideal.liftRound Int.floor 0) = 0#32 := by
  rw [← EReal.coe_zero]
  show BitVec.ofInt 32 (max (-(2 ^ (32 - 1) : ℕ)) (min ((2 ^ (32 - 1) : ℕ) - 1)
    (if (0 : ℝ) ≤ ((⌊(0 : ℝ)⌋ : ℤ) : ℝ) then ⌊((⌊(0 : ℝ)⌋ : ℤ) : ℝ)⌋ else ⌈((⌊(0 : ℝ)⌋ : ℤ) : ℝ)⌉))) = _
  simp

/-- The kernel's bin of a distance. -/
theorem bin1_eq (d l h : ℝ) (h1 : l ≤ d) (h2 : d ≤ h) (m : ℝ) (hm : 0 ≤ m) (he : h = far m) :
    bin1 (F := Ideal) (d : EReal) (l : EReal) (inv1 (F := Ideal) (l : EReal) (k0_pay7 (F := Ideal) (m : EReal)) (k0_pay8 (F := Ideal) (m : EReal)))
      = theBin d l h := by
  have hp : (0 : ℝ) < m + eps := by have := eps_pos; linarith
  have e8 : (k0_pay8 (F := Ideal) (m : EReal) : EReal) = Ideal.rsqrt ((m + eps : ℝ) : EReal) := by
    rw [← pay7_eq]; rfl
  set s : ℝ := (h - l) * (1 / 100) with hs
  have es : ((root ((m + eps : ℝ) : EReal) (Ideal.rsqrt ((m + eps : ℝ) : EReal)) - (l : EReal)) * ((1 / 100 : ℝ) : EReal)) = (s : EReal) := by
    rw [root_eq _ hp, ← EReal.coe_sub, ← EReal.coe_mul, hs, he]; rfl
  have ei : (inv1 (F := Ideal) (l : EReal) (k0_pay7 (F := Ideal) (m : EReal)) (k0_pay8 (F := Ideal) (m : EReal)) : EReal)
      = Ideal.div (Ideal.ofBits .f32 0x3F800000#32) (s : EReal) * (Ideal.ofBits .f32 0x40000000#32 - (s : EReal) * Ideal.div (Ideal.ofBits .f32 0x3F800000#32) (s : EReal)) := by
    rw [e8, pay7_eq, ← es]; rfl
  show IntOp.minsi 99#32 (IntOp.maxsi 0#32 (Ideal.fptosi 32 (Ideal.liftRound Int.floor (((d : EReal) - (l : EReal)) * (_ : EReal))))) = _
  rw [ei, IdealDist.one_f32, IdealDist.two_f32]
  unfold theBin
  rw [← hs]
  by_cases h0 : s = 0
  · have hl : h = l := by
      have : (h - l) * (1 / 100) = 0 := by rw [← hs]; exact h0
      linarith
    have hd : d = l := le_antisymm (hl ▸ h2) h1
    rw [if_pos h0, h0, hd, ← EReal.coe_sub, sub_self, EReal.coe_zero, zero_mul]
    rw [zero_floor]
    decide
  · rw [if_neg h0, Ideal.div_coe h0, ← EReal.coe_mul, ← EReal.coe_mul, ← EReal.coe_sub, ← EReal.coe_sub, ← EReal.coe_mul, ← EReal.coe_mul]
    have : (d - l) * (1 * (1 / s) * (2 - s * (1 * (1 / s)))) = (d - l) * (1 / s) := by field_simp; norm_num
    rw [this]

/-! ## The index kernel's blocks -/

/-- Row `r` of the band `b` of 1024 rows. -/
def row (b : Fin 4) (r : Fin 1024) : Fin 4096 := ⟨b.val * 1024 + r.val, by have := b.isLt; have := r.isLt; omega⟩

/-- The bands of a grid point. -/
def ti (t : Fin cfg0.N) : Fin 4 := ⟨t.val % 16 / 4, by omega⟩
def tj (t : Fin cfg0.N) : Fin 4 := ⟨t.val % 4, by omega⟩
/-- Whether the point's tile is on or above the diagonal. -/
def up (t : Fin cfg0.N) : Prop := (ti t).val ≤ (tj t).val
instance (t : Fin cfg0.N) : Decidable (up t) := inferInstanceAs (Decidable ((ti t).val ≤ (tj t).val))

theorem index0 : ∀ t : Fin cfg0.N, up t → (cfg0.win 0).index t = ![(ti t).val, 0] := by decide +kernel
theorem index1 : ∀ t : Fin cfg0.N, up t → (cfg0.win 1).index t = ![0, (tj t).val] := by decide +kernel
theorem index2 : ∀ t : Fin cfg0.N, up t → (cfg0.win 2).index t = ![(ti t).val, 0] := by decide +kernel
theorem index3 : ∀ t : Fin cfg0.N, up t → (cfg0.win 3).index t = ![0, (tj t).val] := by decide +kernel
theorem cond1_eq : ∀ t : Fin cfg0.N, cond1 (grid0.coords t) = if t.val = 0 then 1#1 else 0#1 := by decide +kernel
theorem cond2_eq : ∀ t : Fin cfg0.N, cond2 (grid0.coords t) = if t.val < 16 ∧ up t then 1#1 else 0#1 := by decide +kernel
theorem up_tpt : ∀ k : Fin 10, up (tpt k) := by decide +kernel

section Blocks

variable (U : (c : Dev nD) → (b : Ref sig .tc) → Buf (Elt Ideal) ((c.tc : Thread nD τ).loc b)) (c : Dev nD)
variable (A : Fin 4096 → Fin 32 → ℝ) (lab : Fin 4096 → BitVec 32)
variable (h0 : ∀ i k, (U c main_arg0 : S4096x32.Idx → EReal) (ix2 i k) = (A i k : EReal))
variable (hT : ∀ i k, (U c main_v0 : S32x4096.Idx → EReal) (ix2 k i) = (A i k : EReal))
variable (h1 : ∀ i, (U c main_v1 : S4096x1.Idx → BitVec 32) (ix2 i 0) = lab i)
variable (h2 : ∀ i, (U c main_v2 : S1x4096.Idx → BitVec 32) (ix2 0 i) = lab i)

include h0 in
theorem b0_eq (t : Fin cfg0.N) (ht : up t) (r : Fin 1024) (k : Fin 32) : (b0 U c t (ix2 r k) : EReal) = (A (row (ti t) r) k : EReal) := by
  unfold b0
  rw [View.read_apply]
  have : (((cfg0.win 0).blk t).view.emb (ix2 r k) : S4096x32.Idx) = ix2 (row (ti t) r) k := by
    funext a
    apply Fin.ext
    have e := (cfg0.win 0).rect_emb_val t (ix2 r k) a
    rw [index0 t ht] at e
    refine Eq.trans e ?_
    fin_cases a
    · rfl
    · show 0 * 32 + k.val = k.val; omega
  rw [this]
  exact h0 _ _

include hT in
theorem b1_eq (t : Fin cfg0.N) (ht : up t) (k : Fin 32) (l : Fin 1024) : (b1 U c t (ix2 k l) : EReal) = (A (row (tj t) l) k : EReal) := by
  unfold b1
  rw [View.read_apply]
  have : (((cfg0.win 1).blk t).view.emb (ix2 k l) : S32x4096.Idx) = ix2 k (row (tj t) l) := by
    funext a
    apply Fin.ext
    have e := (cfg0.win 1).rect_emb_val t (ix2 k l) a
    rw [index1 t ht] at e
    refine Eq.trans e ?_
    fin_cases a
    · show 0 * 32 + k.val = k.val; omega
    · rfl
  rw [this]
  exact hT _ _

include h1 in
theorem b2_eq (t : Fin cfg0.N) (ht : up t) (r : Fin 1024) : (b2 U c t (ix2 r 0) : BitVec 32) = lab (row (ti t) r) := by
  unfold b2
  rw [View.read_apply]
  have : (((cfg0.win 2).blk t).view.emb (ix2 r 0) : S4096x1.Idx) = ix2 (row (ti t) r) 0 := by
    funext a
    apply Fin.ext
    have e := (cfg0.win 2).rect_emb_val t (ix2 r 0) a
    rw [index2 t ht] at e
    refine Eq.trans e ?_
    fin_cases a
    · rfl
    · rfl
  rw [this]
  exact h1 _

include h2 in
theorem b3_eq (t : Fin cfg0.N) (ht : up t) (l : Fin 1024) : (b3 U c t (ix2 0 l) : BitVec 32) = lab (row (tj t) l) := by
  unfold b3
  rw [View.read_apply]
  have : (((cfg0.win 3).blk t).view.emb (ix2 0 l) : S1x4096.Idx) = ix2 0 (row (tj t) l) := by
    funext a
    apply Fin.ext
    have e := (cfg0.win 3).rect_emb_val t (ix2 0 l) a
    rw [index3 t ht] at e
    refine Eq.trans e ?_
    fin_cases a
    · rfl
    · rfl
  rw [this]
  exact h2 _

include h0 hT in
theorem pay1_at (t : Fin cfg0.N) (ht : up t) (r l : Fin 1024) :
    (k0_pay1 (F := Ideal) (b0 U c t) (b1 U c t) (ix2 r l) : EReal) = (D A (row (ti t) r) (row (tj t) l) : EReal) := by
  rw [pay1_apply, D_ereal]
  simp only [b0_eq U c A h0 t ht, b1_eq U c A hT t ht]

include h0 hT in
theorem pay5_at (t : Fin cfg0.N) (ht : up t) (r l : Fin 1024) :
    (k0_pay5 (F := Ideal) (b0 U c t) (b1 U c t) (ix2 r l) : EReal) = (far (D A (row (ti t) r) (row (tj t) l)) : EReal) := by
  rw [pay5_apply, pay1_at U c A h0 hT t ht, eps_f32, ← EReal.coe_add]
  exact root_eq _ (by have := eps_pos; have := D_nonneg A (row (ti t) r) (row (tj t) l); linarith)

/-! ## The least and the greatest -/

include h0 hT in
theorem mm_upto (n : ℕ) (hn : n < 16) (z : EReal) :
    (z ≤ ((mm U c (n + 1)).1 : EReal) ↔ ∀ t : Fin cfg0.N, t.val ≤ n → up t → ∀ r l, z ≤ (D A (row (ti t) r) (row (tj t) l) : EReal))
      ∧ (((mm U c (n + 1)).2 : EReal) ≤ z ↔ ∀ t : Fin cfg0.N, t.val ≤ n → up t → ∀ r l, (D A (row (ti t) r) (row (tj t) l) : EReal) ≤ z) := by
  have hN : cfg0.N = 32 := N_0
  induction n with
  | zero =>
    have e := mm_succ U c ⟨0, by rw [hN]; decide⟩
    have hu : up (⟨0, by rw [hN]; decide⟩ : Fin cfg0.N) := by
      show (0 % 16 / 4 : ℕ) ≤ 0 % 4
      decide
    have e1 := cond1_eq ⟨0, by rw [hN]; decide⟩
    have e2 := cond2_eq ⟨0, by rw [hN]; decide⟩
    rw [if_pos rfl] at e1
    rw [if_pos ⟨show (0 : ℕ) < 16 by decide, hu⟩] at e2
    simp only [mmStep, reset, e1, e2, if_true] at e
    have ht (t : Fin cfg0.N) (h : t.val ≤ 0) : t = ⟨0, by rw [hN]; decide⟩ := Fin.ext (by simpa using h)
    rw [show (0 + 1 : ℕ) = (⟨0, by rw [hN]; decide⟩ : Fin cfg0.N).val + 1 from rfl, e]
    refine ⟨?_, ?_⟩
    · show z ≤ (k0_pay2 (F := Ideal) _ _ _ : EReal) ↔ _
      rw [le_pay2]
      show z ≤ Ideal.ofBits .f32 0x7F800000#32 ∧ _ ↔ _
      rw [top_f32]
      simp only [pay1_at U c A h0 hT _ hu]
      exact ⟨fun h t h' _ => by rw [ht t h']; exact h.2, fun h => ⟨le_top, h _ (le_refl 0) hu⟩⟩
    · show (k0_pay3 (F := Ideal) _ _ _ : EReal) ≤ z ↔ _
      rw [pay3_le]
      show Ideal.ofBits .f32 0xFF800000#32 ≤ z ∧ _ ↔ _
      rw [bot_f32]
      simp only [pay1_at U c A h0 hT _ hu]
      exact ⟨fun h t h' _ => by rw [ht t h']; exact h.2, fun h => ⟨bot_le, h _ (le_refl 0) hu⟩⟩
  | succ n ih =>
    have ih := ih (by omega)
    have e := mm_succ U c ⟨n + 1, by rw [hN]; omega⟩
    have e1 := cond1_eq ⟨n + 1, by rw [hN]; omega⟩
    have e2 := cond2_eq ⟨n + 1, by rw [hN]; omega⟩
    rw [if_neg (Nat.succ_ne_zero n)] at e1
    rw [show (n + 1 + 1 : ℕ) = (⟨n + 1, by rw [hN]; omega⟩ : Fin cfg0.N).val + 1 from rfl, e]
    have hd : ¬ ((0#1 : BitVec 1) = 1#1) := by decide
    by_cases hu : up (⟨n + 1, by rw [hN]; omega⟩ : Fin cfg0.N)
    · rw [if_pos ⟨hn, hu⟩] at e2
      simp only [mmStep, reset, e1, e2, if_true, if_neg hd]
      have hs (P : Fin cfg0.N → Prop) : ((∀ t : Fin cfg0.N, t.val ≤ n → up t → P t) ∧ P ⟨n + 1, by rw [hN]; omega⟩) ↔ ∀ t : Fin cfg0.N, t.val ≤ n + 1 → up t → P t := by
        refine ⟨fun h t h' hu' => ?_, fun h => ⟨fun t h' => h t (by omega), h _ (le_refl _) hu⟩⟩
        rcases Nat.lt_or_ge t.val (n + 1) with h1 | h1
        · exact h.1 t (by omega) hu'
        · have : t = ⟨n + 1, by rw [hN]; omega⟩ := Fin.ext (by show t.val = n + 1; omega)
          rw [this]; exact h.2
      refine ⟨?_, ?_⟩
      · rw [le_pay2]
        simp only [pay1_at U c A h0 hT _ hu]
        refine (and_congr_left fun _ => ih.1).trans (hs fun t => ∀ r l, z ≤ (D A (row (ti t) r) (row (tj t) l) : EReal))
      · rw [pay3_le]
        simp only [pay1_at U c A h0 hT _ hu]
        refine (and_congr_left fun _ => ih.2).trans (hs fun t => ∀ r l, (D A (row (ti t) r) (row (tj t) l) : EReal) ≤ z)
    · rw [if_neg (fun h => hu h.2)] at e2
      simp only [mmStep, reset, e1, e2, if_neg hd]
      have hs (P : Fin cfg0.N → Prop) : (∀ t : Fin cfg0.N, t.val ≤ n → up t → P t) ↔ ∀ t : Fin cfg0.N, t.val ≤ n + 1 → up t → P t := by
        refine ⟨fun h t h' hu' => ?_, fun h => fun t h' => h t (by omega)⟩
        rcases Nat.lt_or_ge t.val (n + 1) with h1 | h1
        · exact h t (by omega) hu'
        · have : t = ⟨n + 1, by rw [hN]; omega⟩ := Fin.ext (by show t.val = n + 1; omega)
          exact absurd (this ▸ hu') hu
      exact ⟨ih.1.trans (hs _), ih.2.trans (hs _)⟩

/-- Every pair of rows, in one order or the other, is in a tile of the first phase. -/
theorem all_pairs (P : Fin 4096 → Fin 4096 → Prop) (hP : ∀ i j, P i j → P j i) :
    (∀ t : Fin cfg0.N, t.val ≤ 15 → up t → ∀ r l, P (row (ti t) r) (row (tj t) l)) ↔ ∀ i j, P i j := by
  have hN : cfg0.N = 32 := N_0
  refine ⟨fun h => ?_, fun h t _ _ r l => h _ _⟩
  have key (i j : Fin 4096) (hij : i.val / 1024 ≤ j.val / 1024) : P i j := by
    have hi := i.isLt
    have hj := j.isLt
    have := h ⟨4 * (i.val / 1024) + j.val / 1024, by rw [hN]; omega⟩ (by show 4 * (i.val / 1024) + j.val / 1024 ≤ 15; omega)
      (by show (4 * (i.val / 1024) + j.val / 1024) % 16 / 4 ≤ (4 * (i.val / 1024) + j.val / 1024) % 4; omega)
      ⟨i.val % 1024, by omega⟩ ⟨j.val % 1024, by omega⟩
    have ei : row (ti ⟨4 * (i.val / 1024) + j.val / 1024, by rw [hN]; omega⟩) ⟨i.val % 1024, by omega⟩ = i :=
      Fin.ext (by show (4 * (i.val / 1024) + j.val / 1024) % 16 / 4 * 1024 + i.val % 1024 = i.val; omega)
    have ej : row (tj ⟨4 * (i.val / 1024) + j.val / 1024, by rw [hN]; omega⟩) ⟨j.val % 1024, by omega⟩ = j :=
      Fin.ext (by show (4 * (i.val / 1024) + j.val / 1024) % 4 * 1024 + j.val % 1024 = j.val; omega)
    rwa [ei, ej] at this
  intro i j
  rcases Nat.le_total (i.val / 1024) (j.val / 1024) with h' | h'
  · exact key i j h'
  · exact hP _ _ (key j i h')

include h0 hT in
theorem mm16 : mm U c 16 = ((least A : EReal), (greatest A : EReal)) := by
  refine Prod.ext ?_ ?_
  · refine eq_of_forall_le_iff (α := EReal) fun z => ?_
    refine ((mm_upto U c A h0 hT 15 (by decide) z).1.trans (all_pairs (fun i j => z ≤ (D A i j : EReal)) fun i j h => by rwa [D_comm])).trans ?_
    refine ⟨fun h => ?_, fun h i j => h.trans (EReal.coe_le_coe_iff.2 (least_le A i j))⟩
    obtain ⟨i, j, e⟩ := least_at A
    rw [show ((least A : EReal), (greatest A : EReal)).1 = (least A : EReal) from rfl, e]
    exact h i j
  · refine eq_of_forall_ge_iff (α := EReal) fun z => ?_
    refine ((mm_upto U c A h0 hT 15 (by decide) z).2.trans (all_pairs (fun i j => (D A i j : EReal) ≤ z) fun i j h => by rwa [D_comm])).trans ?_
    refine ⟨fun h => ?_, fun h i j => (EReal.coe_le_coe_iff.2 (le_greatest A i j)).trans h⟩
    obtain ⟨i, j, e⟩ := greatest_at A
    rw [show ((least A : EReal), (greatest A : EReal)).2 = (greatest A : EReal) from rfl, e]
    exact h i j

include h0 hT in
theorem mm_late (n : ℕ) (h16 : 16 ≤ n) (hn : n ≤ 32) : mm U c n = ((least A : EReal), (greatest A : EReal)) := by
  have hN : cfg0.N = 32 := N_0
  induction n, h16 using Nat.le_induction with
  | base => exact mm16 U c A h0 hT
  | succ n h16 ih =>
    have e := mm_succ U c ⟨n, by rw [hN]; omega⟩
    have e1 := cond1_eq ⟨n, by rw [hN]; omega⟩
    have e2 := cond2_eq ⟨n, by rw [hN]; omega⟩
    rw [if_neg (show ¬ n = 0 by omega)] at e1
    rw [if_neg (fun h => by have := h.1; simp at this; omega)] at e2
    have hd : ¬ ((0#1 : BitVec 1) = 1#1) := by decide
    simp only [mmStep, reset, e1, e2, if_neg hd] at e
    exact e.trans (ih (by omega))

include h0 hT h1 h2 in
/-- A tile's packed bins. -/
theorem bins_eq (h12 : (U c main_v12 : S1x1024.Idx → BitVec 32) = Host.boff) (k : Fin 10) (r l : Fin 1024) :
    bins U c (ix3 k r l) = binAt A (row (ti (tpt k)) r) (row (tj (tpt k)) l)
      + (if lab (row (ti (tpt k)) r) = lab (row (tj (tpt k)) l) then 100#32 else 0#32) + Host.boff (ix2 0 l) := by
  have hN : cfg0.N = 32 := N_0
  have ht := up_tpt k
  have hk : 16 ≤ (tpt k).val := by revert k; decide
  have hm := mm_late U c A h0 hT ((tpt k).val + 1) (by omega) (by have := (tpt k).isLt; omega)
  show (pk U c (tpt k) : S1x1024x1024.Idx → BitVec 32) (ix3 0 r l) = _
  unfold pk
  rw [b4_eq, h12, hm]
  refine (packed_apply _ _ _ _ _ _ r l).trans ?_
  rw [b2_eq U c lab h1 _ ht, b3_eq U c lab h2 _ ht]
  refine congrArg (fun z => z + _ + _) ?_
  show bin1 (k0_pay5 (F := Ideal) (b0 U c (tpt k)) (b1 U c (tpt k)) (ix2 r l)) (k0_pay6 (F := Ideal) (least A : EReal))
    (inv1 (k0_pay6 (F := Ideal) (least A : EReal)) (k0_pay7 (F := Ideal) (greatest A : EReal)) (k0_pay8 (F := Ideal) (greatest A : EReal))) = _
  rw [show (k0_pay5 (F := Ideal) (b0 U c (tpt k)) (b1 U c (tpt k)) (ix2 r l)) = _ from pay5_at U c A h0 hT _ ht r l,
    show k0_pay6 (F := Ideal) (least A : EReal) = _ from pay6_eq _ (least_nonneg A)]
  exact bin1_eq _ _ _ (far_mono (least_le A _ _)) (far_mono (le_greatest A _ _)) _ (greatest_nonneg A) rfl

end Blocks

end Cert.Proof.IdealTile

end
-- ==== Proof.IdealAbs.lean ====
/-
  At the ideal values: the reference's operations read at an index, at any sizes.
-/
module

public import proofs.«01_k».proof.Proof.IdealTile
public import Idealize.ShloMosaic.Lib.IdealHost

@[expose] public section

noncomputable section

namespace Cert.Proof.IdealAbs

open Cert.Proof.IdealTile
open Idealize.ShloMosaic Idealize.ShloMosaic.TcCoe
open Idealize.ShloMosaic.ValueIdx
open Finset

/-- The shape of one number. -/
abbrev Z : Shape := ⟨0, ![]⟩

theorem le_foldl_min {ι : Type} (z : EReal) (f : ι → EReal) : ∀ (l : List ι) (v : EReal),
    z ≤ l.foldl (fun r n => min r (f n)) v ↔ z ≤ v ∧ ∀ n ∈ l, z ≤ f n
  | [], v => by simp
  | a :: l, v => by
    rw [List.foldl_cons, le_foldl_min z f l]
    simp only [le_min_iff, List.mem_cons, forall_eq_or_imp, and_assoc]

theorem foldl_max_le {ι : Type} (z : EReal) (f : ι → EReal) : ∀ (l : List ι) (v : EReal),
    l.foldl (fun r n => max r (f n)) v ≤ z ↔ v ≤ z ∧ ∀ n ∈ l, f n ≤ z
  | [], v => by simp
  | a :: l, v => by
    rw [List.foldl_cons, foldl_max_le z f l]
    simp only [max_le_iff, List.mem_cons, forall_eq_or_imp, and_assoc]

section Reduce

variable {s : Shape} {axes : List (Fin s.rank)} (h : s.ReducesTo axes Z) (hu : 0 < Z.numel)

/-- What is below a minimum over everything. -/
theorem le_reduce (x : s.Idx → EReal) (init : Z.Idx → EReal) (j : Z.Idx) (z : EReal) :
    z ≤ (Host.reduce (FloatOps.minimumf (F := Ideal) (φ := .f32)) x init h hu j : EReal) ↔ z ≤ init ix0 ∧ ∀ i, z ≤ x i := by
  unfold Host.reduce
  have e : init (Shape.Idx.first hu) = init ix0 := congrArg init (funext fun a => a.elim0)
  refine (le_foldl_min z (fun n => x (s.rowMajor.symm n)) _ (init (Shape.Idx.first hu))).trans ?_
  rw [e]
  refine and_congr_right fun _ => ⟨fun h' i => ?_, fun h' n _ => h' _⟩
  have := h' (s.rowMajor i) (List.mem_filter.2 ⟨List.mem_finRange _, decide_eq_true (funext fun a => a.elim0)⟩)
  rwa [Equiv.symm_apply_apply] at this

/-- What is above a maximum over everything. -/
theorem reduce_le (x : s.Idx → EReal) (init : Z.Idx → EReal) (j : Z.Idx) (z : EReal) :
    (Host.reduce (FloatOps.maximumf (F := Ideal) (φ := .f32)) x init h hu j : EReal) ≤ z ↔ init ix0 ≤ z ∧ ∀ i, x i ≤ z := by
  unfold Host.reduce
  have e : init (Shape.Idx.first hu) = init ix0 := congrArg init (funext fun a => a.elim0)
  refine (foldl_max_le z (fun n => x (s.rowMajor.symm n)) _ (init (Shape.Idx.first hu))).trans ?_
  rw [e]
  refine and_congr_right fun _ => ⟨fun h' i => ?_, fun h' n _ => h' _⟩
  have := h' (s.rowMajor i) (List.mem_filter.2 ⟨List.mem_finRange _, decide_eq_true (funext fun a => a.elim0)⟩)
  rwa [Equiv.symm_apply_apply] at this

variable (c c' : s.Idx → BitVec 1) (x e : s.Idx → EReal) (l : EReal) (hc : ∀ g, c g = 1#1 ∨ c' g = 1#1)

include hc in
/-- The least of two masked minima, of masks that together are everything. -/
theorem low_eq (he : ∀ g, e g = ⊤) (hl : ∀ g, l ≤ x g) (hx : ∃ g, x g = l) (j : Z.Idx) :
    (minimumf (F := Ideal) (φ := .f32) (Host.reduce FloatOps.minimumf (select c x e) (constant (F := Ideal) Z .f32 0x7F800000#32) h hu)
      (Host.reduce FloatOps.minimumf (select c' x e) (constant (F := Ideal) Z .f32 0x7F800000#32) h hu) j : EReal) = l := by
  refine eq_of_forall_le_iff (α := EReal) fun z => ?_
  refine (le_min_iff (α := EReal)).trans ?_
  refine (and_congr (le_reduce h hu (select c x e) (constant (F := Ideal) Z .f32 0x7F800000#32) j z)
    (le_reduce h hu (select c' x e) (constant (F := Ideal) Z .f32 0x7F800000#32) j z)).trans ?_
  have ht : (constant (F := Ideal) Z .f32 0x7F800000#32 ix0 : EReal) = ⊤ := IdealDist.top_f32
  rw [ht]
  have hsel (m : s.Idx → BitVec 1) (g : s.Idx) : select m x e g = if m g = 1#1 then x g else e g := rfl
  simp only [hsel]
  constructor
  · rintro ⟨⟨-, ha⟩, -, hb⟩
    obtain ⟨g, hg⟩ := hx
    rw [← hg]
    rcases hc g with h1 | h1
    · have := ha g; rwa [if_pos h1] at this
    · have := hb g; rwa [if_pos h1] at this
  · intro hz
    refine ⟨⟨le_top, fun g => ?_⟩, le_top, fun g => ?_⟩ <;> split
    · exact hz.trans (hl g)
    · rw [he]; exact le_top
    · exact hz.trans (hl g)
    · rw [he]; exact le_top

include hc in
/-- The greatest of two masked maxima, of masks that together are everything. -/
theorem high_eq (he : ∀ g, e g = ⊥) (hl : ∀ g, x g ≤ l) (hx : ∃ g, x g = l) (j : Z.Idx) :
    (maximumf (F := Ideal) (φ := .f32) (Host.reduce FloatOps.maximumf (select c x e) (constant (F := Ideal) Z .f32 0xFF800000#32) h hu)
      (Host.reduce FloatOps.maximumf (select c' x e) (constant (F := Ideal) Z .f32 0xFF800000#32) h hu) j : EReal) = l := by
  refine eq_of_forall_ge_iff (α := EReal) fun z => ?_
  refine (max_le_iff (α := EReal)).trans ?_
  refine (and_congr (reduce_le h hu (select c x e) (constant (F := Ideal) Z .f32 0xFF800000#32) j z)
    (reduce_le h hu (select c' x e) (constant (F := Ideal) Z .f32 0xFF800000#32) j z)).trans ?_
  have ht : (constant (F := Ideal) Z .f32 0xFF800000#32 ix0 : EReal) = ⊥ := IdealDist.bot_f32
  rw [ht]
  have hsel (m : s.Idx → BitVec 1) (g : s.Idx) : select m x e g = if m g = 1#1 then x g else e g := rfl
  simp only [hsel]
  constructor
  · rintro ⟨⟨-, ha⟩, -, hb⟩
    obtain ⟨g, hg⟩ := hx
    rw [← hg]
    rcases hc g with h1 | h1
    · have := ha g; rwa [if_pos h1] at this
    · have := hb g; rwa [if_pos h1] at this
  · intro hz
    refine ⟨⟨bot_le, fun g => ?_⟩, bot_le, fun g => ?_⟩ <;> split
    · exact (hl g).trans hz
    · rw [he]; exact bot_le
    · exact (hl g).trans hz
    · rw [he]; exact bot_le

end Reduce

/-! ## Bins -/

/-- The reference's bin of a distance. -/
theorem ref_bin (d l h : ℝ) (h1 : l ≤ d) (h2 : d ≤ h) :
    IntOp.minsi 99#32 (IntOp.maxsi 0#32 (Ideal.fptosi 32 (Ideal.liftRound Int.floor
      (Ideal.div ((d : EReal) - (l : EReal)) (Ideal.div ((h : EReal) - (l : EReal)) (Ideal.ofBits .f32 0x42C80000#32)))))) = theBin d l h := by
  rw [IdealDist.hundred_f32, ← EReal.coe_sub, ← EReal.coe_sub, Ideal.div_coe (by norm_num : (100 : ℝ) ≠ 0), ← EReal.coe_mul]
  unfold theBin
  by_cases h0 : (h - l) * (1 / 100) = 0
  · have hl : h = l := by linarith
    have hd : d = l := le_antisymm (hl ▸ h2) h1
    rw [if_pos h0, h0, hd, sub_self]
    have : Ideal.div ((0 : ℝ) : EReal) ((0 : ℝ) : EReal) = ⊥ := by simp [Ideal.div]
    rw [this]
    show IntOp.minsi 99#32 (IntOp.maxsi 0#32 (BitVec.ofInt 32 (-(2 ^ (32 - 1) : ℕ)))) = 0#32
    decide
  · rw [if_neg h0, Ideal.div_coe h0, ← EReal.coe_mul]

section Bins

variable {s t : Shape} (hc : s.ShapeCasts t) (hb : Z.BroadcastsInDim t ![])

/-- The reference's bin at a flat position. -/
theorem bin_eq (x : s.Idx → EReal) (lo hi : Z.Idx → EReal) (p : t.Idx) (d l h : ℝ) (h1 : l ≤ d) (h2 : d ≤ h)
    (hx : x (Shape.reshapeEquiv hc p) = (d : EReal)) (hlo : lo ix0 = (l : EReal)) (hhi : hi ix0 = (h : EReal)) :
    minsi (broadcastInDim t ![] hb (id (constantI Z 32 99#32))) (maxsi (broadcastInDim t ![] hb (id (constantI Z 32 0#32)))
      (fptosi (F := Ideal) (φ := .f32) 32 (Host.floor (Host.divf (subf (shapeCast t x hc) (broadcastInDim t ![] hb lo))
        (broadcastInDim t ![] hb (Host.divf (F := Ideal) (φ := .f32) (subf hi lo) (constant Z .f32 0x42C80000#32))))))) p = theBin d l h := by
  have e1 := broadcastInDim_scalar_apply hb lo p
  have e2 := broadcastInDim_scalar_apply hb (Host.divf (F := Ideal) (φ := .f32) (subf hi lo) (constant Z .f32 0x42C80000#32)) p
  rw [← ref_bin d l h h1 h2, ← hx, ← hlo, ← hhi]
  show IntOp.minsi 99#32 (IntOp.maxsi 0#32 (Ideal.fptosi 32 (Ideal.liftRound Int.floor
    (Ideal.div ((x (Shape.reshapeEquiv hc p) : EReal) - broadcastInDim t ![] hb lo p) (broadcastInDim t ![] hb (Host.divf (F := Ideal) (φ := .f32) (subf hi lo) (constant Z .f32 0x42C80000#32)) p))))) = _
  rw [e1, e2]
  rfl

theorem not_neg (x : BitVec 32) (hx : x.toNat < 100) : IntOp.cmpi .slt x 0#32 ≠ 1#1 := by
  have : x.slt 0#32 = false := by
    have := BitVec.toInt_eq_toNat_cond x
    simp only [BitVec.slt, BitVec.toInt_zero, decide_eq_false_iff_not, not_lt]
    split at this <;> omega
  simp [IntOp.cmpi, this]

/-- The reference's wrapping of negative indices leaves the bins. -/
theorem wrap_eq (b : t.Idx → BitVec 32) (hlt : ∀ p, (b p).toNat < 100) :
    select (cmpi .slt b (broadcastInDim t ![] hb (constantI Z 32 0#32))) (addi b (broadcastInDim t ![] hb (constantI Z 32 100#32))) b = b := by
  funext p
  exact if_neg (not_neg (b p) (hlt p))

end Bins

/-! ## Histograms -/

section Scatter

variable (n : ℕ)

/-- The lines and columns of a flat vector's indices. -/
abbrev L1 : Shape := ⟨1, ![n]⟩
abbrev L2 : Shape := ⟨2, ![n, 1]⟩
abbrev B1 : Shape := ⟨1, ![100]⟩

/-- A scatter into 100 bins, one index and one update at each position. -/
def sd (wf : ScatterDims.WF B1 (L2 n) (L1 n) [] [0] [0] 1) : ScatterDims B1 (L2 n) (L1 n) where
  updateWindowDims := []
  insertedWindowDims := [0]
  scatterDimsToOperandDims := [0]
  indexVectorDim := 1
  wf := wf

variable (wf : ScatterDims.WF B1 (L2 n) (L1 n) [] [0] [0] 1)

theorem sd_start (idx : IVec (L2 n) 32) (p : (L1 n).Idx) (a : Fin B1.rank) : (sd n wf).start p idx a = (idx (ix2 (p 0) 0)).toInt := by
  have ha : a = (0 : Fin 1) := Subsingleton.elim (α := Fin 1) _ _
  subst ha
  unfold ScatterDims.start
  have hm : (0 : Fin 1) ∈ (sd n wf).scatterDimsToOperandDims := List.mem_cons_self
  refine (dif_pos hm).trans ?_
  refine congrArg (fun k => (idx k).toInt) ?_
  funext b
  fin_cases b
  · rfl
  · exact Subsingleton.elim (α := Fin 1) _ _

theorem sd_window (p : (L1 n).Idx) (a : Fin B1.rank) : (sd n wf).window p a = 0 := by
  have ha : a = (0 : Fin 1) := Subsingleton.elim (α := Fin 1) _ _
  subst ha
  unfold ScatterDims.window
  exact dif_neg (by show ¬ ((0 : Fin 1) ∈ Shape.kept B1 [0]); decide)

/-- Where an update lands. -/
theorem lands (idx : IVec (L2 n) 32) (p : (L1 n).Idx) (hp : (idx (ix2 (p 0) 0)).toNat < 100) (q : Fin 100) :
    ((sd n wf).resultIdx? p idx = some (ix1 q)) ↔ (idx (ix2 (p 0) 0)).toNat = q.val := by
  have ht : (idx (ix2 (p 0) 0)).toInt = ((idx (ix2 (p 0) 0)).toNat : ℤ) := by
    rw [BitVec.toInt_eq_toNat_cond, if_pos (by omega)]
  have hc : ∀ a, 0 ≤ (sd n wf).start p idx a + (sd n wf).window p a ∧ (sd n wf).start p idx a + (sd n wf).window p a < B1.size a := by
    intro a
    rw [sd_start, sd_window, ht]
    have : B1.size a = 100 := by fin_cases a; rfl
    omega
  unfold ScatterDims.resultIdx?
  rw [dif_pos hc, Option.some_inj]
  constructor
  · intro e
    have e0 : ((sd n wf).start p idx (0 : Fin 1) + ((sd n wf).window p (0 : Fin 1) : ℕ)).toNat = q.val := congrArg Fin.val (congrFun e (0 : Fin 1))
    rw [sd_start, sd_window, ht] at e0
    omega
  · intro e
    funext a
    apply Fin.ext
    have ha : a = (0 : Fin 1) := Subsingleton.elim (α := Fin 1) _ _
    subst ha
    show ((sd n wf).start p idx (0 : Fin 1) + ((sd n wf).window p (0 : Fin 1) : ℕ)).toNat = q.val
    rw [sd_start, sd_window, ht]
    omega

theorem scatter_sum {s si su : Shape} (d : ScatterDims s si su) (x : s.Idx → EReal) (idx : IVec si 32) (upd : su.Idx → EReal) (i : s.Idx) :
    (Host.scatterAdd (F := Ideal) (φ := .f32) d x idx upd i : EReal) = x i + ∑ p : su.Idx, if d.resultIdx? p idx = some i then upd p else 0 := by
  show (x i : EReal) + ∑ p ∈ univ.filter (fun p : su.Idx => d.resultIdx? p idx = some i), upd p = _
  rw [Finset.sum_filter]

variable {a b : ℕ}

/-- An index of a matrix. -/
theorem pair_idx (g : (⟨2, ![a, b]⟩ : Shape).Idx) : g = ix2 (g 0) (g 1) := by
  funext k; fin_cases k <;> rfl

/-- The indices of a matrix. -/
def pairs : Fin a × Fin b ≃ (⟨2, ![a, b]⟩ : Shape).Idx :=
  ⟨fun p => ix2 p.1 p.2, fun g => (g 0, g 1), fun p => rfl, fun g => (pair_idx g).symm⟩

/-- A histogram of the pairs marked by `w`. -/
theorem hist_eq (hc : (⟨2, ![a, b]⟩ : Shape).ShapeCasts (L1 n)) (zero : B1.Idx → EReal) (hz : ∀ q, zero q = 0) (idx : IVec (L2 n) 32)
    (w : (⟨2, ![a, b]⟩ : Shape).Idx → BitVec 1) (B : (⟨2, ![a, b]⟩ : Shape).Idx → BitVec 32) (hB : ∀ g, (B g).toNat < 100)
    (hidx : ∀ p : (L1 n).Idx, idx (ix2 (p 0) 0) = B (Shape.reshapeEquiv hc p)) (q : Fin 100) :
    (Host.scatterAdd (F := Ideal) (φ := .f32) (sd n wf) zero idx (uitofp (F := Ideal) .f32 (shapeCast (L1 n) w hc)) (ix1 q) : EReal)
      = ((∑ i : Fin a, ∑ j : Fin b, if (B (ix2 i j)).toNat = q.val then (w (ix2 i j)).toNat else 0 : ℕ) : EReal) := by
  refine (scatter_sum (sd n wf) zero idx _ (ix1 q)).trans ?_
  rw [hz, zero_add]
  have e (p : (L1 n).Idx) : (if (sd n wf).resultIdx? p idx = some (ix1 q) then (uitofp (F := Ideal) .f32 (shapeCast (L1 n) w hc) p : EReal) else 0)
      = (fun g => ((if (B g).toNat = q.val then (w g).toNat else 0 : ℕ) : EReal)) (Shape.reshapeEquiv hc p) := by
    have hla := lands n wf idx p (by rw [hidx]; exact hB _) q
    rw [hidx] at hla
    show _ = ((if (B (Shape.reshapeEquiv hc p)).toNat = q.val then (w (Shape.reshapeEquiv hc p)).toNat else 0 : ℕ) : EReal)
    by_cases h : (B (Shape.reshapeEquiv hc p)).toNat = q.val
    · rw [if_pos (hla.2 h), if_pos h]
      exact EReal.coe_natCast
    · rw [if_neg (fun h' => h (hla.1 h')), if_neg h, Nat.cast_zero]
  rw [Finset.sum_congr rfl fun p _ => e p]
  refine (Equiv.sum_comp (Shape.reshapeEquiv hc) (fun g => ((if (B g).toNat = q.val then (w g).toNat else 0 : ℕ) : EReal))).trans ?_
  rw [← Equiv.sum_comp pairs, Fintype.sum_prod_type, Nat.cast_sum]
  refine Finset.sum_congr rfl fun i _ => ?_
  rw [Nat.cast_sum]
  rfl

/-- A column of indices. -/
theorem column_eq (h : (L1 n).BroadcastsInDim (L2 n) ![0]) (v : (L1 n).Idx → BitVec 32) (p : (L1 n).Idx) :
    broadcastInDim (L2 n) ![0] h v (ix2 (p 0) 0) = v p := by
  refine broadcastInDim_apply _ h v (ix2 (p 0) 0) p ?_
  intro k
  fin_cases k
  show (p 0).val = if n = 1 then 0 else (p 0).val
  split
  · next h1 => have : (p 0).val < n := (p 0).isLt; omega
  · rfl

end Scatter

end Cert.Proof.IdealAbs

end
-- ==== Proof.IdealHist.lean ====
/-
  At the ideal values: what the histograms add up to. Every value of every histogram is a natural number, and the sum of
  the histograms' banks at one bin counts the packed bins, each with its tile's weight.
-/
module

public import proofs.«01_k».proof.Proof.Bins
public import Idealize.ShloMosaic.PureOps.Ideal.Laws

@[expose] public section

set_option maxRecDepth 16384

noncomputable section

namespace Cert.Proof.IdealHist

open Cert.KernelIdeal Cert.KernelIdeal.Gen
open Cert.Proof.Common
open Idealize.ShloMosaic Idealize.ShloMosaic.TcCoe
open Idealize.ShloMosaic.ValueIdx
open Finset

/-! ## Sums -/

/-- A sum over `m * n` numbers, as `m` sums over `n`. -/
theorem sum_mul {M : Type*} [AddCommMonoid M] (m n : ℕ) (f : ℕ → M) :
    ∑ i ∈ range (m * n), f i = ∑ a ∈ range m, ∑ b ∈ range n, f (a * n + b) := by
  induction m with
  | zero => simp
  | succ m ih => rw [Nat.succ_mul, Finset.sum_range_add, ih, Finset.sum_range_succ]

/-- A sum over the banks counts the words of one bin. -/
theorem sum_banks (v W q : ℕ) (hv : v < 16384) (hq : q < 256) :
    (∑ b ∈ range 64, if v = b * 256 + q then W else 0) = if v % 256 = q then W else 0 := by
  by_cases h : v % 256 = q
  · rw [if_pos h, Finset.sum_eq_single (v / 256)]
    · rw [if_pos (by omega)]
    · intro b _ hb; rw [if_neg (by omega)]
    · intro hb; exact absurd (Finset.mem_range.2 (by omega)) hb
  · rw [if_neg h]; exact Finset.sum_eq_zero fun b _ => if_neg (by omega)

/-! ## One scatter -/

/-- What a line of additions, each at one index, leaves at an index: what was there and what was added there. -/
theorem foldl_at {n : ℕ} (p : Fin n → S16384.Idx) (x : Fin n → EReal) (j : S16384.Idx) (l : List (Fin n)) (g : S16384.Idx → EReal) :
    l.foldl (fun (g : S16384.Idx → EReal) k => fun j : S16384.Idx => if (∀ a, (j a).val = (p k a).val) then g (p k) + x k else g j) g j
      = g j + (l.map fun k => if (p k 0).val = (j 0).val then x k else 0).sum := by
  induction l generalizing g with
  | nil => simp
  | cons k l ih =>
    rw [List.foldl_cons, ih, List.map_cons, List.sum_cons, ← add_assoc]
    congr 1
    by_cases h : (p k 0).val = (j 0).val
    · have h' : ∀ a : Fin 1, (j a).val = (p k a).val := fun a => by rw [Subsingleton.elim a 0]; exact h.symm
      have e : p k = j := funext fun a => Fin.ext (h' a).symm
      rw [if_pos h, if_pos h', e]
    · rw [if_neg h, if_neg (fun h' => h (h' 0).symm), add_zero]

/-- One scatter-add at the ideal values. -/
theorem hstep_apply (h : S16384.Idx → Ideal .f32) (v : IVec S16 32) (x : FVec Ideal S16 .f32)
    (hc : ∀ a y, ((![v] : Fin 1 → IVec S16 32) a y).toNat < S16384.size a) (j : S16384.Idx) :
    (hstep h v x j : EReal) = (h j : EReal) + ∑ k : Fin 16, if (v (ix1 k)).toNat = (j 0).val then (x (ix1 k) : EReal) else 0 := by
  unfold hstep
  rw [dif_pos hc]
  unfold storeIdx
  simp only [show ((1#1 : BitVec 1) = 1) = True from eq_true rfl, if_true]
  refine (foldl_at (n := 16) (fun k => idxAt ![v] hc (Shape.ofLane k)) (fun k => x (Shape.ofLane k)) j (List.finRange 16) h).trans ?_
  congr 1
  rw [← List.ofFn_eq_map, List.sum_ofFn]
  refine Finset.sum_congr rfl fun k _ => ?_
  have e : (Shape.ofLane k : S16.Idx) = ix1 k := by funext a; fin_cases a; rfl
  show (if (v (Shape.ofLane k)).toNat = _ then _ else _) = _
  rw [e]

/-! ## The weights -/

/-- Chunk `n`'s weight: 1 on the diagonal tiles, else 2. -/
def wN (t : ℕ) : ℕ := if t = 0 ∨ t = 4 ∨ t = 7 ∨ t = 9 then 1 else 2

theorem diag_eq : ∀ n : Fin 640, diagW (tileW (BitVec.ofNat 32 n.val)) =
    if n.val / 64 = 0 ∨ n.val / 64 = 4 ∨ n.val / 64 = 7 ∨ n.val / 64 = 9 then 1#1 else 0#1 := by decide +kernel

theorem one_f32 : Ideal.ofBits .f32 0x3F800000#32 = ((1 : ℕ) : EReal) := by
  simp [Ideal.ofBits, Ideal.ieee, -EReal.coe_mul]; norm_num

theorem two_f32 : Ideal.ofBits .f32 0x40000000#32 = ((2 : ℕ) : EReal) := by
  rw [show Ideal.ofBits .f32 0x40000000#32 = (((2 : ℕ) : ℝ) : EReal) by simp [Ideal.ofBits, Ideal.ieee, -EReal.coe_mul]; norm_num]
  exact EReal.coe_natCast

theorem wsc_eq (n : ℕ) (hn : n < 640) : (wsc (F := Ideal) n : EReal) = ((wN (n / 64) : ℕ) : EReal) := by
  unfold wsc wN
  rw [diag_eq ⟨n, hn⟩]
  by_cases h : n / 64 = 0 ∨ n / 64 = 4 ∨ n / 64 = 7 ∨ n / 64 = 9
  · rw [if_pos h, if_pos h]; exact one_f32
  · rw [if_neg h, if_neg h]; exact two_f32

theorem wvec_eq (n : ℕ) (hn : n < 640) (k : S16.Idx) : (wvec (F := Ideal) n k : EReal) = ((wN (n / 64) : ℕ) : EReal) := by
  rw [← wsc_eq n hn]
  show (Ideal.ofBits .f32 0x3F800000#32 : EReal) * (wsc (F := Ideal) n : EReal) = _
  rw [one_f32]; simp

/-! ## A tile's histogram -/

variable (X : S32x20x16384.Idx → BitVec 32) (hX : Tile.Below X)

/-- The packed bins, at any numbers. -/
def at3 (w c p : ℕ) : ℕ := (X (ix3 (Fin.ofNat 32 w) (Fin.ofNat 20 c) (Fin.ofNat 16384 p))).toNat

include hX in
/-- Tile `w`'s histogram after `n` scatters counts the words that were scattered, each with its weight. -/
theorem histN_eq (w : Fin 32) (j : S16384.Idx) : ∀ n : ℕ, n ≤ 20480 → (histN (F := Ideal) X w n j : EReal)
    = ((∑ m ∈ range n, ∑ k ∈ range 16, if at3 X w (m / 1024) (16 * (m % 1024) + k) = (j 0).val then wN ((w.val * 20 + m / 1024) / 64) else 0 : ℕ) : EReal)
  | 0, _ => by
    show (Ideal.ofBits .f32 0x00000000#32 : EReal) = _
    simp [Ideal.ofBits_zero_f32]
  | n + 1, hn => by
    have ih := histN_eq w j n (by omega)
    refine (hstep_apply (histN X w n) (vec X w n) (wvec (w.val * 20 + n / 1024)) (Tile.chk_vec hX w n) j).trans ?_
    rw [ih, Finset.sum_range_succ, Nat.cast_add]
    congr 1
    rw [Nat.cast_sum, Finset.sum_range]
    refine Finset.sum_congr rfl fun k _ => ?_
    have e : (vec X w n (ix1 k)).toNat = at3 X w (n / 1024) (16 * (n % 1024) + k.val) := by
      unfold vec at3
      rw [Fin.ofNat_val_eq_self]
    rw [e, wvec_eq _ (by have := w.isLt; omega)]
    by_cases h : at3 X w (n / 1024) (16 * (n % 1024) + k.val) = (j 0).val
    · rw [if_pos h, if_pos h]
    · rw [if_neg h, if_neg h]; simp

/-! ## The banks' sum -/

include hX in
/-- One tile's banks at bin `q` count the tile's words of that bin. -/
theorem banks_eq (w : Fin 32) (q : ℕ) (hq : q < 256) :
    (∑ b ∈ range 64, (histN (F := Ideal) X w 20480 (ix1 (Fin.ofNat 16384 (b * 256 + q))) : EReal))
      = ((∑ c ∈ range 20, ∑ p ∈ range 16384, if at3 X w c p % 256 = q then wN ((w.val * 20 + c) / 64) else 0 : ℕ) : EReal) := by
  rw [Finset.sum_congr rfl fun b _ => histN_eq X hX w _ 20480 le_rfl, ← Nat.cast_sum]
  refine congrArg (fun n : ℕ => (n : EReal)) ?_
  rw [Finset.sum_comm]
  have e : ∀ m ∈ range 20480, (∑ b ∈ range 64, ∑ k ∈ range 16,
      if at3 X w (m / 1024) (16 * (m % 1024) + k) = ((ix1 (Fin.ofNat 16384 (b * 256 + q)) : S16384.Idx) 0).val then wN ((w.val * 20 + m / 1024) / 64) else 0)
      = ∑ k ∈ range 16, if at3 X w (m / 1024) (16 * (m % 1024) + k) % 256 = q then wN ((w.val * 20 + m / 1024) / 64) else 0 := by
    intro m _
    rw [Finset.sum_comm]
    refine Finset.sum_congr rfl fun k _ => ?_
    rw [← sum_banks (at3 X w (m / 1024) (16 * (m % 1024) + k)) _ q (hX _) hq]
    refine Finset.sum_congr rfl fun b hb => ?_
    have hb := Finset.mem_range.1 hb
    have : ((ix1 (Fin.ofNat 16384 (b * 256 + q)) : S16384.Idx) 0).val = b * 256 + q := Nat.mod_eq_of_lt (by omega)
    rw [this]
  rw [Finset.sum_congr rfl e, show (20480 : ℕ) = 20 * 1024 from rfl, sum_mul]
  refine Finset.sum_congr rfl fun c _ => ?_
  rw [show (16384 : ℕ) = 1024 * 16 from rfl, sum_mul]
  refine Finset.sum_congr rfl fun b hb => ?_
  have hb := Finset.mem_range.1 hb
  refine Finset.sum_congr rfl fun k _ => ?_
  rw [show (c * 1024 + b) / 1024 = c by omega, show 16 * ((c * 1024 + b) % 1024) + k = b * 16 + k by omega]

/-- The histograms as the loss kernel reads them. -/
def table : S2048x256.Idx → EReal := shapeCast S2048x256 (hist (F := Ideal) X) shapeCasts_S32x16384_S2048x256

theorem table_apply (w : Fin 32) (b : Fin 64) (q : Fin 256) :
    table X (ix2 (⟨w.val * 64 + b.val, by omega⟩ : Fin 2048) q) = histN (F := Ideal) X w 20480 (ix1 (Fin.ofNat 16384 (b.val * 256 + q.val))) := by
  unfold table
  have hv : (Fin.ofNat 16384 (b.val * 256 + q.val)).val = b.val * 256 + q.val := Nat.mod_eq_of_lt (by omega)
  refine (shapeCast_apply (hist (F := Ideal) X) shapeCasts_S32x16384_S2048x256 _ (ix2 w (Fin.ofNat 16384 (b.val * 256 + q.val))) ?_).trans rfl
  rw [Shape.rowMajor_val_two, Shape.rowMajor_val_two]
  show w.val * 16384 + (Fin.ofNat 16384 (b.val * 256 + q.val)).val = (w.val * 64 + b.val) * 256 + q.val
  rw [hv]; omega

include hX in
/-- The table's sum over a column counts the packed bins of that column. -/
theorem column_eq (q : Fin 256) : (∑ r : Fin 2048, table X (ix2 r q))
    = ((∑ w ∈ range 32, ∑ c ∈ range 20, ∑ p ∈ range 16384, if at3 X w c p % 256 = q.val then wN ((w * 20 + c) / 64) else 0 : ℕ) : EReal) := by
  have h1 : (∑ r : Fin 2048, table X (ix2 r q)) = ∑ r ∈ range (32 * 64), table X (ix2 (Fin.ofNat 2048 r) q) := by
    rw [Finset.sum_range]
    exact Finset.sum_congr rfl fun r _ => by rw [Fin.ofNat_val_eq_self]
  rw [h1, sum_mul, Nat.cast_sum]
  refine Finset.sum_congr rfl fun w hw => ?_
  have hw := Finset.mem_range.1 hw
  rw [← banks_eq X hX ⟨w, hw⟩ q.val q.isLt]
  refine Finset.sum_congr rfl fun b hb => ?_
  have hb := Finset.mem_range.1 hb
  rw [← table_apply X ⟨w, hw⟩ ⟨b, hb⟩ q]
  have : Fin.ofNat 2048 (w * 64 + b) = (⟨w * 64 + b, by omega⟩ : Fin 2048) := Fin.ext (Nat.mod_eq_of_lt (by omega))
  rw [this]

/-! ## By tiles -/

/-- The packed bins by tile, at any numbers. -/
def bn (B : S10x1024x1024.Idx → BitVec 32) (t r l : ℕ) : ℕ := (B (ix3 (Fin.ofNat 10 t) (Fin.ofNat 1024 r) (Fin.ofNat 1024 l))).toNat

/-- A word of a chunk is a word of a tile. -/
theorem at3_rows (B : S10x1024x1024.Idx → BitVec 32) (w c t s a l : ℕ) (hw : w < 32) (hc : c < 20) (hv : w * 20 + c = t * 64 + s)
    (ht : t < 10) (hs : s < 64) (ha : a < 16) (hl : l < 1024) :
    at3 (shapeCast S32x20x16384 B shapeCasts_S10x1024x1024_S32x20x16384) w c (a * 1024 + l) = bn B t (s * 16 + a) l := by
  unfold at3 bn
  refine congrArg BitVec.toNat (shapeCast_apply B shapeCasts_S10x1024x1024_S32x20x16384 _ _ ?_)
  rw [Shape.rowMajor_val_three, Shape.rowMajor_val_three]
  show (t % 10 * 1024 + (s * 16 + a) % 1024) * 1024 + l % 1024 = (w % 32 * 20 + c % 20) * 16384 + (a * 1024 + l) % 16384
  rw [Nat.mod_eq_of_lt ht, Nat.mod_eq_of_lt (show s * 16 + a < 1024 by omega), Nat.mod_eq_of_lt hl, Nat.mod_eq_of_lt hw, Nat.mod_eq_of_lt hc,
    Nat.mod_eq_of_lt (show a * 1024 + l < 16384 by omega), hv]
  omega

/-- The count of a bin's words, by tiles. -/
theorem tiles_eq (B : S10x1024x1024.Idx → BitVec 32) (q : ℕ) :
    (∑ w ∈ range 32, ∑ c ∈ range 20, ∑ p ∈ range 16384,
      if at3 (shapeCast S32x20x16384 B shapeCasts_S10x1024x1024_S32x20x16384) w c p % 256 = q then wN ((w * 20 + c) / 64) else 0)
      = ∑ t ∈ range 10, ∑ r ∈ range 1024, ∑ l ∈ range 1024, if bn B t r l % 256 = q then wN t else 0 := by
  have h1 : ∀ w ∈ range 32, ∀ c ∈ range 20, (∑ p ∈ range 16384,
      if at3 (shapeCast S32x20x16384 B shapeCasts_S10x1024x1024_S32x20x16384) w c p % 256 = q then wN ((w * 20 + c) / 64) else 0)
      = (fun v => ∑ a ∈ range 16, ∑ l ∈ range 1024, if bn B (v / 64) (v % 64 * 16 + a) l % 256 = q then wN (v / 64) else 0) (w * 20 + c) := by
    intro w hw c hc
    have hw := Finset.mem_range.1 hw
    have hc := Finset.mem_range.1 hc
    rw [show (16384 : ℕ) = 16 * 1024 from rfl, sum_mul]
    refine Finset.sum_congr rfl fun a ha => Finset.sum_congr rfl fun l hl => ?_
    rw [at3_rows B w c ((w * 20 + c) / 64) ((w * 20 + c) % 64) a l hw hc (by omega) (by omega) (by omega) (Finset.mem_range.1 ha) (Finset.mem_range.1 hl)]
  rw [Finset.sum_congr rfl fun w hw => Finset.sum_congr rfl (h1 w hw)]
  refine (sum_mul 32 20 (fun v => ∑ a ∈ range 16, ∑ l ∈ range 1024, if bn B (v / 64) (v % 64 * 16 + a) l % 256 = q then wN (v / 64) else 0)).symm.trans ?_
  rw [show 32 * 20 = 10 * 64 from rfl, sum_mul]
  refine Finset.sum_congr rfl fun t _ => ?_
  rw [show (range 1024 : Finset ℕ) = range (64 * 16) from rfl, sum_mul 64 16]
  refine Finset.sum_congr rfl fun s hs => ?_
  have hs := Finset.mem_range.1 hs
  rw [show (t * 64 + s) / 64 = t by omega, show (t * 64 + s) % 64 = s by omega]

end Cert.Proof.IdealHist

end
-- ==== Proof.IdealCount.lean ====
/-
  At the ideal values: what the columns of the histograms' table count.
-/
module

public import proofs.«01_k».proof.Proof.IdealTile
public import proofs.«01_k».proof.Proof.IdealHist

@[expose] public section

set_option maxRecDepth 16384

noncomputable section

namespace Cert.Proof.IdealCount

open Cert.KernelIdeal Cert.KernelIdeal.Gen
open Cert.Proof.Common Cert.Proof.TcBody Cert.Proof.TcData Cert.Proof.TcValue Cert.Proof.Bins
open Cert.Proof.IdealTile Cert.Proof.IdealHist
open Idealize.ShloMosaic Idealize.ShloMosaic.TcCoe
open Idealize.ShloMosaic.ValueIdx
open Finset

variable (A : Fin 4096 → Fin 32 → ℝ) (lab : Fin 4096 → BitVec 32)

/-- The column of a pair: its bin, 100 more where the labels are equal. -/
def cls (i j : Fin 4096) : ℕ := (binAt A i j).toNat + if lab i = lab j then 100 else 0

theorem cls_comm (i j : Fin 4096) : cls A lab i j = cls A lab j i := by
  unfold cls
  rw [binAt_comm, if_congr (eq_comm (a := lab i)) rfl rfl]

/-- How many ordered pairs have column `q`. -/
def cnt (q : ℕ) : ℕ := ∑ i : Fin 4096, ∑ j : Fin 4096, if cls A lab i j = q then 1 else 0

/-- The rows by bands. -/
theorem sum_rows {M : Type*} [AddCommMonoid M] (f : Fin 4096 → M) : ∑ i, f i = ∑ a : Fin 4, ∑ r : Fin 1024, f (row a r) := by
  rw [← Fintype.sum_prod_type' (fun a r => f (row a r))]
  refine (Fintype.sum_equiv (finProdFinEquiv (m := 4) (n := 1024)) _ _ fun p => ?_).symm
  refine congrArg f (Fin.ext ?_)
  show p.1.val * 1024 + p.2.val = p.2.val + 1024 * p.1.val
  omega

/-- The pairs of one column in one tile. -/
def inTile (q : ℕ) (a b : Fin 4) : ℕ := ∑ r : Fin 1024, ∑ l : Fin 1024, if cls A lab (row a r) (row b l) = q then 1 else 0

theorem inTile_comm (q : ℕ) (a b : Fin 4) : inTile A lab q a b = inTile A lab q b a := by
  unfold inTile
  rw [Finset.sum_comm]
  refine Finset.sum_congr rfl fun r _ => Finset.sum_congr rfl fun l _ => ?_
  rw [cls_comm]

theorem cnt_tiles (q : ℕ) : cnt A lab q = ∑ a : Fin 4, ∑ b : Fin 4, inTile A lab q a b := by
  unfold cnt inTile
  refine (sum_rows fun i => ∑ j : Fin 4096, if cls A lab i j = q then 1 else 0).trans ?_
  refine Finset.sum_congr rfl fun a _ => ?_
  refine (Finset.sum_congr rfl fun r _ => sum_rows fun j => if cls A lab (row a r) j = q then 1 else 0).trans ?_
  exact Finset.sum_comm

theorem ti_tpt : ∀ k : Fin 10, ti (tpt k) = (![0, 0, 0, 0, 1, 1, 1, 2, 2, 3] : Fin 10 → Fin 4) k := by decide +kernel
theorem tj_tpt : ∀ k : Fin 10, tj (tpt k) = (![0, 1, 2, 3, 1, 2, 3, 2, 3, 3] : Fin 10 → Fin 4) k := by decide +kernel

/-- The ten tiles, each off the diagonal twice, are all sixteen. -/
theorem upper_twice (G : Fin 4 → Fin 4 → ℕ) (hG : ∀ a b, G a b = G b a) :
    ∑ k : Fin 10, wN k.val * G (ti (tpt k)) (tj (tpt k)) = ∑ a : Fin 4, ∑ b : Fin 4, G a b := by
  simp only [ti_tpt, tj_tpt]
  simp only [Fin.sum_univ_succ, Fin.sum_univ_zero, wN]
  have e10 := hG 1 0
  have e20 := hG 2 0
  have e30 := hG 3 0
  have e21 := hG 2 1
  have e31 := hG 3 1
  have e32 := hG 3 2
  show 1 * G 0 0 + (2 * G 0 1 + (2 * G 0 2 + (2 * G 0 3 + (1 * G 1 1 + (2 * G 1 2 + (2 * G 1 3 + (1 * G 2 2 + (2 * G 2 3 + (1 * G 3 3 + 0)))))))))
    = (G 0 0 + (G 0 1 + (G 0 2 + (G 0 3 + 0)))) + ((G 1 0 + (G 1 1 + (G 1 2 + (G 1 3 + 0)))) + ((G 2 0 + (G 2 1 + (G 2 2 + (G 2 3 + 0)))) + ((G 3 0 + (G 3 1 + (G 3 2 + (G 3 3 + 0)))) + 0)))
  omega

section Columns

variable (U : (c : Dev nD) → (b : Ref sig .tc) → Buf (Elt Ideal) ((c.tc : Thread nD τ).loc b)) (c : Dev nD)
variable (h0 : ∀ i k, (U c main_arg0 : S4096x32.Idx → EReal) (ix2 i k) = (A i k : EReal))
variable (hT : ∀ i k, (U c main_v0 : S32x4096.Idx → EReal) (ix2 k i) = (A i k : EReal))
variable (h1 : ∀ i, (U c main_v1 : S4096x1.Idx → BitVec 32) (ix2 i 0) = lab i)
variable (h2 : ∀ i, (U c main_v2 : S1x4096.Idx → BitVec 32) (ix2 0 i) = lab i)
variable (h12 : (U c main_v12 : S1x1024.Idx → BitVec 32) = Host.boff)

include h0 hT h1 h2 h12 in
theorem bn_mod (k : Fin 10) (r l : Fin 1024) : bn (bins U c) k.val r.val l.val % 256 = cls A lab (row (ti (tpt k)) r) (row (tj (tpt k)) l) := by
  unfold bn
  rw [Fin.ofNat_val_eq_self, Fin.ofNat_val_eq_self, Fin.ofNat_val_eq_self, bins_eq U c A lab h0 hT h1 h2 h12 k r l]
  unfold cls
  have hb := boff_toNat (ix2 0 l)
  have hx := theBin_lt (IdealTile.far (D A (row (ti (tpt k)) r) (row (tj (tpt k)) l))) (IdealTile.far (least A)) (IdealTile.far (greatest A))
  have h3 : (((ix2 0 l : S1x1024.Idx) 1).val % 16) < 16 := Nat.mod_lt _ (by decide)
  have h4 : (((ix2 0 l : S1x1024.Idx) 1).val / 16 % 4) < 4 := Nat.mod_lt _ (by decide)
  change (binAt A (row (ti (tpt k)) r) (row (tj (tpt k)) l)).toNat < 100 at hx
  generalize binAt A (row (ti (tpt k)) r) (row (tj (tpt k)) l) = x at hx
  generalize Host.boff (ix2 0 l) = z at hb
  rw [BitVec.toNat_add, BitVec.toNat_add, hb]
  generalize ((ix2 0 l : S1x1024.Idx) 1).val % 16 = u at h3 ⊢
  generalize ((ix2 0 l : S1x1024.Idx) 1).val / 16 % 4 = v at h4 ⊢
  by_cases hl : lab (row (ti (tpt k)) r) = lab (row (tj (tpt k)) l)
  · rw [if_pos hl, if_pos hl]
    show ((x.toNat + 100) % 2 ^ 32 + (u + 16 * v) * 256) % 2 ^ 32 % 256 = x.toNat + 100
    omega
  · rw [if_neg hl, if_neg hl]
    show ((x.toNat + 0) % 2 ^ 32 + (u + 16 * v) * 256) % 2 ^ 32 % 256 = x.toNat + 0
    omega

include h0 hT h1 h2 h12 in
/-- A column of the table counts the pairs of that column. -/
theorem column_cnt (q : Fin 256) : (∑ r : Fin 2048, table (rows U c) (ix2 r q)) = ((cnt A lab q.val : ℕ) : EReal) := by
  rw [column_eq (rows U c) (rows_below U c h12) q]
  refine congrArg (fun n : ℕ => (n : EReal)) ?_
  unfold rows
  rw [tiles_eq, cnt_tiles, ← upper_twice (inTile A lab q.val) (inTile_comm A lab q.val), Finset.sum_range]
  refine Finset.sum_congr rfl fun k _ => ?_
  unfold inTile
  rw [Finset.sum_range, Finset.mul_sum]
  refine Finset.sum_congr rfl fun r _ => ?_
  rw [Finset.sum_range, Finset.mul_sum]
  refine Finset.sum_congr rfl fun l _ => ?_
  rw [bn_mod A lab U c h0 hT h1 h2 h12 k r l]
  split <;> simp

end Columns

end Cert.Proof.IdealCount

end
-- ==== Proof.IdealRef.lean ====
/-
  At the ideal values: the reference's distances, bins and histograms, of finite features.
-/
module

public import proofs.«01_k».proof.Proof.IdealAbs
public import proofs.«01_k».proof.Proof.IdealCount
public import proofs.«01_k».proof.Proof.Gen.ReferenceIdeal.Run
public import Idealize.ShloMosaic.Lib.StackMember

@[expose] public section

set_option maxRecDepth 16384

noncomputable section

namespace Cert.Proof.IdealRef

open Cert.ReferenceIdeal Cert.ReferenceIdeal.Gen Cert.ReferenceIdeal.Value
open Cert.Proof.IdealTile Cert.Proof.IdealCount
open Idealize.ShloMosaic Idealize.ShloMosaic.TcCoe
open Idealize.ShloMosaic.ValueIdx
open Finset

variable (V0 : Valuation τ sig (Elt Ideal))

/-- The reference's intermediate arrays, at their shapes. -/
def feat : S4096x32.Idx → EReal := V0 (Proc.devRef .tc main_arg0)
def labels : S4096.Idx → BitVec 32 := V0 (Proc.devRef .tc main_arg1)
def squares : S4096.Idx → EReal := res_main_v1 V0
def dist : S4096x4096.Idx → EReal := res_main_v16 V0
def labCol : S4096x1.Idx → BitVec 32 := res_main_v17 V0
def same : S4096x4096.Idx → BitVec 1 := res_main_v21 V0
def diff : S4096x4096.Idx → BitVec 1 := res_main_v22 V0
def inf : S4096x4096.Idx → EReal := res_main_v23 V0
def low : S_.Idx → EReal := res_main_v34 V0
def high : S_.Idx → EReal := maximumf (F := Ideal) (φ := .f32) (Host.reduce FloatOps.maximumf (select (same V0) (dist V0) (Host.negf (F := Ideal) (φ := .f32) (inf V0))) (constant S_ .f32 0xFF800000#32) reducesTo_S4096x4096_S_d0_1 h_S_)
  (Host.reduce FloatOps.maximumf (select (diff V0) (dist V0) (Host.negf (F := Ideal) (φ := .f32) (inf V0))) (constant S_ .f32 0xFF800000#32) reducesTo_S4096x4096_S_d0_1 h_S_)
def bin : S16777216.Idx → BitVec 32 := res_main_v45 V0

theorem squares_def : squares V0 = Host.reduceAdd (F := Ideal) (φ := .f32) (mulf (F := Ideal) (φ := .f32) (feat V0) (feat V0)) (constant S_ .f32 0x00000000#32) reducesTo_S4096x32_S4096_d1 h_S_ := rfl
theorem dist_def : dist V0 = Host.sqrt (F := Ideal) (φ := .f32) (addf (F := Ideal) (φ := .f32) (maximumf (F := Ideal) (φ := .f32) (subf (F := Ideal) (φ := .f32) (addf (F := Ideal) (φ := .f32) (broadcastInDim S4096x4096 ![0, 1] bcast_S4096x1_S4096x4096_0_1 (broadcastInDim S4096x1 ![0] bcast_S4096_S4096x1_0 (squares V0))) (broadcastInDim S4096x4096 ![0, 1] bcast_S1x4096_S4096x4096_0_1 (broadcastInDim S1x4096 ![1] bcast_S4096_S1x4096_1 (squares V0)))) (mulf (F := Ideal) (φ := .f32) (broadcastInDim S4096x4096 ![] bcast_S_S4096x4096 (constant S_ .f32 0x40000000#32)) (Host.dotGeneral (F := Ideal) (φ₁ := .f32) (φ₂ := .f32) dot_S4096x32_S32x4096_S4096x4096_1_0_0_1_n_n none (feat V0) (transpose S32x4096 [1, 0] (feat V0) transposes_S4096x32_S32x4096_1_0)))) (broadcastInDim S4096x4096 ![] bcast_S_S4096x4096 (constant S_ .f32 0x00000000#32))) (broadcastInDim S4096x4096 ![] bcast_S_S4096x4096 (constant S_ .f32 0x2B8CBCCC#32))) := rfl
theorem labCol_def : labCol V0 = shapeCast S4096x1 (labels V0) shapeCasts_S4096_S4096x1 := rfl
theorem same_def : same V0 = cmpi .eq (broadcastInDim S4096x4096 ![0, 1] bcast_S4096x1_S4096x4096_0_1 (labCol V0)) (broadcastInDim S4096x4096 ![0, 1] bcast_S1x4096_S4096x4096_0_1 (transpose S1x4096 [1, 0] (labCol V0) transposes_S4096x1_S1x4096_1_0)) := rfl
theorem diff_def : diff V0 = noti (same V0) := rfl
theorem inf_def : inf V0 = broadcastInDim S4096x4096 ![] bcast_S_S4096x4096 (constant (F := Ideal) S_ .f32 0x7F800000#32) := rfl
theorem low_def : low V0 = minimumf (F := Ideal) (φ := .f32) (Host.reduce FloatOps.minimumf (select (same V0) (dist V0) (inf V0)) (constant (F := Ideal) S_ .f32 0x7F800000#32) reducesTo_S4096x4096_S_d0_1 h_S_)
  (Host.reduce FloatOps.minimumf (select (diff V0) (dist V0) (inf V0)) (constant (F := Ideal) S_ .f32 0x7F800000#32) reducesTo_S4096x4096_S_d0_1 h_S_) := rfl
theorem bin_def : bin V0 = minsi (broadcastInDim S16777216 ![] bcast_S_S16777216 (id (constantI S_ 32 99#32))) (maxsi (broadcastInDim S16777216 ![] bcast_S_S16777216 (id (constantI S_ 32 0#32)))
  (fptosi (F := Ideal) (φ := .f32) 32 (Host.floor (Host.divf (subf (shapeCast S16777216 (dist V0) shapeCasts_S4096x4096_S16777216) (broadcastInDim S16777216 ![] bcast_S_S16777216 (low V0)))
    (broadcastInDim S16777216 ![] bcast_S_S16777216 (Host.divf (F := Ideal) (φ := .f32) (subf (high V0) (low V0)) (constant S_ .f32 0x42C80000#32))))))) := rfl
theorem v57_def : (res_main_v57 V0 : S100.Idx → EReal) = Host.scatterAdd (F := Ideal) (φ := .f32) scatter_S100_S16777216x1_S16777216_n_0_0_1 (broadcastInDim S100 ![] bcast_S_S100 (constant S_ .f32 0x00000000#32)) (broadcastInDim S16777216x1 ![0] bcast_S16777216_S16777216x1_0 (select (cmpi .slt (bin V0) (broadcastInDim S16777216 ![] bcast_S_S16777216 (constantI S_ 32 0#32))) (addi (bin V0) (broadcastInDim S16777216 ![] bcast_S_S16777216 (constantI S_ 32 100#32))) (bin V0))) (uitofp .f32 (shapeCast S16777216 (same V0) shapeCasts_S4096x4096_S16777216)) := rfl
theorem v65_def : (res_main_v65 V0 : S100.Idx → EReal) = Host.scatterAdd (F := Ideal) (φ := .f32) scatter_S100_S16777216x1_S16777216_n_0_0_1 (broadcastInDim S100 ![] bcast_S_S100 (constant S_ .f32 0x00000000#32)) (broadcastInDim S16777216x1 ![0] bcast_S16777216_S16777216x1_0 (select (cmpi .slt (bin V0) (broadcastInDim S16777216 ![] bcast_S_S16777216 (constantI S_ 32 0#32))) (addi (bin V0) (broadcastInDim S16777216 ![] bcast_S_S16777216 (constantI S_ 32 100#32))) (bin V0))) (uitofp .f32 (shapeCast S16777216 (diff V0) shapeCasts_S4096x4096_S16777216)) := rfl

section Values

variable (A : Fin 4096 → Fin 32 → ℝ) (lab : Fin 4096 → BitVec 32)
variable (h0 : ∀ i k, feat V0 (ix2 i k) = (A i k : EReal))
variable (h1 : ∀ i, labels V0 (ix1 i) = lab i)

include h0 in
/-- A feature's sum of squares. -/
theorem squares_apply (i : Fin 4096) : squares V0 (ix1 i) = ∑ k : Fin 32, (A i k : EReal) * A i k := by
  rw [squares_def]
  have hr : S4096x32.Reduces [1] S4096 := by decide
  show Ideal.hostReduceAdd reducesTo_S4096x32_S4096_d1 (fun g => feat V0 g * feat V0 g) (Ideal.ofBits .f32 0x00000000#32) (ix1 i) = _
  rw [Ideal.hostReduceAdd_single reducesTo_S4096x32_S4096_d1 hr, Ideal.ofBits_zero_f32, zero_add]
  refine Finset.sum_congr rfl fun k _ => ?_
  have : (hr.lift (ix1 i : S4096.Idx) k : S4096x32.Idx) = ix2 i k := by
    funext a; fin_cases a <;> rfl
  rw [this]
  exact congrArg₂ (fun u v : EReal => u * v) (h0 i k) (h0 i k)

/-- Spreading a vector along the rows and along the columns. -/
theorem spread_row {α : Type} (v : S4096.Idx → α) (i j : Fin 4096) :
    broadcastInDim S4096x4096 ![0, 1] bcast_S4096x1_S4096x4096_0_1 (broadcastInDim S4096x1 ![0] bcast_S4096_S4096x1_0 v) (ix2 i j) = v (ix1 i) :=
  (broadcastInDim_apply _ bcast_S4096x1_S4096x4096_0_1 _ (ix2 i j) (ix2 i 0) (by intro a; fin_cases a <;> rfl)).trans
    (broadcastInDim_apply _ bcast_S4096_S4096x1_0 v (ix2 i 0) (ix1 i) (by intro a; fin_cases a; rfl))
theorem spread_col {α : Type} (v : S4096.Idx → α) (i j : Fin 4096) :
    broadcastInDim S4096x4096 ![0, 1] bcast_S1x4096_S4096x4096_0_1 (broadcastInDim S1x4096 ![1] bcast_S4096_S1x4096_1 v) (ix2 i j) = v (ix1 j) :=
  (broadcastInDim_apply _ bcast_S1x4096_S4096x4096_0_1 _ (ix2 i j) (ix2 0 j) (by intro a; fin_cases a <;> rfl)).trans
    (broadcastInDim_apply _ bcast_S4096_S1x4096_1 v (ix2 0 j) (ix1 j) (by intro a; fin_cases a; rfl))

/-- The features' products. -/
theorem product_apply (v : FVec Ideal S4096x32 .f32) (i j : Fin 4096) :
    (Host.dotGeneral (F := Ideal) (φ₁ := .f32) (φ₂ := .f32) dot_S4096x32_S32x4096_S4096x4096_1_0_0_1_n_n none v (transpose S32x4096 [1, 0] v transposes_S4096x32_S32x4096_1_0) (ix2 i j) : EReal)
      = ∑ k : Fin 32, (v (ix2 i k) : EReal) * v (ix2 j k) := by
  refine (StackMember.dotGeneral_plain_apply (m := 4096) (n := 4096) (k := 32) (φ₁ := .f32) (φ₂ := .f32) none v (transpose S32x4096 [1, 0] v transposes_S4096x32_S32x4096_1_0) i j).trans ?_
  refine Finset.sum_congr rfl fun k _ => ?_
  rw [transpose_apply [1, 0] v transposes_S4096x32_S32x4096_1_0 (ix2 k j) (ix2 j k) (by intro b; fin_cases b <;> rfl)]

include h0 in
/-- A pair's distance. -/
theorem dist_apply (i j : Fin 4096) : dist V0 (ix2 i j) = (IdealTile.far (D A i j) : EReal) := by
  rw [dist_def]
  have e1 := (spread_row (squares V0) i j).trans (squares_apply V0 A h0 i)
  have e2 := (spread_col (squares V0) i j).trans (squares_apply V0 A h0 j)
  have e3 := product_apply (feat V0) i j
  simp only [h0] at e3
  show Ideal.sqrt (max (_ + _ - Ideal.ofBits .f32 0x40000000#32 * _) (Ideal.ofBits .f32 0x00000000#32) + Ideal.ofBits .f32 0x2B8CBCCC#32) = _
  rw [e1, e2, e3, Ideal.ofBits_zero_f32, ← D_ereal, IdealDist.eps_f32, ← EReal.coe_add]
  show (if D A i j + IdealDist.eps < 0 then ⊥ else ((Real.sqrt (D A i j + IdealDist.eps) : ℝ) : EReal)) = _
  rw [if_neg (by have := D_nonneg A i j; have := IdealDist.eps_pos; linarith)]
  rfl

include h1 in
/-- Whether a pair's labels are equal. -/
theorem same_apply (i j : Fin 4096) : same V0 (ix2 i j) = if lab i = lab j then 1#1 else 0#1 := by
  rw [same_def]
  have e0 (i : Fin 4096) : labCol V0 (ix2 i 0) = lab i := by
    rw [← h1 i, labCol_def]
    exact shapeCast_apply _ shapeCasts_S4096_S4096x1 (ix2 i 0) (ix1 i) (by
      rw [Shape.rowMajor_val_one, Shape.rowMajor_val_two]; show i.val = i.val * 1 + 0; omega)
  have e1 : broadcastInDim S4096x4096 ![0, 1] bcast_S4096x1_S4096x4096_0_1 (labCol V0) (ix2 i j) = lab i := by
    rw [← e0 i]
    exact broadcastInDim_apply _ bcast_S4096x1_S4096x4096_0_1 _ (ix2 i j) (ix2 i 0) (by intro a; fin_cases a <;> rfl)
  have e2 : broadcastInDim S4096x4096 ![0, 1] bcast_S1x4096_S4096x4096_0_1 (transpose S1x4096 [1, 0] (labCol V0) transposes_S4096x1_S1x4096_1_0) (ix2 i j) = lab j := by
    rw [← e0 j]
    refine (broadcastInDim_apply _ bcast_S1x4096_S4096x4096_0_1 _ (ix2 i j) (ix2 0 j) (by intro a; fin_cases a <;> rfl)).trans ?_
    exact transpose_apply [1, 0] _ transposes_S4096x1_S1x4096_1_0 (ix2 0 j) (ix2 j 0) (by intro b; fin_cases b <;> rfl)
  show IntOp.cmpi .eq _ _ = _
  rw [e1, e2]
  by_cases h : lab i = lab j
  · rw [if_pos h, h]; simp [IntOp.cmpi]
  · rw [if_neg h]
    have : (lab i == lab j) = false := by simpa using h
    simp [IntOp.cmpi, this]

theorem diff_at (g : S4096x4096.Idx) : diff V0 g = ~~~(same V0 g) := by rw [diff_def]; rfl

include h1 in
theorem diff_apply (i j : Fin 4096) : diff V0 (ix2 i j) = if lab i = lab j then 0#1 else 1#1 := by
  rw [diff_at, same_apply V0 lab h1]
  split <;> decide

theorem same_or (g : S4096x4096.Idx) : same V0 g = 1#1 ∨ diff V0 g = 1#1 := by
  rw [diff_at]
  generalize same V0 g = z
  revert z
  decide

theorem inf_apply (g : S4096x4096.Idx) : inf V0 g = ⊤ := by
  rw [inf_def]
  exact (broadcastInDim_scalar_apply bcast_S_S4096x4096 (constant (F := Ideal) S_ .f32 0x7F800000#32) g).trans IdealDist.top_f32

theorem neg_inf_apply (g : S4096x4096.Idx) : (Host.negf (F := Ideal) (φ := .f32) (inf V0) g : EReal) = ⊥ := by
  show -(inf V0 g) = ⊥
  rw [inf_apply, EReal.neg_top]

/-- An index of the pairs. -/
theorem pair_idx (g : S4096x4096.Idx) : ∃ i j : Fin 4096, g = ix2 i j := ⟨g 0, g 1, IdealAbs.pair_idx g⟩

include h0 in
/-- The least distance. -/
theorem low_apply : low V0 ix0 = (IdealTile.far (least A) : EReal) := by
  rw [low_def]
  refine IdealAbs.low_eq reducesTo_S4096x4096_S_d0_1 h_S_ (same V0) (diff V0) (dist V0) (inf V0) _ (same_or V0) (inf_apply V0) ?_ ?_ ix0
  · intro g
    obtain ⟨i, j, rfl⟩ := pair_idx g
    rw [dist_apply V0 A h0]
    exact EReal.coe_le_coe_iff.2 (far_mono (least_le A i j))
  · obtain ⟨i, j, e⟩ := least_at A
    exact ⟨ix2 i j, by rw [dist_apply V0 A h0, e]⟩

include h0 in
/-- The greatest distance. -/
theorem high_apply : high V0 ix0 = (IdealTile.far (greatest A) : EReal) := by
  unfold high
  refine IdealAbs.high_eq reducesTo_S4096x4096_S_d0_1 h_S_ (same V0) (diff V0) (dist V0) (Host.negf (F := Ideal) (φ := .f32) (inf V0)) _ (same_or V0) (neg_inf_apply V0) ?_ ?_ ix0
  · intro g
    obtain ⟨i, j, rfl⟩ := pair_idx g
    rw [dist_apply V0 A h0]
    exact EReal.coe_le_coe_iff.2 (far_mono (le_greatest A i j))
  · obtain ⟨i, j, e⟩ := greatest_at A
    exact ⟨ix2 i j, by rw [dist_apply V0 A h0, e]⟩

/-- A pair's bin, at the pair's index. -/
def binG (g : S4096x4096.Idx) : BitVec 32 := binAt A (g 0) (g 1)

theorem binG_lt (g : S4096x4096.Idx) : (binG A g).toNat < 100 := theBin_lt _ _ _

include h0 in
/-- The bin at a flat position. -/
theorem bin_apply (p : S16777216.Idx) : bin V0 p = binG A (Shape.reshapeEquiv shapeCasts_S4096x4096_S16777216 p) := by
  rw [bin_def]
  generalize hg : Shape.reshapeEquiv shapeCasts_S4096x4096_S16777216 p = g
  obtain ⟨i, j, rfl⟩ := pair_idx g
  refine IdealAbs.bin_eq shapeCasts_S4096x4096_S16777216 bcast_S_S16777216 (dist V0) (low V0) (high V0) p (IdealTile.far (D A i j)) (IdealTile.far (least A))
    (IdealTile.far (greatest A)) (far_mono (least_le A i j)) (far_mono (le_greatest A i j)) ?_ (low_apply V0 A h0) (high_apply V0 A h0)
  rw [hg]
  exact dist_apply V0 A h0 i j

theorem zeros_apply (q : S100.Idx) : (broadcastInDim S100 ![] bcast_S_S100 (constant (F := Ideal) S_ .f32 0x00000000#32) q : EReal) = 0 :=
  (broadcastInDim_scalar_apply bcast_S_S100 (constant (F := Ideal) S_ .f32 0x00000000#32) q).trans Ideal.ofBits_zero_f32

/-- The bins as a column, at a flat position. -/
theorem binCol_apply (v : S16777216.Idx → BitVec 32) (p : S16777216.Idx) : broadcastInDim S16777216x1 ![0] bcast_S16777216_S16777216x1_0 v (ix2 (p 0) 0) = v p :=
  IdealAbs.column_eq 16777216 bcast_S16777216_S16777216x1_0 v p

/-- A histogram of the marked pairs by bins. -/
theorem hist_of (B : S4096x4096.Idx → BitVec 32) (hB : ∀ g, (B g).toNat < 100) (idx : IVec S16777216x1 32) (zero : S100.Idx → EReal) (hz : ∀ q, zero q = 0)
    (hi : ∀ p : S16777216.Idx, idx (ix2 (p 0) 0) = B (Shape.reshapeEquiv shapeCasts_S4096x4096_S16777216 p))
    (w : S4096x4096.Idx → BitVec 1) (q : Fin 100) :
    (Host.scatterAdd (F := Ideal) (φ := .f32) scatter_S100_S16777216x1_S16777216_n_0_0_1 zero idx (uitofp (F := Ideal) .f32 (shapeCast S16777216 w shapeCasts_S4096x4096_S16777216)) (ix1 q) : EReal)
      = ((∑ i : Fin 4096, ∑ j : Fin 4096, if (B (ix2 i j)).toNat = q.val then (w (ix2 i j)).toNat else 0 : ℕ) : EReal) :=
  IdealAbs.hist_eq 16777216 scatter_S100_S16777216x1_S16777216_n_0_0_1.wf shapeCasts_S4096x4096_S16777216 zero hz idx w B hB hi q

/-- The wrapped bins are the bins. -/
theorem wrap_of (b : S16777216.Idx → BitVec 32) (hb : ∀ p, (b p).toNat < 100) :
    select (cmpi .slt b (broadcastInDim S16777216 ![] bcast_S_S16777216 (constantI S_ 32 0#32))) (addi b (broadcastInDim S16777216 ![] bcast_S_S16777216 (constantI S_ 32 100#32))) b = b :=
  IdealAbs.wrap_eq bcast_S_S16777216 b hb

include h0 in
theorem bin_lt (p : S16777216.Idx) : (bin V0 p).toNat < 100 := by
  rw [bin_apply V0 A h0]
  exact binG_lt A _

include h0 in
/-- A reference histogram of the pairs marked by `w`. -/
theorem hist_apply (w : S4096x4096.Idx → BitVec 1) (q : Fin 100) :
    (Host.scatterAdd (F := Ideal) (φ := .f32) scatter_S100_S16777216x1_S16777216_n_0_0_1 (broadcastInDim S100 ![] bcast_S_S100 (constant S_ .f32 0x00000000#32)) (broadcastInDim S16777216x1 ![0] bcast_S16777216_S16777216x1_0 (select (cmpi .slt (bin V0) (broadcastInDim S16777216 ![] bcast_S_S16777216 (constantI S_ 32 0#32))) (addi (bin V0) (broadcastInDim S16777216 ![] bcast_S_S16777216 (constantI S_ 32 100#32))) (bin V0))) (uitofp .f32 (shapeCast S16777216 w shapeCasts_S4096x4096_S16777216)) (ix1 q) : EReal)
      = ((∑ i : Fin 4096, ∑ j : Fin 4096, if (binAt A i j).toNat = q.val then (w (ix2 i j)).toNat else 0 : ℕ) : EReal) := by
  rw [wrap_of (bin V0) (bin_lt V0 A h0)]
  exact hist_of (binG A) (binG_lt A) _ _ zeros_apply (fun p => (binCol_apply (bin V0) p).trans (bin_apply V0 A h0 p)) w q

include h0 h1 in
/-- The histogram of the pairs of equal labels. -/
theorem v57_apply (q : Fin 100) : (res_main_v57 V0 : S100.Idx → EReal) (ix1 q) = ((cnt A lab (100 + q.val) : ℕ) : EReal) := by
  rw [v57_def]
  refine (hist_apply V0 A h0 (same V0) q).trans ?_
  refine congrArg (fun n : ℕ => (n : EReal)) ?_
  unfold cnt cls
  refine Finset.sum_congr rfl fun i _ => Finset.sum_congr rfl fun j _ => ?_
  rw [same_apply V0 lab h1]
  have hl : (binAt A i j).toNat < 100 := theBin_lt _ _ _
  by_cases h : lab i = lab j
  · rw [if_pos h, if_pos h]
    exact if_congr (by omega) rfl rfl
  · rw [if_neg h, if_neg h, if_neg (show ¬ (binAt A i j).toNat + 0 = 100 + q.val by omega)]
    exact ite_self _

include h0 h1 in
/-- The histogram of the pairs of different labels. -/
theorem v65_apply (q : Fin 100) : (res_main_v65 V0 : S100.Idx → EReal) (ix1 q) = ((cnt A lab q.val : ℕ) : EReal) := by
  rw [v65_def]
  refine (hist_apply V0 A h0 (diff V0) q).trans ?_
  refine congrArg (fun n : ℕ => (n : EReal)) ?_
  unfold cnt cls
  refine Finset.sum_congr rfl fun i _ => Finset.sum_congr rfl fun j _ => ?_
  rw [diff_apply V0 lab h1]
  have hl : (binAt A i j).toNat < 100 := theBin_lt _ _ _
  have hq := q.isLt
  by_cases h : lab i = lab j
  · rw [if_pos h, if_pos h, if_neg (show ¬ (binAt A i j).toNat + 100 = q.val by omega)]
    exact ite_self _
  · rw [if_neg h, if_neg h]
    exact if_congr (by omega) rfl rfl

end Values

end Cert.Proof.IdealRef

end
-- ==== Proof.IdealLoss.lean ====
/-
  At the ideal values: the loss kernel's result, of the counts of the table's columns.
-/
module

public import proofs.«01_k».proof.Proof.IdealDist

@[expose] public section

set_option maxRecDepth 16384

noncomputable section

namespace Cert.Proof.IdealLoss

open Cert.KernelIdeal Cert.KernelIdeal.Gen
open Cert.Proof.Common Cert.Proof.IdealDist
open Idealize.ShloMosaic Idealize.ShloMosaic.TcCoe
open Idealize.ShloMosaic.ValueIdx
open Finset

/-! ## Cumulative shares -/

/-- The cumulative share of the bins up to `q`. -/
def share (P : Fin 100 → ℕ) (q : Fin 100) : EReal :=
  Ideal.div ((∑ p, if p ≤ q then P p else 0 : ℕ) : EReal) ((∑ p, P p : ℕ) : EReal)

/-- The loss of two histograms. -/
def lossOf (P Q : Fin 100 → ℕ) : EReal :=
  Ideal.div (∑ q, max (share P q - share Q q) (-(share P q - share Q q))) (Ideal.ofBits .f32 0x42C80000#32)

theorem coe_nat (n : ℕ) : ((n : ℕ) : EReal) = ((n : ℝ) : EReal) := EReal.coe_natCast.symm

/-- A sum of quotients by the total is the sum's quotient. -/
theorem share_sum (P : Fin 100 → ℕ) (q : Fin 100) :
    (∑ p, if p ≤ q then Ideal.div ((P p : ℕ) : EReal) ((∑ p, P p : ℕ) : EReal) else 0) = share P q := by
  unfold share
  by_cases h : (∑ p, P p) = 0
  · have hp (p : Fin 100) : P p = 0 := (Finset.sum_eq_zero_iff.1 h) p (Finset.mem_univ _)
    have e : (∑ p, if p ≤ q then P p else 0) = 0 := Finset.sum_eq_zero fun p _ => by rw [hp p]; simp
    have d : Ideal.div ((0 : ℕ) : EReal) ((0 : ℕ) : EReal) = ⊥ := by
      simp [Ideal.div]
    rw [h, e, d]
    rw [← Finset.add_sum_erase _ _ (Finset.mem_univ q), if_pos (le_refl q), hp q, d, EReal.bot_add]
  · have hr : ((∑ p, P p : ℕ) : ℝ) ≠ 0 := by exact_mod_cast h
    rw [coe_nat (∑ p, P p), Ideal.div_coe hr]
    generalize ((∑ p, P p : ℕ) : ℝ) = T at hr ⊢
    have e (p : Fin 100) : (if p ≤ q then Ideal.div ((P p : ℕ) : EReal) (T : EReal) else 0) = (((if p ≤ q then (P p : ℝ) else 0) * (1 / T) : ℝ) : EReal) := by
      split
      · rw [Ideal.div_coe hr, coe_nat, EReal.coe_mul]
      · rw [zero_mul, EReal.coe_zero]
    rw [Finset.sum_congr rfl fun p _ => e p]
    have cs (f : Fin 100 → ℝ) : (∑ p, (f p : EReal)) = ((∑ p, f p : ℝ) : EReal) :=
      (map_sum (⟨⟨Real.toEReal, EReal.coe_zero⟩, EReal.coe_add⟩ : ℝ →+ EReal) f Finset.univ).symm
    have e2 (p : Fin 100) : (((if p ≤ q then P p else 0 : ℕ)) : EReal) = (((if p ≤ q then (P p : ℝ) else 0 : ℝ)) : EReal) := by
      split
      · exact coe_nat _
      · rw [Nat.cast_zero, EReal.coe_zero]
    rw [cs, Nat.cast_sum, Finset.sum_congr rfl fun p _ => e2 p, cs, ← EReal.coe_mul, Finset.sum_mul]

/-! ## The loss kernel -/

variable (H : Vec Ideal S2048x256 .f32) (N : ℕ → ℕ)

/-- A column's sum. -/
theorem column_apply (hH : ∀ q : Fin 256, (∑ r : Fin 2048, (H (ix2 r q) : EReal)) = ((N q.val : ℕ) : EReal)) (q : Fin 256) :
    (shapeCast S1x256 (multiReduction (F := Ideal) .add [0] S256 H 0x00000000#32 reduces_S2048x256_S256 (.inl rfl) rfl) shapeCasts_S256_S1x256 (ix2 0 q) : EReal)
      = ((N q.val : ℕ) : EReal) := by
  refine (shapeCast_apply _ shapeCasts_S256_S1x256 (ix2 0 q) (ix1 q) (by
    rw [Shape.rowMajor_val_one, Shape.rowMajor_val_two]; show q.val = 0 * 256 + q.val; omega)).trans ?_
  refine (Ideal.multiReduction_add_single _ _ reduces_S2048x256_S256 _ _ _).trans ?_
  rw [← hH q]
  refine Finset.sum_congr rfl fun r _ => ?_
  have : (reduces_S2048x256_S256.lift (ix1 q : S256.Idx) r : S2048x256.Idx) = ix2 r q := by
    funext a; fin_cases a <;> rfl
  rw [this]
  rfl

/-- Whether one bin is at most another, as a number. -/
theorem upto_apply (p q : Fin 100) :
    (sitofp (F := Ideal) .f32 (extui 32 (cmpi .sle (iota .tc S100x100 32 [0] iota_S100x100_d0_w32) (iota .tc S100x100 32 [1] iota_S100x100_d1_w32)) natLt_1_32) (ix2 p q) : EReal)
      = if p ≤ q then 1 else 0 := by
  have e : ∀ p q : Fin 100, ((IntOp.cmpi .sle (BitVec.ofNat 32 (0 * 100 + p.val)) (BitVec.ofNat 32 (0 * 100 + q.val))).setWidth 32 : BitVec 32) = if p ≤ q then 1#32 else 0#32 := by
    decide +kernel
  have e' : (extui 32 (cmpi .sle (iota .tc S100x100 32 [0] iota_S100x100_d0_w32) (iota .tc S100x100 32 [1] iota_S100x100_d1_w32)) natLt_1_32 (ix2 p q) : BitVec 32)
      = if p ≤ q then 1#32 else 0#32 := e p q
  show (((_ : BitVec 32).toInt : ℝ) : EReal) = _
  rw [e']
  split
  · rw [show (1#32 : BitVec 32).toInt = 1 by decide]; simp
  · rw [show (0#32 : BitVec 32).toInt = 0 by decide]; simp

/-- The sum of a row of 100 numbers, as one number. -/
theorem total_apply (v : FVec Ideal S1x100 .f32) :
    (extractAt ![0, 0, 0] (shapeCast S1x1x1 (multiReduction (F := Ideal) .add [1, 2] S1 (shapeCast S1x1x100 v shapeCasts_S1x100_S1x1x100) 0x00000000#32 reduces_S1x1x100_S1 (.inl rfl) rfl) shapeCasts_S1_S1x1x1) inpos_S1x1x1_p0_0_0 : EReal)
      = ∑ q : Fin 100, (v (ix2 0 q) : EReal) := by
  unfold extractAt
  refine (shapeCast_apply _ shapeCasts_S1_S1x1x1 _ (ix1 0) (by rw [Shape.rowMajor_val_one, Shape.rowMajor_val_three]; rfl)).trans ?_
  refine (Ideal.multiReduction_add_total _ _ reduces_S1x1x100_S1 (by intro b; fin_cases b; rfl) _ _ _).trans ?_
  let e : Fin 100 ≃ S1x1x100.Idx :=
    ⟨fun q => ix3 (0 : Fin 1) (0 : Fin 1) q, fun i => i 2, fun q => rfl, fun i => by
      funext a
      fin_cases a
      · exact Subsingleton.elim (α := Fin 1) _ _
      · exact Subsingleton.elim (α := Fin 1) _ _
      · rfl⟩
  refine (Fintype.sum_equiv e _ _ fun q => ?_).symm
  exact (shapeCast_apply v shapeCasts_S1x100_S1x1x100 (ix3 (0 : Fin 1) (0 : Fin 1) q) (ix2 0 q) (by
    rw [Shape.rowMajor_val_two, Shape.rowMajor_val_three]
    show 0 * 100 + q.val = (0 * 1 + 0) * 100 + q.val
    omega)).symm

/-- The cumulative sum of a row of counts. -/
theorem cumul_apply (v : FVec Ideal S1x100 .f32) (P : Fin 100 → ℕ) (hv : ∀ q, (v (ix2 0 q) : EReal) = ((P q : ℕ) : EReal)) (q : Fin 100) :
    (matmul (F := Ideal) (φ₁ := .f32) (φ₂ := .f32) dot_S1x100_S100x100_S1x100_1_0_0_1_n_n (some .fp32) v
      (sitofp (F := Ideal) .f32 (extui 32 (cmpi .sle (iota .tc S100x100 32 [0] iota_S100x100_d0_w32) (iota .tc S100x100 32 [1] iota_S100x100_d1_w32)) natLt_1_32))
      (constant S1x100 .f32 0x00000000#32) (ix2 0 q) : EReal) = ((∑ p, if p ≤ q then P p else 0 : ℕ) : EReal) := by
  refine (Ideal.matmul_plain_apply (M := 1) (K := 100) (N := 100) (φ₁ := .f32) (φ₂ := .f32) (some .fp32) v _ (constant S1x100 .f32 0x00000000#32) 0 q).trans ?_
  show Ideal.ofBits .f32 0x00000000#32 + _ = _
  rw [Ideal.ofBits_zero_f32, zero_add, Nat.cast_sum]
  refine Finset.sum_congr rfl fun p _ => ?_
  rw [hv, upto_apply]
  split
  · rw [mul_one]
  · rw [mul_zero, Nat.cast_zero]

/-- A half of the row of column sums. -/
theorem low_apply (v : FVec Ideal S1x256 .f32) (q : Fin 100) :
    (extractStridedSlice S1x100 ![0, 0] v slices_S1x256_o0_0_S1x100 (ix2 0 q) : EReal) = v (ix2 0 (⟨q.val, by omega⟩ : Fin 256)) :=
  extractStridedSlice_apply _ v slices_S1x256_o0_0_S1x100 (ix2 0 q) (ix2 0 (⟨q.val, by omega⟩ : Fin 256)) (by
    intro a
    fin_cases a
    · rfl
    · show q.val = 0 + q.val; omega)
theorem high_apply (v : FVec Ideal S1x256 .f32) (q : Fin 100) :
    (extractStridedSlice S1x100 ![0, 100] v slices_S1x256_o0_100_S1x100 (ix2 0 q) : EReal) = v (ix2 0 (⟨100 + q.val, by omega⟩ : Fin 256)) :=
  extractStridedSlice_apply _ v slices_S1x256_o0_100_S1x100 (ix2 0 q) (ix2 0 (⟨100 + q.val, by omega⟩ : Fin 256)) (by
    intro a
    fin_cases a
    · rfl
    · rfl)

/-- The loss kernel's result. -/
theorem loss_eq (hH : ∀ q : Fin 256, (∑ r : Fin 2048, (H (ix2 r q) : EReal)) = ((N q.val : ℕ) : EReal)) :
    (k2_pay1 (F := Ideal) H : EReal) = lossOf (fun q => N (100 + q.val)) (fun q => N q.val) := by
  unfold k2_pay1
  simp only [shapeCast_self]
  have hlo (q : Fin 100) := (low_apply (shapeCast S1x256 (multiReduction (F := Ideal) .add [0] S256 H 0x00000000#32 reduces_S2048x256_S256 (.inl rfl) rfl) shapeCasts_S256_S1x256) q).trans
    (column_apply H N hH (⟨q.val, by omega⟩ : Fin 256))
  have hhi (q : Fin 100) := (high_apply (shapeCast S1x256 (multiReduction (F := Ideal) .add [0] S256 H 0x00000000#32 reduces_S2048x256_S256 (.inl rfl) rfl) shapeCasts_S256_S1x256) q).trans
    (column_apply H N hH (⟨100 + q.val, by omega⟩ : Fin 256))
  generalize extractStridedSlice S1x100 ![0, 0] (shapeCast S1x256 (multiReduction (F := Ideal) .add [0] S256 H 0x00000000#32 reduces_S2048x256_S256 (.inl rfl) rfl) shapeCasts_S256_S1x256) slices_S1x256_o0_0_S1x100 = lo at hlo ⊢
  generalize extractStridedSlice S1x100 ![0, 100] (shapeCast S1x256 (multiReduction (F := Ideal) .add [0] S256 H 0x00000000#32 reduces_S2048x256_S256 (.inl rfl) rfl) shapeCasts_S256_S1x256) slices_S1x256_o0_100_S1x100 = hi at hhi ⊢
  have clo := cumul_apply lo (fun q => N q.val) hlo
  have chi := cumul_apply hi (fun q => N (100 + q.val)) hhi
  have tlo : _ = ((∑ p : Fin 100, N p.val : ℕ) : EReal) := (total_apply lo).trans (by rw [Nat.cast_sum]; exact Finset.sum_congr rfl fun q _ => hlo q)
  have thi : _ = ((∑ p : Fin 100, N (100 + p.val) : ℕ) : EReal) := (total_apply hi).trans (by rw [Nat.cast_sum]; exact Finset.sum_congr rfl fun q _ => hhi q)
  show Ideal.div _ (Ideal.ofBits .f32 0x42C80000#32) = _
  unfold lossOf
  refine congrArg (fun z => Ideal.div z (Ideal.ofBits .f32 0x42C80000#32)) ?_
  refine (total_apply _).trans (Finset.sum_congr rfl fun q _ => ?_)
  have s1 : ∀ a b c d : EReal, a = c → b = d → max (a - b) (-(a - b)) = max (c - d) (-(c - d)) := by
    rintro a b c d rfl rfl; rfl
  refine s1 _ _ _ _ ?_ ?_
  · exact congr (congrArg Ideal.div (chi q)) thi
  · exact congr (congrArg Ideal.div (clo q)) tlo

end Cert.Proof.IdealLoss

end
-- ==== Proof.IdealRefLoss.lean ====
/-
  At the ideal values: the reference's loss of its two histograms.
-/
module

public import proofs.«01_k».proof.Proof.IdealRef
public import proofs.«01_k».proof.Proof.IdealLoss

@[expose] public section

noncomputable section

namespace Cert.Proof.IdealRefLoss

open Cert.ReferenceIdeal Cert.ReferenceIdeal.Gen Cert.ReferenceIdeal.Value
open Cert.Proof.IdealLoss
open Idealize.ShloMosaic Idealize.ShloMosaic.TcCoe
open Idealize.ShloMosaic.ValueIdx

/-- Adding along a list. -/
theorem foldl_sum {α : Type} (G : α → EReal) (l : List α) (v : EReal) : l.foldl (fun r n => r + G n) v = v + (l.map G).sum := by
  induction l generalizing v with
  | nil => simp
  | cons a l ih => rw [List.foldl_cons, ih, List.map_cons, List.sum_cons, add_assoc]

/-- The bins' indices. -/
def binsIdx : Fin 100 ≃ S100.Idx where
  toFun p := ix1 p
  invFun g := g 0
  left_inv _ := rfl
  right_inv g := by funext a; fin_cases a; rfl

theorem sum_bins (f : S100.Idx → EReal) : ∑ g, f g = ∑ p : Fin 100, f (ix1 p) := (Equiv.sum_comp binsIdx f).symm

/-- The cumulative sums. -/
theorem window_eq (x : FVec Ideal S100 .f32) (v : FVec Ideal S_ .f32) (hv : ∀ z, (v z : EReal) = 0) (j : Fin 100) :
    (Host.reduceWindowAdd (F := Ideal) (φ := .f32) ![100] ![1] ![99] ![0] x v reduceWindows_S100_S100_w100s1p99_0 h_S_ (ix1 j) : EReal)
      = ∑ p : Fin 100, if p ≤ j then (x (ix1 p) : EReal) else 0 := by
  let G : S100.Idx → EReal := fun w =>
    if hin : ∀ a : Fin S100.rank, (![99] : Fin 1 → ℕ) a ≤ ((ix1 j : S100.Idx) a).val * (![1] : Fin 1 → ℕ) a + (w a).val
      ∧ ((ix1 j : S100.Idx) a).val * (![1] : Fin 1 → ℕ) a + (w a).val - (![99] : Fin 1 → ℕ) a < S100.size a
    then x (fun a => ⟨((ix1 j : S100.Idx) a).val * (![1] : Fin 1 → ℕ) a + (w a).val - (![99] : Fin 1 → ℕ) a, (hin a).2⟩) else 0
  have step : (Host.reduceWindowAdd (F := Ideal) (φ := .f32) ![100] ![1] ![99] ![0] x v reduceWindows_S100_S100_w100s1p99_0 h_S_ (ix1 j) : EReal)
      = (List.finRange S100.numel).foldl (fun r n => r + G (S100.rowMajor.symm n)) 0 := by
    have hv' : v = fun _ => (0 : EReal) := funext hv
    subst hv'
    show Ideal.hostReduceWindowAdd ![100] ![1] ![99] ![0] reduceWindows_S100_S100_w100s1p99_0 x 0 (ix1 j) = _
    unfold Ideal.hostReduceWindowAdd Host.reduceWindow
    refine congrArg (fun f => List.foldl f (0 : EReal) (List.finRange S100.numel)) ?_
    funext r n
    refine congrArg (fun z => r + z) ?_
    show _ = dite _ _ _
    congr
  rw [step, foldl_sum, zero_add, ← Fin.sum_univ_def, Equiv.sum_comp S100.rowMajor.symm G, sum_bins,
    ← Equiv.sum_comp (Equiv.addRight (j + 1)) (fun p : Fin 100 => if p ≤ j then (x (ix1 p) : EReal) else 0)]
  refine Finset.sum_congr rfl fun w _ => ?_
  have hval : ((w + (j + 1) : Fin 100)).val = (w.val + (j.val + 1)) % 100 := by
    rw [Fin.val_add, Fin.val_add]
    show (w.val + (j.val + 1) % 100) % 100 = _
    omega
  have hw := w.isLt
  have hj := j.isLt
  show (if hin : ∀ a : Fin S100.rank, _ then _ else _) = if (w + (j + 1) : Fin 100) ≤ j then (x (ix1 (w + (j + 1))) : EReal) else 0
  by_cases h : 99 ≤ j.val + w.val
  · rw [if_pos (by rw [Fin.le_def, hval]; omega)]
    refine (dif_pos (fun a => ?_)).trans (congrArg x ?_)
    · fin_cases a
      show 99 ≤ j.val * 1 + w.val ∧ j.val * 1 + w.val - 99 < 100
      omega
    · funext a
      fin_cases a
      refine Fin.ext ?_
      show j.val * 1 + w.val - 99 = (w + (j + 1) : Fin 100).val
      rw [hval]; omega
  · rw [if_neg (by rw [Fin.le_def, hval]; omega)]
    refine dif_neg (fun hin => h ?_)
    have := (hin 0).1
    have : 99 ≤ j.val * 1 + w.val := this
    omega

/-- The sum of a histogram. -/
theorem total_eq (x : FVec Ideal S100 .f32) (j : S_.Idx) :
    (Host.reduceAdd (F := Ideal) (φ := .f32) x (constant S_ .f32 0x00000000#32) reducesTo_S100_S_d0 h_S_ j : EReal) = ∑ p : Fin 100, (x (ix1 p) : EReal) := by
  refine (Ideal.hostReduceAdd_total reducesTo_S100_S_d0 (fun b => b.elim0) x (Ideal.ofBits .f32 0x00000000#32) j).trans ?_
  rw [Ideal.ofBits_zero_f32, zero_add]
  exact sum_bins x

/-- The cumulative shares of a histogram. -/
def cum (x : FVec Ideal S100 .f32) : FVec Ideal S100 .f32 :=
  Host.reduceWindowAdd (F := Ideal) (φ := .f32) ![100] ![1] ![99] ![0] (Host.divf x (broadcastInDim S100 ![] bcast_S_S100 (Host.reduceAdd x (constant S_ .f32 0x00000000#32) reducesTo_S100_S_d0 h_S_))) (broadcastInDim S_ ![] bcast_S_S_ (constant S_ .f32 0x00000000#32)) reduceWindows_S100_S100_w100s1p99_0 h_S_

theorem cum_apply (x : FVec Ideal S100 .f32) (P : Fin 100 → ℕ) (hx : ∀ q, (x (ix1 q) : EReal) = ((P q : ℕ) : EReal)) (q : Fin 100) :
    (cum x (ix1 q) : EReal) = share P q := by
  unfold cum
  rw [window_eq _ _ (fun z => (broadcastInDim_scalar_apply bcast_S_S_ (constant (F := Ideal) S_ .f32 0x00000000#32) z).trans Ideal.ofBits_zero_f32), ← share_sum]
  refine Finset.sum_congr rfl fun p _ => ?_
  refine if_congr Iff.rfl ?_ rfl
  refine (congrArg₂ Ideal.div (hx p) ((broadcastInDim_scalar_apply bcast_S_S100 _ (ix1 p)).trans ((total_eq x ix0).trans ?_)))
  rw [Finset.sum_congr rfl fun p _ => hx p, Nat.cast_sum]

/-- The reference's loss of two histograms. -/
def lossArr (x y : FVec Ideal S100 .f32) : FVec Ideal S_ .f32 :=
  Host.divf (Host.reduceAdd (Host.absf (subf (cum x) (cum y))) (constant S_ .f32 0x00000000#32) reducesTo_S100_S_d0 h_S_) (constant S_ .f32 0x42C80000#32)

theorem lossArr_apply (x y : FVec Ideal S100 .f32) (P Q : Fin 100 → ℕ) (hx : ∀ q, (x (ix1 q) : EReal) = ((P q : ℕ) : EReal))
    (hy : ∀ q, (y (ix1 q) : EReal) = ((Q q : ℕ) : EReal)) (j : S_.Idx) : (lossArr x y j : EReal) = lossOf P Q := by
  unfold lossArr lossOf
  refine congrArg₂ Ideal.div ((total_eq _ j).trans (Finset.sum_congr rfl fun q _ => ?_)) rfl
  show max ((cum x (ix1 q) : EReal) - cum y (ix1 q)) (-((cum x (ix1 q) : EReal) - cum y (ix1 q))) = _
  rw [cum_apply x P hx, cum_apply y Q hy]

end Cert.Proof.IdealRefLoss
-- ==== Proof.Algebraic.lean ====
/-
  At the ideal values, of finite features: the program and the reference end with the same loss.
-/
module

public import proofs.«01_k».proof.Defs
public import proofs.«01_k».proof.Proof.Whole
public import proofs.«01_k».proof.Proof.IdealRefLoss
public import Idealize.ShloMosaic.Lib.ReduceAll

@[expose] public section

noncomputable section

namespace Cert.Proof.Algebraic

open Cert.Proof.Main Cert.Proof.IdealCount Cert.Proof.IdealLoss Cert.Proof.IdealRef Cert.Proof.IdealRefLoss
open Idealize.ShloMosaic Idealize.ShloMosaic.TcCoe
open Idealize.ShloMosaic.ValueIdx
open Idealize.ShloMosaic.StableHlo
open Idealize.SL.Sem

/-! ## Finite features -/

/-- The precondition's side conditions. -/
theorem finiteFacts : Cert.Pre_finite.Facts where
  bcast_S_S4096x32 := by decide
  reducesTo_S4096x32_S_d0_1 := by decide
  h_S_ := by decide

/-- A value below the top in absolute value is a real number. -/
theorem real_of_lt (x : EReal) (h : max x (-x) < ⊤) : x = ((x.toReal : ℝ) : EReal) := by
  refine (EReal.coe_toReal ?_ ?_).symm
  · rintro rfl
    exact absurd h (by simp)
  · rintro rfl
    exact absurd h (by simp)

/-- The precondition makes every feature a real number. -/
theorem real_of_finite (x : FVec Ideal Cert.Pre_finite.S4096x32 .f32) (y : IVec Cert.Pre_finite.S4096 32)
    (h : @Cert.Pre_finite.fn finiteFacts Ideal _ x y = fun _ => 1#1) (i : Fin 4096) (k : Fin 32) :
    (x (ix2 i k) : EReal) = (((x (ix2 i k) : EReal).toReal : ℝ) : EReal) := by
  refine real_of_lt _ ?_
  haveI : Subsingleton Cert.Pre_finite.S_.Idx := ⟨fun a b => funext fun c => c.elim0⟩
  have e := Host.reduce_andi_all _ _ _ _ ix0 (congrFun h ix0) (ix2 i k)
  have e' : Ideal.cmp .olt (max (x (ix2 i k) : EReal) (-(x (ix2 i k)))) (Ideal.ofBits .f32 0x7F800000#32) = 1#1 := e
  rw [IdealDist.top_f32] at e'
  by_contra hn
  have : Ideal.cmp .olt (max (x (ix2 i k) : EReal) (-(x (ix2 i k)))) ⊤ = 0#1 := by
    show BitVec.ofBool (decide _) = 0#1
    rw [decide_eq_false hn]; rfl
  rw [this] at e'
  exact absurd e' (by decide)

/-! ## The program's loss -/

section Kernel

open Cert.KernelIdeal Cert.KernelIdeal.Gen

variable (m : (ℓ : Loc nD τ sig) → Buf (Elt Ideal) ℓ) (c : Dev nD) (A : Fin 4096 → Fin 32 → ℝ) (lab : Fin 4096 → BitVec 32)

theorem kernel_loss (h0 : ∀ i k, (m ((c.tc : Thread nD τ).loc main_arg0) : S4096x32.Idx → EReal) (ix2 i k) = (A i k : EReal))
    (h1 : ∀ i, (m ((c.tc : Thread nD τ).loc main_arg1) : S4096.Idx → BitVec 32) (ix1 i) = lab i) :
    (out m c : S_.Idx → EReal) = fun _ => lossOf (fun q => cnt A lab (100 + q.val)) (fun q => cnt A lab q.val) := by
  funext j
  refine loss_eq (H m c) (cnt A lab) (fun q => ?_)
  refine column_cnt A lab (U1 m) c ?_ ?_ ?_ ?_ (v12_eq m c) q
  · intro i k
    exact (congrFun (Host.arg0_after (V0 m c)) (ix2 i k)).trans (h0 i k)
  · intro i k
    refine (congrFun (Host.v0_after (V0 m c)) (ix2 k i)).trans ?_
    exact (transpose_apply [1, 0] _ transposes_S4096x32_S32x4096_1_0 (ix2 k i) (ix2 i k) (by intro b; fin_cases b <;> rfl)).trans (h0 i k)
  · intro i
    refine (congrFun (Host.v1_after (V0 m c)) (ix2 i 0)).trans ?_
    exact (shapeCast_apply _ shapeCasts_S4096_S4096x1 (ix2 i 0) (ix1 i) (by
      rw [Shape.rowMajor_val_one, Shape.rowMajor_val_two]; show i.val = i.val * 1 + 0; omega)).trans (h1 i)
  · intro i
    refine (congrFun (Host.v2_after (V0 m c)) (ix2 0 i)).trans ?_
    exact (shapeCast_apply _ shapeCasts_S4096_S1x4096 (ix2 0 i) (ix1 i) (by
      rw [Shape.rowMajor_val_one, Shape.rowMajor_val_two]; show i.val = 0 * 4096 + i.val; omega)).trans (h1 i)

end Kernel

/-! ## The reference's loss -/

section Reference

open Cert.ReferenceIdeal Cert.ReferenceIdeal.Gen Cert.ReferenceIdeal.Value

theorem reference_loss (V : Valuation τ sig (Elt Ideal)) (A : Fin 4096 → Fin 32 → ℝ) (lab : Fin 4096 → BitVec 32)
    (h0 : ∀ i k, feat V (ix2 i k) = (A i k : EReal)) (h1 : ∀ i, labels V (ix1 i) = lab i) :
    (lossArr (res_main_v57 V) (res_main_v65 V) : S_.Idx → EReal) = fun _ => lossOf (fun q => cnt A lab (100 + q.val)) (fun q => cnt A lab q.val) := by
  funext j
  exact lossArr_apply _ _ _ _ (v57_apply V A lab h0 h1) (v65_apply V A lab h0 h1) j

/-- The reference's run. -/
theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = lossArr (res_main_v57 (launchContents m c)) (res_main_v65 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Reference

/-! ## The same loss -/

theorem algebraic : Cert.algebraic_KernelIdeal_ReferenceIdeal_pre_finite (hPre_finite := finiteFacts) := fun m g m' g' hp hagree => by
  let A (c : Dev Cert.KernelIdeal.nD) (i : Fin 4096) (k : Fin 32) : ℝ :=
    ((m ((c.tc : Thread Cert.KernelIdeal.nD Cert.KernelIdeal.τ).loc Cert.KernelIdeal.main_arg0) : Cert.KernelIdeal.S4096x32.Idx → EReal) (ix2 i k)).toReal
  let lab (c : Dev Cert.KernelIdeal.nD) (i : Fin 4096) : BitVec 32 :=
    (m ((c.tc : Thread Cert.KernelIdeal.nD Cert.KernelIdeal.τ).loc Cert.KernelIdeal.main_arg1) : Cert.KernelIdeal.S4096.Idx → BitVec 32) (ix1 i)
  have h0 (c : Dev Cert.KernelIdeal.nD) (i : Fin 4096) (k : Fin 32) := real_of_finite _ _ (hp c) i k
  refine ⟨fun c _ => lossOf (fun q => cnt (A c) (lab c) (100 + q.val)) (fun q => cnt (A c) (lab c) q.val), ?_, ?_⟩
  · refine (θ_run _ _ _).mono (fun r h c => ⟨?_, (h.1 c).1, (h.1 c).2.1⟩) (Cert.Proof.Whole.run_main (F := Ideal) m g)
    exact (h.1 c).2.2.trans (kernel_loss m c (A c) (lab c) (h0 c) (fun _ => rfl))
  · refine (θ_run _ _ _).mono (fun r h c => ⟨?_, (h c).2⟩) (run_loss m' g')
    refine (h c).1.trans (reference_loss (launchContents m' c) (A c) (lab c) (fun i k => ?_) (fun i => ?_))
    · exact (congrFun (hagree c).1 (ix2 i k)).trans (h0 c i k)
    · exact congrFun (hagree c).2 (ix1 i)

end Cert.Proof.Algebraic
-- ==== Proof.lean ====
/-
  The claims: the frames of the three programs, that the idealization keeps the program, and that the
  program and the reference end with the same loss.
-/
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Algebraic.finiteFacts,
    Frames.frame_kernel, Frames.frame_kernelIdeal, fun m g _ => Frames.frame_kernelIdeal m g trivial,
    Frames.frame_referenceIdeal, fun m g _ => Frames.frame_referenceIdeal m g trivial, Frames.preserves, Algebraic.algebraic⟩

end Cert.Proof

end
